-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x384x32x32 : Shape := ⟨4, ![8, 384, 32, 32]⟩
abbrev S384 : Shape := ⟨1, ![384]⟩
abbrev S1536x384 : Shape := ⟨2, ![1536, 384]⟩
abbrev S768x1x3x3 : Shape := ⟨4, ![768, 1, 3, 3]⟩
abbrev S768 : Shape := ⟨1, ![768]⟩
abbrev S4x32x768 : Shape := ⟨3, ![4, 32, 768]⟩
abbrev S4x768x24 : Shape := ⟨3, ![4, 768, 24]⟩
abbrev S4x768 : Shape := ⟨2, ![4, 768]⟩
abbrev S4x768x4 : Shape := ⟨3, ![4, 768, 4]⟩
abbrev S384x768 : Shape := ⟨2, ![384, 768]⟩
abbrev S1536 : Shape := ⟨1, ![1536]⟩
abbrev S384x1536 : Shape := ⟨2, ![384, 1536]⟩
abbrev S8x32x32x384 : Shape := ⟨4, ![8, 32, 32, 384]⟩
abbrev S8x1024x384 : Shape := ⟨3, ![8, 1024, 384]⟩
abbrev S_ : Shape := ⟨0, ![]⟩
abbrev S16x768 : Shape := ⟨2, ![16, 768]⟩
abbrev S768x9 : Shape := ⟨2, ![768, 9]⟩
abbrev S9x768 : Shape := ⟨2, ![9, 768]⟩
abbrev S1 : Shape := ⟨1, ![1]⟩
abbrev S1x384 : Shape := ⟨2, ![1, 384]⟩
abbrev S1x768 : Shape := ⟨2, ![1, 768]⟩
abbrev S2x8x1024x768 : Shape := ⟨4, ![2, 8, 1024, 768]⟩
abbrev S8x1024x768 : Shape := ⟨3, ![8, 1024, 768]⟩
abbrev S1x1024x384 : Shape := ⟨3, ![1, 1024, 384]⟩
abbrev S2x1x1024x768 : Shape := ⟨4, ![2, 1, 1024, 768]⟩
abbrev S1x1024x768 : Shape := ⟨3, ![1, 1024, 768]⟩
abbrev S34x34x768 : Shape := ⟨3, ![34, 34, 768]⟩
abbrev S1024x384 : Shape := ⟨2, ![1024, 384]⟩
abbrev S1024 : Shape := ⟨1, ![1024]⟩
abbrev S1024x1 : Shape := ⟨2, ![1024, 1]⟩
abbrev S1024x1536 : Shape := ⟨2, ![1024, 1536]⟩
abbrev S1024x768 : Shape := ⟨2, ![1024, 768]⟩
abbrev S32x32x768 : Shape := ⟨3, ![32, 32, 768]⟩
abbrev S1x1x768 : Shape := ⟨3, ![1, 1, 768]⟩
abbrev S1x1x1024x768 : Shape := ⟨4, ![1, 1, 1024, 768]⟩
abbrev S4x24x768 : Shape := ⟨3, ![4, 24, 768]⟩
abbrev S2x768x24 : Shape := ⟨3, ![2, 768, 24]⟩
abbrev S2x1x768x24 : Shape := ⟨4, ![2, 1, 768, 24]⟩
abbrev S2x2x768x24 : Shape := ⟨4, ![2, 2, 768, 24]⟩
abbrev S4x8x768 : Shape := ⟨3, ![4, 8, 768]⟩
abbrev S4x768x8 : Shape := ⟨3, ![4, 768, 8]⟩
abbrev S2x768x8 : Shape := ⟨3, ![2, 768, 8]⟩
abbrev S2x1x768x8 : Shape := ⟨4, ![2, 1, 768, 8]⟩
abbrev S2x2x768x8 : Shape := ⟨4, ![2, 2, 768, 8]⟩
abbrev S2x24x768 : Shape := ⟨3, ![2, 24, 768]⟩
abbrev S2x1x24x768 : Shape := ⟨4, ![2, 1, 24, 768]⟩
abbrev S2x2x24x768 : Shape := ⟨4, ![2, 2, 24, 768]⟩
abbrev S4x4x768 : Shape := ⟨3, ![4, 4, 768]⟩
abbrev S2x4x768 : Shape := ⟨3, ![2, 4, 768]⟩
abbrev S2x1x4x768 : Shape := ⟨4, ![2, 1, 4, 768]⟩
abbrev S2x2x4x768 : Shape := ⟨4, ![2, 2, 4, 768]⟩
abbrev S2x768 : Shape := ⟨2, ![2, 768]⟩
abbrev S2x1x768 : Shape := ⟨3, ![2, 1, 768]⟩
abbrev S2x2x768 : Shape := ⟨3, ![2, 2, 768]⟩
abbrev S2x2x1x768 : Shape := ⟨4, ![2, 2, 1, 768]⟩
abbrev S4x8x1024x768 : Shape := ⟨4, ![4, 8, 1024, 768]⟩
abbrev S1x8x256x768 : Shape := ⟨4, ![1, 8, 256, 768]⟩
abbrev S1x1x768x24 : Shape := ⟨4, ![1, 1, 768, 24]⟩
abbrev S1x1x768x8 : Shape := ⟨4, ![1, 1, 768, 8]⟩
abbrev S1x1x24x768 : Shape := ⟨4, ![1, 1, 24, 768]⟩
abbrev S1x1x1x768 : Shape := ⟨4, ![1, 1, 1, 768]⟩
abbrev S1x1x4x768 : Shape := ⟨4, ![1, 1, 4, 768]⟩
abbrev S256x8x768 : Shape := ⟨3, ![256, 8, 768]⟩
abbrev S256x8x8 : Shape := ⟨3, ![256, 8, 8]⟩
abbrev S8x256x768 : Shape := ⟨3, ![8, 256, 768]⟩
abbrev S2048x768 : Shape := ⟨2, ![2048, 768]⟩
abbrev S768x24 : Shape := ⟨2, ![768, 24]⟩
abbrev S2048x24 : Shape := ⟨2, ![2048, 24]⟩
abbrev S24x768 : Shape := ⟨2, ![24, 768]⟩
abbrev S768x8 : Shape := ⟨2, ![768, 8]⟩
abbrev S2048x8 : Shape := ⟨2, ![2048, 8]⟩
abbrev S1x8x768 : Shape := ⟨3, ![1, 8, 768]⟩
abbrev S8x768 : Shape := ⟨2, ![8, 768]⟩
abbrev S1x8x8 : Shape := ⟨3, ![1, 8, 8]⟩
abbrev S8x8 : Shape := ⟨2, ![8, 8]⟩
abbrev S8x1 : Shape := ⟨2, ![8, 1]⟩
abbrev S768x384 : Shape := ⟨2, ![768, 384]⟩
abbrev S1x1536 : Shape := ⟨2, ![1, 1536]⟩
abbrev S4x1x1024x768 : Shape := ⟨4, ![4, 1, 1024, 768]⟩

abbrev nBuf : Space → Nat
  | .hbm => 85
  | .vmem => 50
  | .smem => 0
  | _ => 0

abbrev bufTy : (tb : Table) → Fin (tcTables nBuf tb) → BufTy
  | .hbm, ⟨0, _⟩ => ⟨S8x384x32x32, .f32⟩
  | .hbm, ⟨1, _⟩ => ⟨S384, .f32⟩
  | .hbm, ⟨2, _⟩ => ⟨S384, .f32⟩
  | .hbm, ⟨3, _⟩ => ⟨S1536x384, .f32⟩
  | .hbm, ⟨4, _⟩ => ⟨S768x1x3x3, .f32⟩
  | .hbm, ⟨5, _⟩ => ⟨S768, .f32⟩
  | .hbm, ⟨6, _⟩ => ⟨S4x32x768, .f32⟩
  | .hbm, ⟨7, _⟩ => ⟨S4x768x24, .f32⟩
  | .hbm, ⟨8, _⟩ => ⟨S4x768, .f32⟩
  | .hbm, ⟨9, _⟩ => ⟨S4x768x4, .f32⟩
  | .hbm, ⟨10, _⟩ => ⟨S4x768, .f32⟩
  | .hbm, ⟨11, _⟩ => ⟨S768, .f32⟩
  | .hbm, ⟨12, _⟩ => ⟨S768, .f32⟩
  | .hbm, ⟨13, _⟩ => ⟨S384x768, .f32⟩
  | .hbm, ⟨14, _⟩ => ⟨S384, .f32⟩
  | .hbm, ⟨15, _⟩ => ⟨S384, .f32⟩
  | .hbm, ⟨16, _⟩ => ⟨S1536x384, .f32⟩
  | .hbm, ⟨17, _⟩ => ⟨S1536, .f32⟩
  | .hbm, ⟨18, _⟩ => ⟨S384x1536, .f32⟩
  | .hbm, ⟨19, _⟩ => ⟨S384, .f32⟩
  | .hbm, ⟨20, _⟩ => ⟨S8x32x32x384, .f32⟩
  | .hbm, ⟨21, _⟩ => ⟨S8x1024x384, .f32⟩
  | .hbm, ⟨22, _⟩ => ⟨S_, .f32⟩
  | .hbm, ⟨23, _⟩ => ⟨S16x768, .f32⟩
  | .hbm, ⟨24, _⟩ => ⟨S768x9, .f32⟩
  | .hbm, ⟨25, _⟩ => ⟨S9x768, .f32⟩
  | .hbm, ⟨26, _⟩ => ⟨S_, .i32⟩
  | .hbm, ⟨27, _⟩ => ⟨S1, .i32⟩
  | .hbm, ⟨28, _⟩ => ⟨S16x768, .f32⟩
  | .hbm, ⟨29, _⟩ => ⟨S1x384, .f32⟩
  | .hbm, ⟨30, _⟩ => ⟨S1x384, .f32⟩
  | .hbm, ⟨31, _⟩ => ⟨S384x1536, .f32⟩
  | .hbm, ⟨32, _⟩ => ⟨S1x768, .f32⟩
  | .hbm, ⟨33, _⟩ => ⟨S2x8x1024x768, .f32⟩
  | .hbm, ⟨34, _⟩ => ⟨S8x1024x768, .f32⟩
  | .hbm, ⟨35, _⟩ => ⟨S4x24x768, .f32⟩
  | .hbm, ⟨36, _⟩ => ⟨S4x768x24, .f32⟩
  | .hbm, ⟨37, _⟩ => ⟨S2x768x24, .f32⟩
  | .hbm, ⟨38, _⟩ => ⟨S2x768x24, .f32⟩
  | .hbm, ⟨39, _⟩ => ⟨S2x1x768x24, .f32⟩
  | .hbm, ⟨40, _⟩ => ⟨S2x1x768x24, .f32⟩
  | .hbm, ⟨41, _⟩ => ⟨S2x2x768x24, .f32⟩
  | .hbm, ⟨42, _⟩ => ⟨S4x8x768, .f32⟩
  | .hbm, ⟨43, _⟩ => ⟨S4x768x8, .f32⟩
  | .hbm, ⟨44, _⟩ => ⟨S2x768x8, .f32⟩
  | .hbm, ⟨45, _⟩ => ⟨S2x768x8, .f32⟩
  | .hbm, ⟨46, _⟩ => ⟨S2x1x768x8, .f32⟩
  | .hbm, ⟨47, _⟩ => ⟨S2x1x768x8, .f32⟩
  | .hbm, ⟨48, _⟩ => ⟨S2x2x768x8, .f32⟩
  | .hbm, ⟨49, _⟩ => ⟨S4x24x768, .f32⟩
  | .hbm, ⟨50, _⟩ => ⟨S2x24x768, .f32⟩
  | .hbm, ⟨51, _⟩ => ⟨S2x24x768, .f32⟩
  | .hbm, ⟨52, _⟩ => ⟨S2x1x24x768, .f32⟩
  | .hbm, ⟨53, _⟩ => ⟨S2x1x24x768, .f32⟩
  | .hbm, ⟨54, _⟩ => ⟨S2x2x24x768, .f32⟩
  | .hbm, ⟨55, _⟩ => ⟨S4x4x768, .f32⟩
  | .hbm, ⟨56, _⟩ => ⟨S2x4x768, .f32⟩
  | .hbm, ⟨57, _⟩ => ⟨S2x4x768, .f32⟩
  | .hbm, ⟨58, _⟩ => ⟨S2x1x4x768, .f32⟩
  | .hbm, ⟨59, _⟩ => ⟨S2x1x4x768, .f32⟩
  | .hbm, ⟨60, _⟩ => ⟨S2x2x4x768, .f32⟩
  | .hbm, ⟨61, _⟩ => ⟨S2x768, .f32⟩
  | .hbm, ⟨62, _⟩ => ⟨S2x768, .f32⟩
  | .hbm, ⟨63, _⟩ => ⟨S2x1x768, .f32⟩
  | .hbm, ⟨64, _⟩ => ⟨S2x1x768, .f32⟩
  | .hbm, ⟨65, _⟩ => ⟨S2x2x768, .f32⟩
  | .hbm, ⟨66, _⟩ => ⟨S2x2x1x768, .f32⟩
  | .hbm, ⟨67, _⟩ => ⟨S2x768, .f32⟩
  | .hbm, ⟨68, _⟩ => ⟨S2x768, .f32⟩
  | .hbm, ⟨69, _⟩ => ⟨S2x1x768, .f32⟩
  | .hbm, ⟨70, _⟩ => ⟨S2x1x768, .f32⟩
  | .hbm, ⟨71, _⟩ => ⟨S2x2x768, .f32⟩
  | .hbm, ⟨72, _⟩ => ⟨S2x2x1x768, .f32⟩
  | .hbm, ⟨73, _⟩ => ⟨S4x8x1024x768, .f32⟩
  | .hbm, ⟨74, _⟩ => ⟨S1x768, .f32⟩
  | .hbm, ⟨75, _⟩ => ⟨S1x768, .f32⟩
  | .hbm, ⟨76, _⟩ => ⟨S768x384, .f32⟩
  | .hbm, ⟨77, _⟩ => ⟨S1x384, .f32⟩
  | .hbm, ⟨78, _⟩ => ⟨S1x384, .f32⟩
  | .hbm, ⟨79, _⟩ => ⟨S384x1536, .f32⟩
  | .hbm, ⟨80, _⟩ => ⟨S1x1536, .f32⟩
  | .hbm, ⟨81, _⟩ => ⟨S1536x384, .f32⟩
  | .hbm, ⟨82, _⟩ => ⟨S1x384, .f32⟩
  | .hbm, ⟨83, _⟩ => ⟨S8x1024x384, .f32⟩
  | .hbm, ⟨84, _⟩ => ⟨S8x32x32x384, .f32⟩
  | .local _ .vmem, ⟨0, _⟩ => ⟨S1x1024x384, .f32⟩
  | .local _ .vmem, ⟨1, _⟩ => ⟨S1x1024x384, .f32⟩
  | .local _ .vmem, ⟨2, _⟩ => ⟨S1x384, .f32⟩
  | .local _ .vmem, ⟨3, _⟩ => ⟨S1x384, .f32⟩
  | .local _ .vmem, ⟨4, _⟩ => ⟨S384x1536, .f32⟩
  | .local _ .vmem, ⟨5, _⟩ => ⟨S16x768, .f32⟩
  | .local _ .vmem, ⟨6, _⟩ => ⟨S1x768, .f32⟩
  | .local _ .vmem, ⟨7, _⟩ => ⟨S2x1x1024x768, .f32⟩
  | .local _ .vmem, ⟨8, _⟩ => ⟨S2x1x1024x768, .f32⟩
  | .local _ .vmem, ⟨9, _⟩ => ⟨S1x1024x768, .f32⟩
  | .local _ .vmem, ⟨10, _⟩ => ⟨S1x1024x768, .f32⟩
  | .local _ .vmem, ⟨11, _⟩ => ⟨S34x34x768, .f32⟩
  | .local _ .vmem, ⟨12, _⟩ => ⟨S1x8x256x768, .f32⟩
  | .local _ .vmem, ⟨13, _⟩ => ⟨S1x8x256x768, .f32⟩
  | .local _ .vmem, ⟨14, _⟩ => ⟨S1x1x768x24, .f32⟩
  | .local _ .vmem, ⟨15, _⟩ => ⟨S1x1x768x24, .f32⟩
  | .local _ .vmem, ⟨16, _⟩ => ⟨S1x1x768x8, .f32⟩
  | .local _ .vmem, ⟨17, _⟩ => ⟨S1x1x768x8, .f32⟩
  | .local _ .vmem, ⟨18, _⟩ => ⟨S1x1x24x768, .f32⟩
  | .local _ .vmem, ⟨19, _⟩ => ⟨S1x1x24x768, .f32⟩
  | .local _ .vmem, ⟨20, _⟩ => ⟨S1x1x1x768, .f32⟩
  | .local _ .vmem, ⟨21, _⟩ => ⟨S1x1x1x768, .f32⟩
  | .local _ .vmem, ⟨22, _⟩ => ⟨S1x1x4x768, .f32⟩
  | .local _ .vmem, ⟨23, _⟩ => ⟨S1x1x4x768, .f32⟩
  | .local _ .vmem, ⟨24, _⟩ => ⟨S1x1x1x768, .f32⟩
  | .local _ .vmem, ⟨25, _⟩ => ⟨S1x1x1x768, .f32⟩
  | .local _ .vmem, ⟨26, _⟩ => ⟨S1x8x256x768, .f32⟩
  | .local _ .vmem, ⟨27, _⟩ => ⟨S1x8x256x768, .f32⟩
  | .local _ .vmem, ⟨28, _⟩ => ⟨S4x8x768, .f32⟩
  | .local _ .vmem, ⟨29, _⟩ => ⟨S256x8x768, .f32⟩
  | .local _ .vmem, ⟨30, _⟩ => ⟨S256x8x768, .f32⟩
  | .local _ .vmem, ⟨31, _⟩ => ⟨S256x8x8, .f32⟩
  | .local _ .vmem, ⟨32, _⟩ => ⟨S256x8x768, .f32⟩
  | .local _ .vmem, ⟨33, _⟩ => ⟨S4x1x1024x768, .f32⟩
  | .local _ .vmem, ⟨34, _⟩ => ⟨S4x1x1024x768, .f32⟩
  | .local _ .vmem, ⟨35, _⟩ => ⟨S1x1024x768, .f32⟩
  | .local _ .vmem, ⟨36, _⟩ => ⟨S1x1024x768, .f32⟩
  | .local _ .vmem, ⟨37, _⟩ => ⟨S1x1024x384, .f32⟩
  | .local _ .vmem, ⟨38, _⟩ => ⟨S1x1024x384, .f32⟩
  | .local _ .vmem, ⟨39, _⟩ => ⟨S1x768, .f32⟩
  | .local _ .vmem, ⟨40, _⟩ => ⟨S1x768, .f32⟩
  | .local _ .vmem, ⟨41, _⟩ => ⟨S768x384, .f32⟩
  | .local _ .vmem, ⟨42, _⟩ => ⟨S1x384, .f32⟩
  | .local _ .vmem, ⟨43, _⟩ => ⟨S1x384, .f32⟩
  | .local _ .vmem, ⟨44, _⟩ => ⟨S384x1536, .f32⟩
  | .local _ .vmem, ⟨45, _⟩ => ⟨S1x1536, .f32⟩
  | .local _ .vmem, ⟨46, _⟩ => ⟨S1536x384, .f32⟩
  | .local _ .vmem, ⟨47, _⟩ => ⟨S1x384, .f32⟩
  | .local _ .vmem, ⟨48, _⟩ => ⟨S1x1024x384, .f32⟩
  | .local _ .vmem, ⟨49, _⟩ => ⟨S1x1024x384, .f32⟩
  | _, _ => ⟨S8x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11_0 : Ref sig .tc := ⟨.hbm, 33, rfl⟩
abbrev main_v11_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc1_scratch4 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc2_stg11_0 : Ref sig .tc := ⟨.vmem, 47, rfl⟩
abbrev cc2_stg12_0 : Ref sig .tc := ⟨.vmem, 48, rfl⟩
abbrev cc2_stg12_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem11_0 : DmaSem sig := 41
abbrev cc2_sem12_0 : DmaSem sig := 42
abbrev cc2_sem12_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 8], ![false, false]⟩

@[reducible] def k1_t1_loop : Scf.Loop 32 :=
  let c0_i32_51 : BitVec 32 := 0#32
  let c256_i32 : BitVec 32 := 256#32
  let v62 : BitVec 32 := Scalar.addi c0_i32_51 c256_i32
  let c1_i32 : BitVec 32 := 1#32
  ⟨c0_i32_51, v62, c1_i32⟩
def k1_off1 (i : grid1.Coords) (k1_t1 : Fin k1_t1_loop.trips) : Fin 3 → Nat :=
  let arg1 : BitVec 32 := BitVec.ofNat 32 (i 1).val
  let c4_i32 : BitVec 32 := 4#32
  let v0 : BitVec 1 := Scalar.cmpi .sge arg1 c4_i32
  let c255_i32 : BitVec 32 := 255#32
  let c0_i32_51 : BitVec 32 := 0#32
  let c1_i32 : BitVec 32 := 1#32
  let arg15 : BitVec 32 := Scf.iv c0_i32_51 c1_i32 k1_t1
  let v87 : BitVec 32 := Scalar.subi c255_i32 arg15
  let v88 : BitVec 32 := Scalar.select v0 v87 arg15
  let v89 : Index := Scalar.indexCast v88
  let c0_76 : Index := 0#32
  let c0_77 : Index := 0#32
  ![v89.toNat, 0, 0]
def k1_off2 (i : grid1.Coords) (k1_t1 : Fin k1_t1_loop.trips) : Fin 3 → Nat :=
  let arg1 : BitVec 32 := BitVec.ofNat 32 (i 1).val
  let c4_i32 : BitVec 32 := 4#32
  let v0 : BitVec 1 := Scalar.cmpi .sge arg1 c4_i32
  let c255_i32 : BitVec 32 := 255#32
  let c0_i32_51 : BitVec 32 := 0#32
  let c1_i32 : BitVec 32 := 1#32
  let arg15 : BitVec 32 := Scf.iv c0_i32_51 c1_i32 k1_t1
  let v87 : BitVec 32 := Scalar.subi c255_i32 arg15
  let v88 : BitVec 32 := Scalar.select v0 v87 arg15
  let v95 : Index := Scalar.indexCast v88
  let c0_80 : Index := 0#32
  let c0_81 : Index := 0#32
  ![v95.toNat, 0, 0]
def cc1_transform_0 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c7_i32 : BitVec 32 := 7#32
  let v1 : BitVec 32 := Scalar.subi c7_i32 arg1
  let v2 : BitVec 32 := Scalar.select v0 arg1 v1
  let c0_i32 : BitVec 32 := 0#32
  let c0_i32_0 : BitVec 32 := 0#32
  let c0_i32_1 : BitVec 32 := 0#32
  ![arg0.toNat, c0_i32.toNat, v2.toNat, c0_i32_0.toNat]

def cc1_transform_1 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_2 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_3 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_4 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_5 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_6 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_7 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let v18 : BitVec 32 := Scalar.addi arg0 v17
  let c4_i32_4 : BitVec 32 := 4#32
  let v19 : BitVec 1 := Scalar.cmpi .slt arg1 c4_i32_4
  let c7_i32 : BitVec 32 := 7#32
  let v20 : BitVec 32 := Scalar.subi c7_i32 arg1
  let v21 : BitVec 32 := Scalar.select v19 arg1 v20
  let c0_i32_5 : BitVec 32 := 0#32
  let c0_i32_6 : BitVec 32 := 0#32
  let c0_i32_7 : BitVec 32 := 0#32
  ![v18.toNat, c0_i32_5.toNat, v21.toNat, c0_i32_6.toNat]

abbrev stage1_0 : Fin 2 → Memref sig .tc .vmem S1x8x256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x768x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x768x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x24x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x4x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x8x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4x1x1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S384x1536 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1536 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1536x384 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x384 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1x1024x384 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]
-- ==== ReferenceIdeal.lean ====
abbrev S8x384x32x32 : Shape := ⟨4, ![8, 384, 32, 32]⟩
abbrev S384 : Shape := ⟨1, ![384]⟩
abbrev S1536x384 : Shape := ⟨2, ![1536, 384]⟩
abbrev S768x1x3x3 : Shape := ⟨4, ![768, 1, 3, 3]⟩
abbrev S768 : Shape := ⟨1, ![768]⟩
abbrev S4x32x768 : Shape := ⟨3, ![4, 32, 768]⟩
abbrev S4x768x24 : Shape := ⟨3, ![4, 768, 24]⟩
abbrev S4x768 : Shape := ⟨2, ![4, 768]⟩
abbrev S4x768x4 : Shape := ⟨3, ![4, 768, 4]⟩
abbrev S384x768 : Shape := ⟨2, ![384, 768]⟩
abbrev S1536 : Shape := ⟨1, ![1536]⟩
abbrev S384x1536 : Shape := ⟨2, ![384, 1536]⟩
abbrev S8x32x32x384 : Shape := ⟨4, ![8, 32, 32, 384]⟩
abbrev S_ : Shape := ⟨0, ![]⟩
abbrev S8x32x32 : Shape := ⟨3, ![8, 32, 32]⟩
abbrev S8x32x32x1 : Shape := ⟨4, ![8, 32, 32, 1]⟩
abbrev S1x1x1x384 : Shape := ⟨4, ![1, 1, 1, 384]⟩
abbrev S8x32x32x1536 : Shape := ⟨4, ![8, 32, 32, 1536]⟩
abbrev S8x32x32x768 : Shape := ⟨4, ![8, 32, 32, 768]⟩
abbrev S8x768x32x32 : Shape := ⟨4, ![8, 768, 32, 32]⟩
abbrev S8x768x34x34 : Shape := ⟨4, ![8, 768, 34, 34]⟩
abbrev S768x1x1x1 : Shape := ⟨4, ![768, 1, 1, 1]⟩
abbrev S1x768x1x1 : Shape := ⟨4, ![1, 768, 1, 1]⟩
abbrev S8x768x1024 : Shape := ⟨3, ![8, 768, 1024]⟩
abbrev S8x1x768x1024 : Shape := ⟨4, ![8, 1, 768, 1024]⟩
abbrev S8x4x768x1024 : Shape := ⟨4, ![8, 4, 768, 1024]⟩
abbrev S4x32x8x1024 : Shape := ⟨4, ![4, 32, 8, 1024]⟩
abbrev S8x4x32x1024 : Shape := ⟨4, ![8, 4, 32, 1024]⟩
abbrev S8x4x24x1024 : Shape := ⟨4, ![8, 4, 24, 1024]⟩
abbrev S8x4x4x1024 : Shape := ⟨4, ![8, 4, 4, 1024]⟩
abbrev S4x768x8x1024 : Shape := ⟨4, ![4, 768, 8, 1024]⟩
abbrev S1x4x768x1 : Shape := ⟨4, ![1, 4, 768, 1]⟩
abbrev S1024x8x4x768 : Shape := ⟨4, ![1024, 8, 4, 768]⟩
abbrev S1024x8x4x4 : Shape := ⟨4, ![1024, 8, 4, 4]⟩
abbrev S8x4x768x4 : Shape := ⟨4, ![8, 4, 768, 4]⟩
abbrev S1x8x4x768 : Shape := ⟨4, ![1, 8, 4, 768]⟩
abbrev S8x4x768 : Shape := ⟨3, ![8, 4, 768]⟩
abbrev S1x8x4x4 : Shape := ⟨4, ![1, 8, 4, 4]⟩
abbrev S8x4x4 : Shape := ⟨3, ![8, 4, 4]⟩
abbrev S8x4x768x1 : Shape := ⟨4, ![8, 4, 768, 1]⟩
abbrev S1x4x768x4 : Shape := ⟨4, ![1, 4, 768, 4]⟩
abbrev S8x4x1x4 : Shape := ⟨4, ![8, 4, 1, 4]⟩
abbrev S8x2x768x1024 : Shape := ⟨4, ![8, 2, 768, 1024]⟩
abbrev S8x1024x768 : Shape := ⟨3, ![8, 1024, 768]⟩
abbrev S1x1x1x768 : Shape := ⟨4, ![1, 1, 1, 768]⟩
abbrev S1x1x1x1536 : Shape := ⟨4, ![1, 1, 1, 1536]⟩

abbrev nBuf : Space → Nat
  | .hbm => 353
  | .vmem => 0
  | .smem => 0
  | _ => 0

abbrev hbmTy0_0 (i : Nat) : BufTy := match i % 128 with
  | 0 => ⟨S8x384x32x32, .f32⟩
  | 1 => ⟨S384, .f32⟩
  | 2 => ⟨S384, .f32⟩
  | 3 => ⟨S1536x384, .f32⟩
  | 4 => ⟨S768x1x3x3, .f32⟩
  | 5 => ⟨S768, .f32⟩
  | 6 => ⟨S4x32x768, .f32⟩
  | 7 => ⟨S4x768x24, .f32⟩
  | 8 => ⟨S4x768, .f32⟩
  | 9 => ⟨S4x768x4, .f32⟩
  | 10 => ⟨S4x768, .f32⟩
  | 11 => ⟨S768, .f32⟩
  | 12 => ⟨S768, .f32⟩
  | 13 => ⟨S384x768, .f32⟩
  | 14 => ⟨S384, .f32⟩
  | 15 => ⟨S384, .f32⟩
  | 16 => ⟨S1536x384, .f32⟩
  | 17 => ⟨S1536, .f32⟩
  | 18 => ⟨S384x1536, .f32⟩
  | 19 => ⟨S384, .f32⟩
  | 20 => ⟨S8x32x32x384, .f32⟩
  | 21 => ⟨S_, .f32⟩
  | 22 => ⟨S8x32x32, .f32⟩
  | 23 => ⟨S8x32x32x1, .f32⟩
  | 24 => ⟨S_, .f32⟩
  | 25 => ⟨S8x32x32x1, .f32⟩
  | 26 => ⟨S8x32x32x1, .f32⟩
  | 27 => ⟨S8x32x32x384, .f32⟩
  | 28 => ⟨S8x32x32x384, .f32⟩
  | 29 => ⟨S8x32x32x384, .f32⟩
  | 30 => ⟨S_, .f32⟩
  | 31 => ⟨S8x32x32, .f32⟩
  | 32 => ⟨S8x32x32x1, .f32⟩
  | 33 => ⟨S_, .f32⟩
  | 34 => ⟨S8x32x32x1, .f32⟩
  | 35 => ⟨S8x32x32x1, .f32⟩
  | 36 => ⟨S8x32x32x384, .f32⟩
  | 37 => ⟨S8x32x32x384, .f32⟩
  | 38 => ⟨S_, .f32⟩
  | 39 => ⟨S8x32x32x1, .f32⟩
  | 40 => ⟨S8x32x32x1, .f32⟩
  | 41 => ⟨S8x32x32x1, .f32⟩
  | 42 => ⟨S8x32x32x384, .f32⟩
  | 43 => ⟨S8x32x32x384, .f32⟩
  | 44 => ⟨S1x1x1x384, .f32⟩
  | 45 => ⟨S8x32x32x384, .f32⟩
  | 46 => ⟨S8x32x32x384, .f32⟩
  | 47 => ⟨S1x1x1x384, .f32⟩
  | 48 => ⟨S8x32x32x384, .f32⟩
  | 49 => ⟨S8x32x32x384, .f32⟩
  | 50 => ⟨S8x32x32x1536, .f32⟩
  | 51 => ⟨S8x32x32x768, .f32⟩
  | 52 => ⟨S8x32x32x768, .f32⟩
  | 53 => ⟨S8x768x32x32, .f32⟩
  | 54 => ⟨S_, .i32⟩
  | 55 => ⟨S_, .f32⟩
  | 56 => ⟨S8x768x34x34, .f32⟩
  | 57 => ⟨S_, .f32⟩
  | 58 => ⟨S8x768x32x32, .f32⟩
  | 59 => ⟨S8x768x32x32, .f32⟩
  | 60 => ⟨S768x1x1x1, .f32⟩
  | 61 => ⟨S768, .f32⟩
  | 62 => ⟨S1x768x1x1, .f32⟩
  | 63 => ⟨S8x768x32x32, .f32⟩
  | 64 => ⟨S8x768x32x32, .f32⟩
  | 65 => ⟨S8x768x32x32, .f32⟩
  | 66 => ⟨S8x768x32x32, .f32⟩
  | 67 => ⟨S768x1x1x1, .f32⟩
  | 68 => ⟨S768, .f32⟩
  | 69 => ⟨S1x768x1x1, .f32⟩
  | 70 => ⟨S8x768x32x32, .f32⟩
  | 71 => ⟨S8x768x32x32, .f32⟩
  | 72 => ⟨S8x768x32x32, .f32⟩
  | 73 => ⟨S8x768x32x32, .f32⟩
  | 74 => ⟨S768x1x1x1, .f32⟩
  | 75 => ⟨S768, .f32⟩
  | 76 => ⟨S1x768x1x1, .f32⟩
  | 77 => ⟨S8x768x32x32, .f32⟩
  | 78 => ⟨S8x768x32x32, .f32⟩
  | 79 => ⟨S8x768x32x32, .f32⟩
  | 80 => ⟨S8x768x32x32, .f32⟩
  | 81 => ⟨S768x1x1x1, .f32⟩
  | 82 => ⟨S768, .f32⟩
  | 83 => ⟨S1x768x1x1, .f32⟩
  | 84 => ⟨S8x768x32x32, .f32⟩
  | 85 => ⟨S8x768x32x32, .f32⟩
  | 86 => ⟨S8x768x32x32, .f32⟩
  | 87 => ⟨S8x768x32x32, .f32⟩
  | 88 => ⟨S768x1x1x1, .f32⟩
  | 89 => ⟨S768, .f32⟩
  | 90 => ⟨S1x768x1x1, .f32⟩
  | 91 => ⟨S8x768x32x32, .f32⟩
  | 92 => ⟨S8x768x32x32, .f32⟩
  | 93 => ⟨S8x768x32x32, .f32⟩
  | 94 => ⟨S8x768x32x32, .f32⟩
  | 95 => ⟨S768x1x1x1, .f32⟩
  | 96 => ⟨S768, .f32⟩
  | 97 => ⟨S1x768x1x1, .f32⟩
  | 98 => ⟨S8x768x32x32, .f32⟩
  | 99 => ⟨S8x768x32x32, .f32⟩
  | 100 => ⟨S8x768x32x32, .f32⟩
  | 101 => ⟨S8x768x32x32, .f32⟩
  | 102 => ⟨S768x1x1x1, .f32⟩
  | 103 => ⟨S768, .f32⟩
  | 104 => ⟨S1x768x1x1, .f32⟩
  | 105 => ⟨S8x768x32x32, .f32⟩
  | 106 => ⟨S8x768x32x32, .f32⟩
  | 107 => ⟨S8x768x32x32, .f32⟩
  | 108 => ⟨S8x768x32x32, .f32⟩
  | 109 => ⟨S768x1x1x1, .f32⟩
  | 110 => ⟨S768, .f32⟩
  | 111 => ⟨S1x768x1x1, .f32⟩
  | 112 => ⟨S8x768x32x32, .f32⟩
  | 113 => ⟨S8x768x32x32, .f32⟩
  | 114 => ⟨S8x768x32x32, .f32⟩
  | 115 => ⟨S8x768x32x32, .f32⟩
  | 116 => ⟨S768x1x1x1, .f32⟩
  | 117 => ⟨S768, .f32⟩
  | 118 => ⟨S1x768x1x1, .f32⟩
  | 119 => ⟨S8x768x32x32, .f32⟩
  | 120 => ⟨S8x768x32x32, .f32⟩
  | 121 => ⟨S8x768x32x32, .f32⟩
  | 122 => ⟨S1x768x1x1, .f32⟩
  | 123 => ⟨S8x768x32x32, .f32⟩
  | 124 => ⟨S8x768x32x32, .f32⟩
  | 125 => ⟨S8x768x32x32, .f32⟩
  | 126 => ⟨S8x768x32x32, .f32⟩
  | 127 => ⟨S_, .f32⟩
  | _ => ⟨S8x384x32x32, .f32⟩

abbrev hbmTy0_1 (i : Nat) : BufTy := match i % 128 with
  | 0 => ⟨S8x768x32x32, .f32⟩
  | 1 => ⟨S8x768x32x32, .f32⟩
  | 2 => ⟨S_, .f32⟩
  | 3 => ⟨S8x768x32x32, .f32⟩
  | 4 => ⟨S8x768x32x32, .f32⟩
  | 5 => ⟨S8x768x32x32, .f32⟩
  | 6 => ⟨S8x768x1024, .f32⟩
  | 7 => ⟨S8x768x32x32, .f32⟩
  | 8 => ⟨S8x768x1024, .f32⟩
  | 9 => ⟨S8x768x1024, .f32⟩
  | 10 => ⟨S8x768x1024, .f32⟩
  | 11 => ⟨S8x1x768x1024, .f32⟩
  | 12 => ⟨S8x1x768x1024, .f32⟩
  | 13 => ⟨S8x1x768x1024, .f32⟩
  | 14 => ⟨S8x1x768x1024, .f32⟩
  | 15 => ⟨S8x4x768x1024, .f32⟩
  | 16 => ⟨S4x32x8x1024, .f32⟩
  | 17 => ⟨S8x4x32x1024, .f32⟩
  | 18 => ⟨S8x4x24x1024, .f32⟩
  | 19 => ⟨S8x4x4x1024, .f32⟩
  | 20 => ⟨S8x4x4x1024, .f32⟩
  | 21 => ⟨S4x768x8x1024, .f32⟩
  | 22 => ⟨S8x4x768x1024, .f32⟩
  | 23 => ⟨S1x4x768x1, .f32⟩
  | 24 => ⟨S8x4x768x1024, .f32⟩
  | 25 => ⟨S8x4x768x1024, .f32⟩
  | 26 => ⟨S_, .f32⟩
  | 27 => ⟨S8x4x768x1024, .f32⟩
  | 28 => ⟨S8x4x768x1024, .f32⟩
  | 29 => ⟨S8x4x768x1024, .f32⟩
  | 30 => ⟨S8x4x768x1024, .f32⟩
  | 31 => ⟨S8x4x768x1024, .i1⟩
  | 32 => ⟨S8x4x768x1024, .f32⟩
  | 33 => ⟨S8x4x768x1024, .f32⟩
  | 34 => ⟨S8x4x768x1024, .f32⟩
  | 35 => ⟨S8x4x768x1024, .f32⟩
  | 36 => ⟨S8x4x768x1024, .f32⟩
  | 37 => ⟨S8x4x768x1024, .f32⟩
  | 38 => ⟨S8x4x768x1024, .f32⟩
  | 39 => ⟨S8x4x768x1024, .f32⟩
  | 40 => ⟨S4x768x4, .f32⟩
  | 41 => ⟨S4x768x4, .f32⟩
  | 42 => ⟨S1024x8x4x768, .f32⟩
  | 43 => ⟨S1024x8x4x768, .f32⟩
  | 44 => ⟨S1024x8x4x4, .f32⟩
  | 45 => ⟨S1024x8x4x4, .f32⟩
  | 46 => ⟨S_, .f32⟩
  | 47 => ⟨S8x4x768x4, .f32⟩
  | 48 => ⟨S_, .f32⟩
  | 49 => ⟨S1024x8x4x768, .f32⟩
  | 50 => ⟨S_, .i32⟩
  | 51 => ⟨S1024x8x4x768, .f32⟩
  | 52 => ⟨S1024x8x4x768, .f32⟩
  | 53 => ⟨S1024x8x4x4, .f32⟩
  | 54 => ⟨S1024x8x4x4, .f32⟩
  | 55 => ⟨S4x768x4, .f32⟩
  | 56 => ⟨S_, .i32⟩
  | 57 => ⟨S8x4x768x4, .f32⟩
  | 58 => ⟨S1024x8x4x768, .f32⟩
  | 59 => ⟨S_, .i32⟩
  | 60 => ⟨S_, .i1⟩
  | 61 => ⟨S_, .i32⟩
  | 62 => ⟨S_, .i32⟩
  | 63 => ⟨S_, .i32⟩
  | 64 => ⟨S1x8x4x768, .f32⟩
  | 65 => ⟨S8x4x768, .f32⟩
  | 66 => ⟨S_, .i32⟩
  | 67 => ⟨S_, .i32⟩
  | 68 => ⟨S_, .i32⟩
  | 69 => ⟨S1x8x4x768, .f32⟩
  | 70 => ⟨S8x4x768, .f32⟩
  | 71 => ⟨S_, .i32⟩
  | 72 => ⟨S_, .i32⟩
  | 73 => ⟨S_, .i32⟩
  | 74 => ⟨S1x8x4x4, .f32⟩
  | 75 => ⟨S8x4x4, .f32⟩
  | 76 => ⟨S_, .i32⟩
  | 77 => ⟨S_, .i32⟩
  | 78 => ⟨S_, .i32⟩
  | 79 => ⟨S1x8x4x4, .f32⟩
  | 80 => ⟨S8x4x4, .f32⟩
  | 81 => ⟨S8x4x768x1, .f32⟩
  | 82 => ⟨S1x4x768x4, .f32⟩
  | 83 => ⟨S8x4x768x4, .f32⟩
  | 84 => ⟨S8x4x768x4, .f32⟩
  | 85 => ⟨S8x4x768x4, .f32⟩
  | 86 => ⟨S8x4x768x4, .f32⟩
  | 87 => ⟨S8x4x768x4, .f32⟩
  | 88 => ⟨S8x4x768, .f32⟩
  | 89 => ⟨S8x4x768x1, .f32⟩
  | 90 => ⟨S8x4x1x4, .f32⟩
  | 91 => ⟨S8x4x768x4, .f32⟩
  | 92 => ⟨S8x4x768x4, .f32⟩
  | 93 => ⟨S8x4x768x4, .f32⟩
  | 94 => ⟨S8x4x768x4, .f32⟩
  | 95 => ⟨S8x4x768, .f32⟩
  | 96 => ⟨S1x8x4x768, .f32⟩
  | 97 => ⟨S_, .i32⟩
  | 98 => ⟨S_, .i32⟩
  | 99 => ⟨S_, .i32⟩
  | 100 => ⟨S1024x8x4x768, .f32⟩
  | 101 => ⟨S_, .i32⟩
  | 102 => ⟨S_, .i32⟩
  | 103 => ⟨S8x4x768x1024, .f32⟩
  | 104 => ⟨S1x4x768x1, .f32⟩
  | 105 => ⟨S8x4x768x1024, .f32⟩
  | 106 => ⟨S8x4x768x1024, .f32⟩
  | 107 => ⟨S8x4x768x1024, .f32⟩
  | 108 => ⟨S8x2x768x1024, .f32⟩
  | 109 => ⟨S8x2x768x1024, .f32⟩
  | 110 => ⟨S8x1x768x1024, .f32⟩
  | 111 => ⟨S8x768x1024, .f32⟩
  | 112 => ⟨S8x1x768x1024, .f32⟩
  | 113 => ⟨S8x768x1024, .f32⟩
  | 114 => ⟨S8x768x1024, .f32⟩
  | 115 => ⟨S8x1x768x1024, .f32⟩
  | 116 => ⟨S8x768x1024, .f32⟩
  | 117 => ⟨S8x768x32x32, .f32⟩
  | 118 => ⟨S8x768x32x32, .f32⟩
  | 119 => ⟨S8x768x1024, .f32⟩
  | 120 => ⟨S8x768x1024, .f32⟩
  | 121 => ⟨S8x1x768x1024, .f32⟩
  | 122 => ⟨S8x768x1024, .f32⟩
  | 123 => ⟨S8x768x32x32, .f32⟩
  | 124 => ⟨S8x768x32x32, .f32⟩
  | 125 => ⟨S8x768x1024, .f32⟩
  | 126 => ⟨S8x768x1024, .f32⟩
  | 127 => ⟨S8x1024x768, .f32⟩
  | _ => ⟨S8x384x32x32, .f32⟩

abbrev hbmTy0_2 (i : Nat) : BufTy := match i % 128 with
  | 0 => ⟨S8x32x32x768, .f32⟩
  | 1 => ⟨S_, .f32⟩
  | 2 => ⟨S8x32x32, .f32⟩
  | 3 => ⟨S8x32x32x1, .f32⟩
  | 4 => ⟨S_, .f32⟩
  | 5 => ⟨S8x32x32x1, .f32⟩
  | 6 => ⟨S8x32x32x1, .f32⟩
  | 7 => ⟨S8x32x32x768, .f32⟩
  | 8 => ⟨S8x32x32x768, .f32⟩
  | 9 => ⟨S8x32x32x768, .f32⟩
  | 10 => ⟨S_, .f32⟩
  | 11 => ⟨S8x32x32, .f32⟩
  | 12 => ⟨S8x32x32x1, .f32⟩
  | 13 => ⟨S_, .f32⟩
  | 14 => ⟨S8x32x32x1, .f32⟩
  | 15 => ⟨S8x32x32x1, .f32⟩
  | 16 => ⟨S8x32x32x768, .f32⟩
  | 17 => ⟨S8x32x32x768, .f32⟩
  | 18 => ⟨S_, .f32⟩
  | 19 => ⟨S8x32x32x1, .f32⟩
  | 20 => ⟨S8x32x32x1, .f32⟩
  | 21 => ⟨S8x32x32x1, .f32⟩
  | 22 => ⟨S8x32x32x768, .f32⟩
  | 23 => ⟨S8x32x32x768, .f32⟩
  | 24 => ⟨S1x1x1x768, .f32⟩
  | 25 => ⟨S8x32x32x768, .f32⟩
  | 26 => ⟨S8x32x32x768, .f32⟩
  | 27 => ⟨S1x1x1x768, .f32⟩
  | 28 => ⟨S8x32x32x768, .f32⟩
  | 29 => ⟨S8x32x32x768, .f32⟩
  | 30 => ⟨S8x32x32x768, .f32⟩
  | 31 => ⟨S8x32x32x768, .f32⟩
  | 32 => ⟨S_, .f32⟩
  | 33 => ⟨S8x32x32x768, .f32⟩
  | 34 => ⟨S8x32x32x768, .f32⟩
  | 35 => ⟨S_, .f32⟩
  | 36 => ⟨S8x32x32x768, .f32⟩
  | 37 => ⟨S8x32x32x768, .f32⟩
  | 38 => ⟨S8x32x32x768, .f32⟩
  | 39 => ⟨S8x32x32x768, .f32⟩
  | 40 => ⟨S8x32x32x384, .f32⟩
  | 41 => ⟨S8x32x32x384, .f32⟩
  | 42 => ⟨S_, .f32⟩
  | 43 => ⟨S8x32x32, .f32⟩
  | 44 => ⟨S8x32x32x1, .f32⟩
  | 45 => ⟨S_, .f32⟩
  | 46 => ⟨S8x32x32x1, .f32⟩
  | 47 => ⟨S8x32x32x1, .f32⟩
  | 48 => ⟨S8x32x32x384, .f32⟩
  | 49 => ⟨S8x32x32x384, .f32⟩
  | 50 => ⟨S8x32x32x384, .f32⟩
  | 51 => ⟨S_, .f32⟩
  | 52 => ⟨S8x32x32, .f32⟩
  | 53 => ⟨S8x32x32x1, .f32⟩
  | 54 => ⟨S_, .f32⟩
  | 55 => ⟨S8x32x32x1, .f32⟩
  | 56 => ⟨S8x32x32x1, .f32⟩
  | 57 => ⟨S8x32x32x384, .f32⟩
  | 58 => ⟨S8x32x32x384, .f32⟩
  | 59 => ⟨S_, .f32⟩
  | 60 => ⟨S8x32x32x1, .f32⟩
  | 61 => ⟨S8x32x32x1, .f32⟩
  | 62 => ⟨S8x32x32x1, .f32⟩
  | 63 => ⟨S8x32x32x384, .f32⟩
  | 64 => ⟨S8x32x32x384, .f32⟩
  | 65 => ⟨S1x1x1x384, .f32⟩
  | 66 => ⟨S8x32x32x384, .f32⟩
  | 67 => ⟨S8x32x32x384, .f32⟩
  | 68 => ⟨S1x1x1x384, .f32⟩
  | 69 => ⟨S8x32x32x384, .f32⟩
  | 70 => ⟨S8x32x32x384, .f32⟩
  | 71 => ⟨S8x32x32x1536, .f32⟩
  | 72 => ⟨S1x1x1x1536, .f32⟩
  | 73 => ⟨S8x32x32x1536, .f32⟩
  | 74 => ⟨S8x32x32x1536, .f32⟩
  | 75 => ⟨S8x32x32x1536, .f32⟩
  | 76 => ⟨S8x32x32x1536, .f32⟩
  | 77 => ⟨S_, .f32⟩
  | 78 => ⟨S8x32x32x1536, .f32⟩
  | 79 => ⟨S8x32x32x1536, .f32⟩
  | 80 => ⟨S8x32x32x1536, .f32⟩
  | 81 => ⟨S_, .f32⟩
  | 82 => ⟨S8x32x32x1536, .f32⟩
  | 83 => ⟨S8x32x32x1536, .f32⟩
  | 84 => ⟨S8x32x32x1536, .f32⟩
  | 85 => ⟨S_, .f32⟩
  | 86 => ⟨S8x32x32x1536, .f32⟩
  | 87 => ⟨S8x32x32x1536, .f32⟩
  | 88 => ⟨S_, .f32⟩
  | 89 => ⟨S8x32x32x1536, .f32⟩
  | 90 => ⟨S8x32x32x1536, .f32⟩
  | 91 => ⟨S8x32x32x1536, .f32⟩
  | 92 => ⟨S8x32x32x384, .f32⟩
  | 93 => ⟨S1x1x1x384, .f32⟩
  | 94 => ⟨S8x32x32x384, .f32⟩
  | 95 => ⟨S8x32x32x384, .f32⟩
  | 96 => ⟨S8x32x32x384, .f32⟩
  | _ => ⟨S8x384x32x32, .f32⟩

abbrev hbmTy (i : Nat) : BufTy := match i / 128 with
  | 0 => hbmTy0_0 i
  | 1 => hbmTy0_1 i
  | 2 => hbmTy0_2 i
  | _ => ⟨S8x384x32x32, .f32⟩

abbrev bufTy : (tb : Table) → Fin (tcTables nBuf tb) → BufTy
  | .hbm, ⟨i, _⟩ => hbmTy i
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_call0_v0 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call4_cst : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_v6 : Ref sig .tc := ⟨.hbm, 161, rfl⟩
abbrev main_call4_v7 : Ref sig .tc := ⟨.hbm, 162, rfl⟩
abbrev main_call4_v8 : Ref sig .tc := ⟨.hbm, 163, rfl⟩
abbrev main_call4_v9 : Ref sig .tc := ⟨.hbm, 164, rfl⟩
abbrev main_call4_v10 : Ref sig .tc := ⟨.hbm, 165, rfl⟩
abbrev main_call4_v11 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_5 : Ref sig .tc := ⟨.hbm, 174, rfl⟩
abbrev main_v125 : Ref sig .tc := ⟨.hbm, 175, rfl⟩
abbrev main_cst_6 : Ref sig .tc := ⟨.hbm, 176, rfl⟩
abbrev main_v126 : Ref sig .tc := ⟨.hbm, 177, rfl⟩
abbrev main_c_7 : Ref sig .tc := ⟨.hbm, 178, rfl⟩
abbrev main_v127_0 : Ref sig .tc := ⟨.hbm, 179, rfl⟩
abbrev main_v127_1 : Ref sig .tc := ⟨.hbm, 180, rfl⟩
abbrev main_v127_2 : Ref sig .tc := ⟨.hbm, 181, rfl⟩
abbrev main_v127_3 : Ref sig .tc := ⟨.hbm, 182, rfl⟩
abbrev main_v127_4 : Ref sig .tc := ⟨.hbm, 183, rfl⟩
abbrev main_v127_5 : Ref sig .tc := ⟨.hbm, 184, rfl⟩
abbrev main_v127_6 : Ref sig .tc := ⟨.hbm, 185, rfl⟩
abbrev main_v127_7 : Ref sig .tc := ⟨.hbm, 186, rfl⟩
abbrev main_while0c_c_29 : Ref sig .tc := ⟨.hbm, 187, rfl⟩
abbrev main_while0c_v228 : Ref sig .tc := ⟨.hbm, 188, rfl⟩
abbrev main_while0b_call5_c : Ref sig .tc := ⟨.hbm, 189, rfl⟩
abbrev main_while0b_call5_c_0 : Ref sig .tc := ⟨.hbm, 190, rfl⟩
abbrev main_while0b_call5_c_1 : Ref sig .tc := ⟨.hbm, 191, rfl⟩
abbrev main_while0b_call5_v0 : Ref sig .tc := ⟨.hbm, 192, rfl⟩
abbrev main_while0b_v228 : Ref sig .tc := ⟨.hbm, 193, rfl⟩
abbrev main_while0b_call6_c : Ref sig .tc := ⟨.hbm, 194, rfl⟩
abbrev main_while0b_call6_c_0 : Ref sig .tc := ⟨.hbm, 195, rfl⟩
abbrev main_while0b_call6_c_1 : Ref sig .tc := ⟨.hbm, 196, rfl⟩
abbrev main_while0b_call6_v0 : Ref sig .tc := ⟨.hbm, 197, rfl⟩
abbrev main_while0b_v229 : Ref sig .tc := ⟨.hbm, 198, rfl⟩
abbrev main_while0b_call7_c : Ref sig .tc := ⟨.hbm, 199, rfl⟩
abbrev main_while0b_call7_c_0 : Ref sig .tc := ⟨.hbm, 200, rfl⟩
abbrev main_while0b_call7_c_1 : Ref sig .tc := ⟨.hbm, 201, rfl⟩
abbrev main_while0b_call7_v0 : Ref sig .tc := ⟨.hbm, 202, rfl⟩
abbrev main_while0b_v230 : Ref sig .tc := ⟨.hbm, 203, rfl⟩
abbrev main_while0b_call8_c : Ref sig .tc := ⟨.hbm, 204, rfl⟩
abbrev main_while0b_call8_c_0 : Ref sig .tc := ⟨.hbm, 205, rfl⟩
abbrev main_while0b_call8_c_1 : Ref sig .tc := ⟨.hbm, 206, rfl⟩
abbrev main_while0b_call8_v0 : Ref sig .tc := ⟨.hbm, 207, rfl⟩
abbrev main_while0b_v231 : Ref sig .tc := ⟨.hbm, 208, rfl⟩
abbrev main_while0b_v232 : Ref sig .tc := ⟨.hbm, 209, rfl⟩
abbrev main_while0b_v233 : Ref sig .tc := ⟨.hbm, 210, rfl⟩
abbrev main_while0b_v234 : Ref sig .tc := ⟨.hbm, 211, rfl⟩
abbrev main_while0b_v235 : Ref sig .tc := ⟨.hbm, 212, rfl⟩
abbrev main_while0b_v236 : Ref sig .tc := ⟨.hbm, 213, rfl⟩
abbrev main_while0b_v237 : Ref sig .tc := ⟨.hbm, 214, rfl⟩
abbrev main_while0b_v238 : Ref sig .tc := ⟨.hbm, 215, rfl⟩
abbrev main_while0b_v239 : Ref sig .tc := ⟨.hbm, 216, rfl⟩
abbrev main_while0b_v240 : Ref sig .tc := ⟨.hbm, 217, rfl⟩
abbrev main_while0b_v241 : Ref sig .tc := ⟨.hbm, 218, rfl⟩
abbrev main_while0b_v242 : Ref sig .tc := ⟨.hbm, 219, rfl⟩
abbrev main_while0b_v243 : Ref sig .tc := ⟨.hbm, 220, rfl⟩
abbrev main_while0b_v244 : Ref sig .tc := ⟨.hbm, 221, rfl⟩
abbrev main_while0b_v245 : Ref sig .tc := ⟨.hbm, 222, rfl⟩
abbrev main_while0b_v246 : Ref sig .tc := ⟨.hbm, 223, rfl⟩
abbrev main_while0b_call9_v0 : Ref sig .tc := ⟨.hbm, 224, rfl⟩
abbrev main_while0b_call9_c : Ref sig .tc := ⟨.hbm, 225, rfl⟩
abbrev main_while0b_call9_c_0 : Ref sig .tc := ⟨.hbm, 226, rfl⟩
abbrev main_while0b_call9_c_1 : Ref sig .tc := ⟨.hbm, 227, rfl⟩
abbrev main_while0b_v247 : Ref sig .tc := ⟨.hbm, 228, rfl⟩
abbrev main_while0b_c_29 : Ref sig .tc := ⟨.hbm, 229, rfl⟩
abbrev main_while0b_v248 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_cst_8 : Ref sig .tc := ⟨.hbm, 257, rfl⟩
abbrev main_v154 : Ref sig .tc := ⟨.hbm, 258, rfl⟩
abbrev main_v155 : Ref sig .tc := ⟨.hbm, 259, rfl⟩
abbrev main_cst_9 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_cst_10 : Ref sig .tc := ⟨.hbm, 266, rfl⟩
abbrev main_v161 : Ref sig .tc := ⟨.hbm, 267, rfl⟩
abbrev main_v162 : Ref sig .tc := ⟨.hbm, 268, rfl⟩
abbrev main_cst_11 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_cst_12 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_call11_v0 : Ref sig .tc := ⟨.hbm, 286, rfl⟩
abbrev main_call11_v1 : Ref sig .tc := ⟨.hbm, 287, rfl⟩
abbrev main_call11_cst : Ref sig .tc := ⟨.hbm, 288, rfl⟩
abbrev main_call11_v2 : Ref sig .tc := ⟨.hbm, 289, rfl⟩
abbrev main_call11_v3 : Ref sig .tc := ⟨.hbm, 290, rfl⟩
abbrev main_call11_cst_0 : Ref sig .tc := ⟨.hbm, 291, rfl⟩
abbrev main_call11_v4 : Ref sig .tc := ⟨.hbm, 292, rfl⟩
abbrev main_call11_v5 : Ref sig .tc := ⟨.hbm, 293, rfl⟩
abbrev main_v178 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_cst_13 : Ref sig .tc := ⟨.hbm, 298, rfl⟩
abbrev main_v182 : Ref sig .tc := ⟨.hbm, 299, rfl⟩
abbrev main_v183 : Ref sig .tc := ⟨.hbm, 300, rfl⟩
abbrev main_cst_14 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_cst_15 : Ref sig .tc := ⟨.hbm, 307, rfl⟩
abbrev main_v189 : Ref sig .tc := ⟨.hbm, 308, rfl⟩
abbrev main_v190 : Ref sig .tc := ⟨.hbm, 309, rfl⟩
abbrev main_cst_16 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_cst_17 : Ref sig .tc := ⟨.hbm, 315, rfl⟩
abbrev main_v195 : Ref sig .tc := ⟨.hbm, 316, rfl⟩
abbrev main_v196 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_v202 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_v206 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_cst_18 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_cst_19 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_cst_20 : Ref sig .tc := ⟨.hbm, 341, rfl⟩
abbrev main_v218 : Ref sig .tc := ⟨.hbm, 342, rfl⟩
abbrev main_v219 : Ref sig .tc := ⟨.hbm, 343, rfl⟩
abbrev main_cst_21 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩

abbrev nD : Nat := 1
abbrev τ : Topo := Topo.v7x

variable {F : FTy → Type} [FloatOps F]

abbrev main_while0_count : Scf.Loop 32 := ⟨0#32, 1024#32, 1#32⟩
-- ==== Proof.Launch.lean ====
module

public import proofs.«01_k».proof.Proof.Gen.KernelIdeal
public import Idealize.ShloMosaic.Lib.Pipeline.Kit
public import Idealize.ShloMosaic.Lib.Pipeline.Regions

/-! The launch set-up of the three pipelines: their semaphores, windows and staging buffers, and the entry function as
    the chain of its host stretches and kernel calls. -/

@[expose] public section

set_option maxRecDepth 1052

noncomputable section

namespace Cert.KernelIdeal.Lau

open Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 3 → List (DmaSem sig) :=
  fun | 0 => Pipeline.specSems spec0 | 1 => Pipeline.specSems spec1 | 2 => Pipeline.specSems spec2 | ⟨_ + 3, h⟩ => absurd h (Nat.not_lt.2 (Nat.le_add_left _ _))
theorem semsDistinct : ∀ p : Fin 3, (semTab p).Nodup := by decide
theorem semsDisjoint : ∀ p p' : Fin 3, p ≠ p' → (semTab p).Forall (· ∉ semTab p') := by decide
theorem cellOf_inj : Function.Injective (Pipeline.cellOf (nD := nD) (τ := τ) cfgs) :=
  Pipeline.cellOf_injective_of_table cfgs semTab (fun | 0 => rfl | 1 => rfl | 2 => rfl | ⟨_ + 3, h⟩ => absurd h (Nat.not_lt.2 (Nat.le_add_left _ _))) semsDistinct semsDisjoint

theorem winFacts0 : Pipeline.WinFacts spec0 := by decide
theorem block_pos0 : ∀ w : Fin 8, 0 < (spec0 w).block.numel := by decide
theorem arr_whole0 : ∀ w : Fin 8, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | ⟨_ + 8, h⟩ => absurd h (Nat.not_lt.2 (Nat.le_add_left _ _))
theorem stage_whole0 : ∀ (w : Fin 8) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | ⟨_ + 8, h⟩ => absurd h (Nat.not_lt.2 (Nat.le_add_left _ _))
theorem launch0 : Pipeline.LaunchFacts (nD := nD) (τ := τ) cfgs 0 := ⟨cellOf_inj, winFacts0, block_pos0, arr_whole0, stage_whole0⟩

theorem N_0 : grid0.N = 8 := by decide
def t0_0 : Fin grid0.N := ⟨0, by rw [N_0]; decide⟩
def t0_1 : Fin grid0.N := ⟨1, by rw [N_0]; decide⟩
def t0_2 : Fin grid0.N := ⟨2, by rw [N_0]; decide⟩
def t0_3 : Fin grid0.N := ⟨3, by rw [N_0]; decide⟩
def t0_4 : Fin grid0.N := ⟨4, by rw [N_0]; decide⟩
def t0_5 : Fin grid0.N := ⟨5, by rw [N_0]; decide⟩
def t0_6 : Fin grid0.N := ⟨6, by rw [N_0]; decide⟩
def t0_7 : Fin grid0.N := ⟨7, by rw [N_0]; decide⟩
theorem fin_N0 (t : Fin grid0.N) : t = t0_0 ∨ t = t0_1 ∨ t = t0_2 ∨ t = t0_3 ∨ t = t0_4 ∨ t = t0_5 ∨ t = t0_6 ∨ t = t0_7 := by
  obtain ⟨t, ht⟩ := t; have := N_0; simp only [t0_0, t0_1, t0_2, t0_3, t0_4, t0_5, t0_6, t0_7, Fin.mk.injEq]; omega

theorem bigSep_W0 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop(iprop((∃ f : Buf Val ((c : Thread nD τ).loc cc0_scratch0), ((c : Thread nD τ).loc cc0_scratch0) ↦{fullShare} f))
          ∗ Pipeline.scopedRestBut (Ix := Ix) (Name := Name) (U := U) (Lvl := Lvl) (Val := Val) spec0 c [cc0_scratch0]) :=
  Pipeline.scopedRest_split_of_list spec0 c [cc0_scratch0] (by decide) (by decide)

theorem winFacts1 : Pipeline.WinFacts spec1 := by decide
theorem block_pos1 : ∀ w : Fin 8, 0 < (spec1 w).block.numel := by decide
theorem arr_whole1 : ∀ w : Fin 8, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | ⟨_ + 8, h⟩ => absurd h (Nat.not_lt.2 (Nat.le_add_left _ _))
theorem stage_whole1 : ∀ (w : Fin 8) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | 7 => fun s => hstage1_7 (s.cast nbuf1_7) | ⟨_ + 8, h⟩ => absurd h (Nat.not_lt.2 (Nat.le_add_left _ _))
theorem launch1 : Pipeline.LaunchFacts (nD := nD) (τ := τ) cfgs 1 := ⟨cellOf_inj, winFacts1, block_pos1, arr_whole1, stage_whole1⟩

theorem N_1 : grid1.N = 16 := by decide
def t1_0 : Fin grid1.N := ⟨0, by rw [N_1]; decide⟩
def t1_1 : Fin grid1.N := ⟨1, by rw [N_1]; decide⟩
def t1_2 : Fin grid1.N := ⟨2, by rw [N_1]; decide⟩
def t1_3 : Fin grid1.N := ⟨3, by rw [N_1]; decide⟩
def t1_4 : Fin grid1.N := ⟨4, by rw [N_1]; decide⟩
def t1_5 : Fin grid1.N := ⟨5, by rw [N_1]; decide⟩
def t1_6 : Fin grid1.N := ⟨6, by rw [N_1]; decide⟩
def t1_7 : Fin grid1.N := ⟨7, by rw [N_1]; decide⟩
def t1_8 : Fin grid1.N := ⟨8, by rw [N_1]; decide⟩
def t1_9 : Fin grid1.N := ⟨9, by rw [N_1]; decide⟩
def t1_10 : Fin grid1.N := ⟨10, by rw [N_1]; decide⟩
def t1_11 : Fin grid1.N := ⟨11, by rw [N_1]; decide⟩
def t1_12 : Fin grid1.N := ⟨12, by rw [N_1]; decide⟩
def t1_13 : Fin grid1.N := ⟨13, by rw [N_1]; decide⟩
def t1_14 : Fin grid1.N := ⟨14, by rw [N_1]; decide⟩
def t1_15 : Fin grid1.N := ⟨15, by rw [N_1]; decide⟩
theorem fin_N1 (t : Fin grid1.N) : t = t1_0 ∨ t = t1_1 ∨ t = t1_2 ∨ t = t1_3 ∨ t = t1_4 ∨ t = t1_5 ∨ t = t1_6 ∨ t = t1_7 ∨ t = t1_8 ∨ t = t1_9 ∨ t = t1_10 ∨ t = t1_11 ∨ t = t1_12 ∨ t = t1_13 ∨ t = t1_14 ∨ t = t1_15 := by
  obtain ⟨t, ht⟩ := t; have := N_1; simp only [t1_0, t1_1, t1_2, t1_3, t1_4, t1_5, t1_6, t1_7, t1_8, t1_9, t1_10, t1_11, t1_12, t1_13, t1_14, t1_15, Fin.mk.injEq]; omega

theorem bigSep_W1 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_scratch2), ((c : Thread nD τ).loc cc1_scratch2) ↦{fullShare} f) ∗ (∃ f : Buf Val ((c : Thread nD τ).loc cc1_scratch3), ((c : Thread nD τ).loc cc1_scratch3) ↦{fullShare} f) ∗ (∃ f : Buf Val ((c : Thread nD τ).loc cc1_scratch4), ((c : Thread nD τ).loc cc1_scratch4) ↦{fullShare} f))
          ∗ Pipeline.scopedRestBut (Ix := Ix) (Name := Name) (U := U) (Lvl := Lvl) (Val := Val) spec1 c [cc1_scratch0, cc1_scratch1, cc1_scratch2, cc1_scratch3, cc1_scratch4]) :=
  Pipeline.scopedRest_split_of_list spec1 c [cc1_scratch0, cc1_scratch1, cc1_scratch2, cc1_scratch3, cc1_scratch4] (by decide) (by decide)

theorem winFacts2 : Pipeline.WinFacts spec2 := by decide
theorem block_pos2 : ∀ w : Fin 13, 0 < (spec2 w).block.numel := by decide
theorem arr_whole2 : ∀ w : Fin 13, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | ⟨_ + 13, h⟩ => absurd h (Nat.not_lt.2 (Nat.le_add_left _ _))
theorem stage_whole2 : ∀ (w : Fin 13) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | 5 => fun s => hstage2_5 (s.cast nbuf2_5) | 6 => fun s => hstage2_6 (s.cast nbuf2_6) | 7 => fun s => hstage2_7 (s.cast nbuf2_7) | 8 => fun s => hstage2_8 (s.cast nbuf2_8) | 9 => fun s => hstage2_9 (s.cast nbuf2_9) | 10 => fun s => hstage2_10 (s.cast nbuf2_10) | 11 => fun s => hstage2_11 (s.cast nbuf2_11) | 12 => fun s => hstage2_12 (s.cast nbuf2_12) | ⟨_ + 13, h⟩ => absurd h (Nat.not_lt.2 (Nat.le_add_left _ _))
theorem launch2 : Pipeline.LaunchFacts (nD := nD) (τ := τ) cfgs 2 := ⟨cellOf_inj, winFacts2, block_pos2, arr_whole2, stage_whole2⟩

theorem N_2 : grid2.N = 8 := by decide
def t2_0 : Fin grid2.N := ⟨0, by rw [N_2]; decide⟩
def t2_1 : Fin grid2.N := ⟨1, by rw [N_2]; decide⟩
def t2_2 : Fin grid2.N := ⟨2, by rw [N_2]; decide⟩
def t2_3 : Fin grid2.N := ⟨3, by rw [N_2]; decide⟩
def t2_4 : Fin grid2.N := ⟨4, by rw [N_2]; decide⟩
def t2_5 : Fin grid2.N := ⟨5, by rw [N_2]; decide⟩
def t2_6 : Fin grid2.N := ⟨6, by rw [N_2]; decide⟩
def t2_7 : Fin grid2.N := ⟨7, by rw [N_2]; decide⟩
theorem fin_N2 (t : Fin grid2.N) : t = t2_0 ∨ t = t2_1 ∨ t = t2_2 ∨ t = t2_3 ∨ t = t2_4 ∨ t = t2_5 ∨ t = t2_6 ∨ t = t2_7 := by
  obtain ⟨t, ht⟩ := t; have := N_2; simp only [t2_0, t2_1, t2_2, t2_3, t2_4, t2_5, t2_6, t2_7, Fin.mk.injEq]; omega

theorem bigSep_W2 {M : Type} [URA M] (Φ : Fin 13 → sProp M) : bigSep Finset.univ Φ = iprop(Φ (0 : Fin 13) ∗ Φ (1 : Fin 13) ∗ Φ (2 : Fin 13) ∗ Φ (3 : Fin 13) ∗ Φ (4 : Fin 13) ∗ Φ (5 : Fin 13) ∗ Φ (6 : Fin 13) ∗ Φ (7 : Fin 13) ∗ Φ (8 : Fin 13) ∗ Φ (9 : Fin 13) ∗ Φ (10 : Fin 13) ∗ Φ (11 : Fin 13) ∗ Φ (12 : Fin 13)) :=
  bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide) Φ

abbrev hostOps0 : List (HloOp τ sig (Elt F)) :=
  [ StableHlo.unary main_arg0 main_v0 ((transpose S8x32x32x384 [0, 2, 3, 1] · transposes_S8x384x32x32_S8x32x32x384_0_2_3_1) : (⟨S8x384x32x32, .f32⟩ : BufTy).Contents (Elt F) → (⟨S8x32x32x384, .f32⟩ : BufTy).Contents (Elt F)),
    StableHlo.reshape main_v0 main_v1 (rfl : (.f32 : EltTy) = .f32) shapeCasts_S8x32x32x384_S8x1024x384,
    StableHlo.nullary main_cst (constant S_ .f32 0x00000000#32),
    StableHlo.unary main_cst main_v2 (broadcastInDim S16x768 ![] bcast_S_S16x768 : (⟨S_, .f32⟩ : BufTy).Contents (Elt F) → (⟨S16x768, .f32⟩ : BufTy).Contents (Elt F)),
    StableHlo.reshape main_arg4 main_v3 (rfl : (.f32 : EltTy) = .f32) shapeCasts_S768x1x3x3_S768x9,
    StableHlo.unary main_v3 main_v4 ((transpose S9x768 [1, 0] · transposes_S768x9_S9x768_1_0) : (⟨S768x9, .f32⟩ : BufTy).Contents (Elt F) → (⟨S9x768, .f32⟩ : BufTy).Contents (Elt F)),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.ternary main_v2 main_v5 main_v4 main_v6 ((fun x i u => Host.scatter scatter_S16x768_S1_S9x768_01_n_0_0 (fun _ b => b) x i u) : (⟨S16x768, .f32⟩ : BufTy).Contents (Elt F) → (⟨S1, .i32⟩ : BufTy).Contents (Elt F) → (⟨S9x768, .f32⟩ : BufTy).Contents (Elt F) → (⟨S16x768, .f32⟩ : BufTy).Contents (Elt F)),
    StableHlo.reshape main_arg1 main_v7 (rfl : (.f32 : EltTy) = .f32) shapeCasts_S384_S1x384,
    StableHlo.reshape main_arg2 main_v8 (rfl : (.f32 : EltTy) = .f32) shapeCasts_S384_S1x384,
    StableHlo.unary main_arg3 main_v9 ((transpose S384x1536 [1, 0] · transposes_S1536x384_S384x1536_1_0) : (⟨S1536x384, .f32⟩ : BufTy).Contents (Elt F) → (⟨S384x1536, .f32⟩ : BufTy).Contents (Elt F)),
    StableHlo.reshape main_arg5 main_v10 (rfl : (.f32 : EltTy) = .f32) shapeCasts_S768_S1x768 ]
theorem hostOps0_sub : (hostOps0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.ternary_bufs_sub .., StableHlo.reshape_bufs_sub .., StableHlo.reshape_bufs_sub .., StableHlo.unary_bufs_sub .., StableHlo.reshape_bufs_sub ..⟩
abbrev hostOps1 : List (HloOp τ sig (Elt F)) :=
  ( StableHlo.unary main_arg6 main_v12 ((extractStridedSlice S4x24x768 ![0, 0, 0] · slices_S4x32x768_S4x24x768_0_0_0) : (⟨S4x32x768, .f32⟩ : BufTy).Contents (Elt F) → (⟨S4x24x768, .f32⟩ : BufTy).Contents (Elt F))
  :: StableHlo.unary main_v12 main_v13 ((transpose S4x768x24 [0, 2, 1] · transposes_S4x24x768_S4x768x24_0_2_1) : (⟨S4x24x768, .f32⟩ : BufTy).Contents (Elt F) → (⟨S4x768x24, .f32⟩ : BufTy).Contents (Elt F))
  :: StableHlo.unary main_v13 main_v14 ((extractStridedSlice S2x768x24 ![0, 0, 0] · slices_S4x768x24_S2x768x24_0_0_0) : (⟨S4x768x24, .f32⟩ : BufTy).Contents (Elt F) → (⟨S2x768x24, .f32⟩ : BufTy).Contents (Elt F))
  :: StableHlo.unary main_v13 main_v15 ((extractStridedSlice S2x768x24 ![2, 0, 0] · slices_S4x768x24_S2x768x24_2_0_0) : (⟨S4x768x24, .f32⟩ : BufTy).Contents (Elt F) → (⟨S2x768x24, .f32⟩ : BufTy).Contents (Elt F))
  :: StableHlo.unary main_v14 main_v16 (broadcastInDim S2x1x768x24 ![0, 2, 3] bcast_S2x768x24_S2x1x768x24_0_2_3 : (⟨S2x768x24, .f32⟩ : BufTy).Contents (Elt F) → (⟨S2x1x768x24, .f32⟩ : BufTy).Contents (Elt F))
  :: StableHlo.unary main_v15 main_v17 (broadcastInDim S2x1x768x24 ![0, 2, 3] bcast_S2x768x24_S2x1x768x24_0_2_3 : (⟨S2x768x24, .f32⟩ : BufTy).Contents (Elt F) → (⟨S2x1x768x24, .f32⟩ : BufTy).Contents (Elt F))
  :: StableHlo.binary main_v16 main_v17 main_v18 ((fun a b => concatenate S2x2x768x24 1 [⟨S2x1x768x24, a⟩, ⟨S2x1x768x24, b⟩] concatenates_S2x1x768x24_S2x1x768x24_S2x2x768x24_d1) : (⟨S2x1x768x24, .f32⟩ : BufTy).Contents (Elt F) → (⟨S2x1x768x24, .f32⟩ : BufTy).Contents (Elt F) → (⟨S2x2x768x24, .f32⟩ : BufTy).Contents (Elt F))
  :: StableHlo.unary main_arg6 main_v19 ((extractStridedSlice S4x8x768 ![0, 24, 0] · slices_S4x32x768_S4x8x768_0_24_0) : (⟨S4x32x768, .f32⟩ : BufTy).Contents (Elt F) → (⟨S4x8x768, .f32⟩ : BufTy).Contents (Elt F))
  :: StableHlo.unary main_v19 main_v20 ((transpose S4x768x8 [0, 2, 1] · transposes_S4x8x768_S4x768x8_0_2_1) : (⟨S4x8x768, .f32⟩ : BufTy).Contents (Elt F) → (⟨S4x768x8, .f32⟩ : BufTy).Contents (Elt F))
  :: StableHlo.unary main_v20 main_v21 ((extractStridedSlice S2x768x8 ![0, 0, 0] · slices_S4x768x8_S2x768x8_0_0_0) : (⟨S4x768x8, .f32⟩ : BufTy).Contents (Elt F) → (⟨S2x768x8, .f32⟩ : BufTy).Contents (Elt F))
  :: StableHlo.unary main_v20 main_v22 ((extractStridedSlice S2x768x8 ![2, 0, 0] · slices_S4x768x8_S2x768x8_2_0_0) : (⟨S4x768x8, .f32⟩ : BufTy).Contents (Elt F) → (⟨S2x768x8, .f32⟩ : BufTy).Contents (Elt F))
  :: StableHlo.unary main_v21 main_v23 (broadcastInDim S2x1x768x8 ![0, 2, 3] bcast_S2x768x8_S2x1x768x8_0_2_3 : (⟨S2x768x8, .f32⟩ : BufTy).Contents (Elt F) → (⟨S2x1x768x8, .f32⟩ : BufTy).Contents (Elt F))
  :: StableHlo.unary main_v22 main_v24 (broadcastInDim S2x1x768x8 ![0, 2, 3] bcast_S2x768x8_S2x1x768x8_0_2_3 : (⟨S2x768x8, .f32⟩ : BufTy).Contents (Elt F) → (⟨S2x1x768x8, .f32⟩ : BufTy).Contents (Elt F))
  :: StableHlo.binary main_v23 main_v24 main_v25 ((fun a b => concatenate S2x2x768x8 1 [⟨S2x1x768x8, a⟩, ⟨S2x1x768x8, b⟩] concatenates_S2x1x768x8_S2x1x768x8_S2x2x768x8_d1) : (⟨S2x1x768x8, .f32⟩ : BufTy).Contents (Elt F) → (⟨S2x1x768x8, .f32⟩ : BufTy).Contents (Elt F) → (⟨S2x2x768x8, .f32⟩ : BufTy).Contents (Elt F))
  :: StableHlo.unary main_arg7 main_v26 ((transpose S4x24x768 [0, 2, 1] · transposes_S4x768x24_S4x24x768_0_2_1) : (⟨S4x768x24, .f32⟩ : BufTy).Contents (Elt F) → (⟨S4x24x768, .f32⟩ : BufTy).Contents (Elt F))
  :: StableHlo.unary main_v26 main_v27 ((extractStridedSlice S2x24x768 ![0, 0, 0] · slices_S4x24x768_S2x24x768_0_0_0) : (⟨S4x24x768, .f32⟩ : BufTy).Contents (Elt F) → (⟨S2x24x768, .f32⟩ : BufTy).Contents (Elt F))
  :: StableHlo.unary main_v26 main_v28 ((extractStridedSlice S2x24x768 ![2, 0, 0] · slices_S4x24x768_S2x24x768_2_0_0) : (⟨S4x24x768, .f32⟩ : BufTy).Contents (Elt F) → (⟨S2x24x768, .f32⟩ : BufTy).Contents (Elt F))
  :: StableHlo.unary main_v27 main_v29 (broadcastInDim S2x1x24x768 ![0, 2, 3] bcast_S2x24x768_S2x1x24x768_0_2_3 : (⟨S2x24x768, .f32⟩ : BufTy).Contents (Elt F) → (⟨S2x1x24x768, .f32⟩ : BufTy).Contents (Elt F))
  :: StableHlo.unary main_v28 main_v30 (broadcastInDim S2x1x24x768 ![0, 2, 3] bcast_S2x24x768_S2x1x24x768_0_2_3 : (⟨S2x24x768, .f32⟩ : BufTy).Contents (Elt F) → (⟨S2x1x24x768, .f32⟩ : BufTy).Contents (Elt F))
  :: StableHlo.binary main_v29 main_v30 main_v31 ((fun a b => concatenate S2x2x24x768 1 [⟨S2x1x24x768, a⟩, ⟨S2x1x24x768, b⟩] concatenates_S2x1x24x768_S2x1x24x768_S2x2x24x768_d1) : (⟨S2x1x24x768, .f32⟩ : BufTy).Contents (Elt F) → (⟨S2x1x24x768, .f32⟩ : BufTy).Contents (Elt F) → (⟨S2x2x24x768, .f32⟩ : BufTy).Contents (Elt F))
  :: StableHlo.unary main_arg9 main_v32 ((transpose S4x4x768 [0, 2, 1] · transposes_S4x768x4_S4x4x768_0_2_1) : (⟨S4x768x4, .f32⟩ : BufTy).Contents (Elt F) → (⟨S4x4x768, .f32⟩ : BufTy).Contents (Elt F))
  :: StableHlo.unary main_v32 main_v33 ((extractStridedSlice S2x4x768 ![0, 0, 0] · slices_S4x4x768_S2x4x768_0_0_0) : (⟨S4x4x768, .f32⟩ : BufTy).Contents (Elt F) → (⟨S2x4x768, .f32⟩ : BufTy).Contents (Elt F))
  :: StableHlo.unary main_v32 main_v34 ((extractStridedSlice S2x4x768 ![2, 0, 0] · slices_S4x4x768_S2x4x768_2_0_0) : (⟨S4x4x768, .f32⟩ : BufTy).Contents (Elt F) → (⟨S2x4x768, .f32⟩ : BufTy).Contents (Elt F))
  :: StableHlo.unary main_v33 main_v35 (broadcastInDim S2x1x4x768 ![0, 2, 3] bcast_S2x4x768_S2x1x4x768_0_2_3 : (⟨S2x4x768, .f32⟩ : BufTy).Contents (Elt F) → (⟨S2x1x4x768, .f32⟩ : BufTy).Contents (Elt F))
  :: StableHlo.unary main_v34 main_v36 (broadcastInDim S2x1x4x768 ![0, 2, 3] bcast_S2x4x768_S2x1x4x768_0_2_3 : (⟨S2x4x768, .f32⟩ : BufTy).Contents (Elt F) → (⟨S2x1x4x768, .f32⟩ : BufTy).Contents (Elt F))
  :: StableHlo.binary main_v35 main_v36 main_v37 ((fun a b => concatenate S2x2x4x768 1 [⟨S2x1x4x768, a⟩, ⟨S2x1x4x768, b⟩] concatenates_S2x1x4x768_S2x1x4x768_S2x2x4x768_d1) : (⟨S2x1x4x768, .f32⟩ : BufTy).Contents (Elt F) → (⟨S2x1x4x768, .f32⟩ : BufTy).Contents (Elt F) → (⟨S2x2x4x768, .f32⟩ : BufTy).Contents (Elt F))
  :: StableHlo.unary main_arg8 main_v38 ((extractStridedSlice S2x768 ![0, 0] · slices_S4x768_S2x768_0_0) : (⟨S4x768, .f32⟩ : BufTy).Contents (Elt F) → (⟨S2x768, .f32⟩ : BufTy).Contents (Elt F))
  :: StableHlo.unary main_arg8 main_v39 ((extractStridedSlice S2x768 ![2, 0] · slices_S4x768_S2x768_2_0) : (⟨S4x768, .f32⟩ : BufTy).Contents (Elt F) → (⟨S2x768, .f32⟩ : BufTy).Contents (Elt F))
  :: StableHlo.unary main_v38 main_v40 (broadcastInDim S2x1x768 ![0, 2] bcast_S2x768_S2x1x768_0_2 : (⟨S2x768, .f32⟩ : BufTy).Contents (Elt F) → (⟨S2x1x768, .f32⟩ : BufTy).Contents (Elt F))
  :: StableHlo.unary main_v39 main_v41 (broadcastInDim S2x1x768 ![0, 2] bcast_S2x768_S2x1x768_0_2 : (⟨S2x768, .f32⟩ : BufTy).Contents (Elt F) → (⟨S2x1x768, .f32⟩ : BufTy).Contents (Elt F))
  :: StableHlo.binary main_v40 main_v41 main_v42 ((fun a b => concatenate S2x2x768 1 [⟨S2x1x768, a⟩, ⟨S2x1x768, b⟩] concatenates_S2x1x768_S2x1x768_S2x2x768_d1) : (⟨S2x1x768, .f32⟩ : BufTy).Contents (Elt F) → (⟨S2x1x768, .f32⟩ : BufTy).Contents (Elt F) → (⟨S2x2x768, .f32⟩ : BufTy).Contents (Elt F))
  :: StableHlo.reshape main_v42 main_v43 (rfl : (.f32 : EltTy) = .f32) shapeCasts_S2x2x768_S2x2x1x768
  :: StableHlo.unary main_arg10 main_v44 ((extractStridedSlice S2x768 ![0, 0] · slices_S4x768_S2x768_0_0) : (⟨S4x768, .f32⟩ : BufTy).Contents (Elt F) → (⟨S2x768, .f32⟩ : BufTy).Contents (Elt F))
  :: StableHlo.unary main_arg10 main_v45 ((extractStridedSlice S2x768 ![2, 0] · slices_S4x768_S2x768_2_0) : (⟨S4x768, .f32⟩ : BufTy).Contents (Elt F) → (⟨S2x768, .f32⟩ : BufTy).Contents (Elt F))
  :: StableHlo.unary main_v44 main_v46 (broadcastInDim S2x1x768 ![0, 2] bcast_S2x768_S2x1x768_0_2 : (⟨S2x768, .f32⟩ : BufTy).Contents (Elt F) → (⟨S2x1x768, .f32⟩ : BufTy).Contents (Elt F))
  :: StableHlo.unary main_v45 main_v47 (broadcastInDim S2x1x768 ![0, 2] bcast_S2x768_S2x1x768_0_2 : (⟨S2x768, .f32⟩ : BufTy).Contents (Elt F) → (⟨S2x1x768, .f32⟩ : BufTy).Contents (Elt F))
  :: StableHlo.binary main_v46 main_v47 main_v48 ((fun a b => concatenate S2x2x768 1 [⟨S2x1x768, a⟩, ⟨S2x1x768, b⟩] concatenates_S2x1x768_S2x1x768_S2x2x768_d1) : (⟨S2x1x768, .f32⟩ : BufTy).Contents (Elt F) → (⟨S2x1x768, .f32⟩ : BufTy).Contents (Elt F) → (⟨S2x2x768, .f32⟩ : BufTy).Contents (Elt F))
  :: StableHlo.reshape main_v48 main_v49 (rfl : (.f32 : EltTy) = .f32) shapeCasts_S2x2x768_S2x2x1x768
  :: [] )
theorem hostOps1_sub : (hostOps1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub ..⟩
abbrev hostOps2 : List (HloOp τ sig (Elt F)) :=
  [ StableHlo.reshape main_arg11 main_v51 (rfl : (.f32 : EltTy) = .f32) shapeCasts_S768_S1x768,
    StableHlo.reshape main_arg12 main_v52 (rfl : (.f32 : EltTy) = .f32) shapeCasts_S768_S1x768,
    StableHlo.unary main_arg13 main_v53 ((transpose S768x384 [1, 0] · transposes_S384x768_S768x384_1_0) : (⟨S384x768, .f32⟩ : BufTy).Contents (Elt F) → (⟨S768x384, .f32⟩ : BufTy).Contents (Elt F)),
    StableHlo.reshape main_arg14 main_v54 (rfl : (.f32 : EltTy) = .f32) shapeCasts_S384_S1x384,
    StableHlo.reshape main_arg15 main_v55 (rfl : (.f32 : EltTy) = .f32) shapeCasts_S384_S1x384,
    StableHlo.unary main_arg16 main_v56 ((transpose S384x1536 [1, 0] · transposes_S1536x384_S384x1536_1_0) : (⟨S1536x384, .f32⟩ : BufTy).Contents (Elt F) → (⟨S384x1536, .f32⟩ : BufTy).Contents (Elt F)),
    StableHlo.reshape main_arg17 main_v57 (rfl : (.f32 : EltTy) = .f32) shapeCasts_S1536_S1x1536,
    StableHlo.unary main_arg18 main_v58 ((transpose S1536x384 [1, 0] · transposes_S384x1536_S1536x384_1_0) : (⟨S384x1536, .f32⟩ : BufTy).Contents (Elt F) → (⟨S1536x384, .f32⟩ : BufTy).Contents (Elt F)),
    StableHlo.reshape main_arg19 main_v59 (rfl : (.f32 : EltTy) = .f32) shapeCasts_S384_S1x384 ]
theorem hostOps2_sub : (hostOps2 : List (HloOp τ sig (Elt F))).Forall fun op => op.bufs ⊆ StableHlo.tcRefs τ sig :=
  ⟨StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.unary_bufs_sub .., StableHlo.reshape_bufs_sub ..⟩
abbrev hostOps3 : List (HloOp τ sig (Elt F)) :=
  [ StableHlo.reshape main_v60 main_v61 (rfl : (.f32 : EltTy) = .f32) shapeCasts_S8x1024x384_S8x32x32x384 ]
theorem hostOps3_sub : (hostOps3 : List (HloOp τ sig (Elt F))).Forall fun op => op.bufs ⊆ StableHlo.tcRefs τ sig :=
  StableHlo.reshape_bufs_sub ..
abbrev main_part0_ops0 : List (HloOp τ sig (Elt F)) :=
  [ StableHlo.unary main_arg0 main_v0 ((transpose S8x32x32x384 [0, 2, 3, 1] · transposes_S8x384x32x32_S8x32x32x384_0_2_3_1) : (⟨S8x384x32x32, .f32⟩ : BufTy).Contents (Elt F) → (⟨S8x32x32x384, .f32⟩ : BufTy).Contents (Elt F)),
    StableHlo.reshape main_v0 main_v1 (rfl : (.f32 : EltTy) = .f32) shapeCasts_S8x32x32x384_S8x1024x384,
    StableHlo.nullary main_cst (constant S_ .f32 0x00000000#32),
    StableHlo.unary main_cst main_v2 (broadcastInDim S16x768 ![] bcast_S_S16x768 : (⟨S_, .f32⟩ : BufTy).Contents (Elt F) → (⟨S16x768, .f32⟩ : BufTy).Contents (Elt F)),
    StableHlo.reshape main_arg4 main_v3 (rfl : (.f32 : EltTy) = .f32) shapeCasts_S768x1x3x3_S768x9,
    StableHlo.unary main_v3 main_v4 ((transpose S9x768 [1, 0] · transposes_S768x9_S9x768_1_0) : (⟨S768x9, .f32⟩ : BufTy).Contents (Elt F) → (⟨S9x768, .f32⟩ : BufTy).Contents (Elt F)),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.ternary main_v2 main_v5 main_v4 main_v6 ((fun x i u => Host.scatter scatter_S16x768_S1_S9x768_01_n_0_0 (fun _ b => b) x i u) : (⟨S16x768, .f32⟩ : BufTy).Contents (Elt F) → (⟨S1, .i32⟩ : BufTy).Contents (Elt F) → (⟨S9x768, .f32⟩ : BufTy).Contents (Elt F) → (⟨S16x768, .f32⟩ : BufTy).Contents (Elt F)),
    StableHlo.reshape main_arg1 main_v7 (rfl : (.f32 : EltTy) = .f32) shapeCasts_S384_S1x384,
    StableHlo.reshape main_arg2 main_v8 (rfl : (.f32 : EltTy) = .f32) shapeCasts_S384_S1x384,
    StableHlo.unary main_arg3 main_v9 ((transpose S384x1536 [1, 0] · transposes_S1536x384_S384x1536_1_0) : (⟨S1536x384, .f32⟩ : BufTy).Contents (Elt F) → (⟨S384x1536, .f32⟩ : BufTy).Contents (Elt F)),
    StableHlo.reshape main_arg5 main_v10 (rfl : (.f32 : EltTy) = .f32) shapeCasts_S768_S1x768 ]
theorem main_part0_ops0_sub : (main_part0_ops0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.ternary_bufs_sub .., StableHlo.reshape_bufs_sub .., StableHlo.reshape_bufs_sub .., StableHlo.unary_bufs_sub .., StableHlo.reshape_bufs_sub ..⟩
abbrev main_part0_ops1 : List (HloOp τ sig (Elt F)) :=
  ( StableHlo.unary main_arg6 main_v12 ((extractStridedSlice S4x24x768 ![0, 0, 0] · slices_S4x32x768_S4x24x768_0_0_0) : (⟨S4x32x768, .f32⟩ : BufTy).Contents (Elt F) → (⟨S4x24x768, .f32⟩ : BufTy).Contents (Elt F))
  :: StableHlo.unary main_v12 main_v13 ((transpose S4x768x24 [0, 2, 1] · transposes_S4x24x768_S4x768x24_0_2_1) : (⟨S4x24x768, .f32⟩ : BufTy).Contents (Elt F) → (⟨S4x768x24, .f32⟩ : BufTy).Contents (Elt F))
  :: StableHlo.unary main_v13 main_v14 ((extractStridedSlice S2x768x24 ![0, 0, 0] · slices_S4x768x24_S2x768x24_0_0_0) : (⟨S4x768x24, .f32⟩ : BufTy).Contents (Elt F) → (⟨S2x768x24, .f32⟩ : BufTy).Contents (Elt F))
  :: StableHlo.unary main_v13 main_v15 ((extractStridedSlice S2x768x24 ![2, 0, 0] · slices_S4x768x24_S2x768x24_2_0_0) : (⟨S4x768x24, .f32⟩ : BufTy).Contents (Elt F) → (⟨S2x768x24, .f32⟩ : BufTy).Contents (Elt F))
  :: StableHlo.unary main_v14 main_v16 (broadcastInDim S2x1x768x24 ![0, 2, 3] bcast_S2x768x24_S2x1x768x24_0_2_3 : (⟨S2x768x24, .f32⟩ : BufTy).Contents (Elt F) → (⟨S2x1x768x24, .f32⟩ : BufTy).Contents (Elt F))
  :: StableHlo.unary main_v15 main_v17 (broadcastInDim S2x1x768x24 ![0, 2, 3] bcast_S2x768x24_S2x1x768x24_0_2_3 : (⟨S2x768x24, .f32⟩ : BufTy).Contents (Elt F) → (⟨S2x1x768x24, .f32⟩ : BufTy).Contents (Elt F))
  :: StableHlo.binary main_v16 main_v17 main_v18 ((fun a b => concatenate S2x2x768x24 1 [⟨S2x1x768x24, a⟩, ⟨S2x1x768x24, b⟩] concatenates_S2x1x768x24_S2x1x768x24_S2x2x768x24_d1) : (⟨S2x1x768x24, .f32⟩ : BufTy).Contents (Elt F) → (⟨S2x1x768x24, .f32⟩ : BufTy).Contents (Elt F) → (⟨S2x2x768x24, .f32⟩ : BufTy).Contents (Elt F))
  :: StableHlo.unary main_arg6 main_v19 ((extractStridedSlice S4x8x768 ![0, 24, 0] · slices_S4x32x768_S4x8x768_0_24_0) : (⟨S4x32x768, .f32⟩ : BufTy).Contents (Elt F) → (⟨S4x8x768, .f32⟩ : BufTy).Contents (Elt F))
  :: StableHlo.unary main_v19 main_v20 ((transpose S4x768x8 [0, 2, 1] · transposes_S4x8x768_S4x768x8_0_2_1) : (⟨S4x8x768, .f32⟩ : BufTy).Contents (Elt F) → (⟨S4x768x8, .f32⟩ : BufTy).Contents (Elt F))
  :: StableHlo.unary main_v20 main_v21 ((extractStridedSlice S2x768x8 ![0, 0, 0] · slices_S4x768x8_S2x768x8_0_0_0) : (⟨S4x768x8, .f32⟩ : BufTy).Contents (Elt F) → (⟨S2x768x8, .f32⟩ : BufTy).Contents (Elt F))
  :: StableHlo.unary main_v20 main_v22 ((extractStridedSlice S2x768x8 ![2, 0, 0] · slices_S4x768x8_S2x768x8_2_0_0) : (⟨S4x768x8, .f32⟩ : BufTy).Contents (Elt F) → (⟨S2x768x8, .f32⟩ : BufTy).Contents (Elt F))
  :: StableHlo.unary main_v21 main_v23 (broadcastInDim S2x1x768x8 ![0, 2, 3] bcast_S2x768x8_S2x1x768x8_0_2_3 : (⟨S2x768x8, .f32⟩ : BufTy).Contents (Elt F) → (⟨S2x1x768x8, .f32⟩ : BufTy).Contents (Elt F))
  :: StableHlo.unary main_v22 main_v24 (broadcastInDim S2x1x768x8 ![0, 2, 3] bcast_S2x768x8_S2x1x768x8_0_2_3 : (⟨S2x768x8, .f32⟩ : BufTy).Contents (Elt F) → (⟨S2x1x768x8, .f32⟩ : BufTy).Contents (Elt F))
  :: StableHlo.binary main_v23 main_v24 main_v25 ((fun a b => concatenate S2x2x768x8 1 [⟨S2x1x768x8, a⟩, ⟨S2x1x768x8, b⟩] concatenates_S2x1x768x8_S2x1x768x8_S2x2x768x8_d1) : (⟨S2x1x768x8, .f32⟩ : BufTy).Contents (Elt F) → (⟨S2x1x768x8, .f32⟩ : BufTy).Contents (Elt F) → (⟨S2x2x768x8, .f32⟩ : BufTy).Contents (Elt F))
  :: StableHlo.unary main_arg7 main_v26 ((transpose S4x24x768 [0, 2, 1] · transposes_S4x768x24_S4x24x768_0_2_1) : (⟨S4x768x24, .f32⟩ : BufTy).Contents (Elt F) → (⟨S4x24x768, .f32⟩ : BufTy).Contents (Elt F))
  :: StableHlo.unary main_v26 main_v27 ((extractStridedSlice S2x24x768 ![0, 0, 0] · slices_S4x24x768_S2x24x768_0_0_0) : (⟨S4x24x768, .f32⟩ : BufTy).Contents (Elt F) → (⟨S2x24x768, .f32⟩ : BufTy).Contents (Elt F))
  :: StableHlo.unary main_v26 main_v28 ((extractStridedSlice S2x24x768 ![2, 0, 0] · slices_S4x24x768_S2x24x768_2_0_0) : (⟨S4x24x768, .f32⟩ : BufTy).Contents (Elt F) → (⟨S2x24x768, .f32⟩ : BufTy).Contents (Elt F))
  :: StableHlo.unary main_v27 main_v29 (broadcastInDim S2x1x24x768 ![0, 2, 3] bcast_S2x24x768_S2x1x24x768_0_2_3 : (⟨S2x24x768, .f32⟩ : BufTy).Contents (Elt F) → (⟨S2x1x24x768, .f32⟩ : BufTy).Contents (Elt F))
  :: StableHlo.unary main_v28 main_v30 (broadcastInDim S2x1x24x768 ![0, 2, 3] bcast_S2x24x768_S2x1x24x768_0_2_3 : (⟨S2x24x768, .f32⟩ : BufTy).Contents (Elt F) → (⟨S2x1x24x768, .f32⟩ : BufTy).Contents (Elt F))
  :: StableHlo.binary main_v29 main_v30 main_v31 ((fun a b => concatenate S2x2x24x768 1 [⟨S2x1x24x768, a⟩, ⟨S2x1x24x768, b⟩] concatenates_S2x1x24x768_S2x1x24x768_S2x2x24x768_d1) : (⟨S2x1x24x768, .f32⟩ : BufTy).Contents (Elt F) → (⟨S2x1x24x768, .f32⟩ : BufTy).Contents (Elt F) → (⟨S2x2x24x768, .f32⟩ : BufTy).Contents (Elt F))
  :: StableHlo.unary main_arg9 main_v32 ((transpose S4x4x768 [0, 2, 1] · transposes_S4x768x4_S4x4x768_0_2_1) : (⟨S4x768x4, .f32⟩ : BufTy).Contents (Elt F) → (⟨S4x4x768, .f32⟩ : BufTy).Contents (Elt F))
  :: StableHlo.unary main_v32 main_v33 ((extractStridedSlice S2x4x768 ![0, 0, 0] · slices_S4x4x768_S2x4x768_0_0_0) : (⟨S4x4x768, .f32⟩ : BufTy).Contents (Elt F) → (⟨S2x4x768, .f32⟩ : BufTy).Contents (Elt F))
  :: StableHlo.unary main_v32 main_v34 ((extractStridedSlice S2x4x768 ![2, 0, 0] · slices_S4x4x768_S2x4x768_2_0_0) : (⟨S4x4x768, .f32⟩ : BufTy).Contents (Elt F) → (⟨S2x4x768, .f32⟩ : BufTy).Contents (Elt F))
  :: StableHlo.unary main_v33 main_v35 (broadcastInDim S2x1x4x768 ![0, 2, 3] bcast_S2x4x768_S2x1x4x768_0_2_3 : (⟨S2x4x768, .f32⟩ : BufTy).Contents (Elt F) → (⟨S2x1x4x768, .f32⟩ : BufTy).Contents (Elt F))
  :: StableHlo.unary main_v34 main_v36 (broadcastInDim S2x1x4x768 ![0, 2, 3] bcast_S2x4x768_S2x1x4x768_0_2_3 : (⟨S2x4x768, .f32⟩ : BufTy).Contents (Elt F) → (⟨S2x1x4x768, .f32⟩ : BufTy).Contents (Elt F))
  :: StableHlo.binary main_v35 main_v36 main_v37 ((fun a b => concatenate S2x2x4x768 1 [⟨S2x1x4x768, a⟩, ⟨S2x1x4x768, b⟩] concatenates_S2x1x4x768_S2x1x4x768_S2x2x4x768_d1) : (⟨S2x1x4x768, .f32⟩ : BufTy).Contents (Elt F) → (⟨S2x1x4x768, .f32⟩ : BufTy).Contents (Elt F) → (⟨S2x2x4x768, .f32⟩ : BufTy).Contents (Elt F))
  :: StableHlo.unary main_arg8 main_v38 ((extractStridedSlice S2x768 ![0, 0] · slices_S4x768_S2x768_0_0) : (⟨S4x768, .f32⟩ : BufTy).Contents (Elt F) → (⟨S2x768, .f32⟩ : BufTy).Contents (Elt F))
  :: StableHlo.unary main_arg8 main_v39 ((extractStridedSlice S2x768 ![2, 0] · slices_S4x768_S2x768_2_0) : (⟨S4x768, .f32⟩ : BufTy).Contents (Elt F) → (⟨S2x768, .f32⟩ : BufTy).Contents (Elt F))
  :: StableHlo.unary main_v38 main_v40 (broadcastInDim S2x1x768 ![0, 2] bcast_S2x768_S2x1x768_0_2 : (⟨S2x768, .f32⟩ : BufTy).Contents (Elt F) → (⟨S2x1x768, .f32⟩ : BufTy).Contents (Elt F))
  :: StableHlo.unary main_v39 main_v41 (broadcastInDim S2x1x768 ![0, 2] bcast_S2x768_S2x1x768_0_2 : (⟨S2x768, .f32⟩ : BufTy).Contents (Elt F) → (⟨S2x1x768, .f32⟩ : BufTy).Contents (Elt F))
  :: StableHlo.binary main_v40 main_v41 main_v42 ((fun a b => concatenate S2x2x768 1 [⟨S2x1x768, a⟩, ⟨S2x1x768, b⟩] concatenates_S2x1x768_S2x1x768_S2x2x768_d1) : (⟨S2x1x768, .f32⟩ : BufTy).Contents (Elt F) → (⟨S2x1x768, .f32⟩ : BufTy).Contents (Elt F) → (⟨S2x2x768, .f32⟩ : BufTy).Contents (Elt F))
  :: StableHlo.reshape main_v42 main_v43 (rfl : (.f32 : EltTy) = .f32) shapeCasts_S2x2x768_S2x2x1x768
  :: StableHlo.unary main_arg10 main_v44 ((extractStridedSlice S2x768 ![0, 0] · slices_S4x768_S2x768_0_0) : (⟨S4x768, .f32⟩ : BufTy).Contents (Elt F) → (⟨S2x768, .f32⟩ : BufTy).Contents (Elt F))
  :: StableHlo.unary main_arg10 main_v45 ((extractStridedSlice S2x768 ![2, 0] · slices_S4x768_S2x768_2_0) : (⟨S4x768, .f32⟩ : BufTy).Contents (Elt F) → (⟨S2x768, .f32⟩ : BufTy).Contents (Elt F))
  :: StableHlo.unary main_v44 main_v46 (broadcastInDim S2x1x768 ![0, 2] bcast_S2x768_S2x1x768_0_2 : (⟨S2x768, .f32⟩ : BufTy).Contents (Elt F) → (⟨S2x1x768, .f32⟩ : BufTy).Contents (Elt F))
  :: StableHlo.unary main_v45 main_v47 (broadcastInDim S2x1x768 ![0, 2] bcast_S2x768_S2x1x768_0_2 : (⟨S2x768, .f32⟩ : BufTy).Contents (Elt F) → (⟨S2x1x768, .f32⟩ : BufTy).Contents (Elt F))
  :: StableHlo.binary main_v46 main_v47 main_v48 ((fun a b => concatenate S2x2x768 1 [⟨S2x1x768, a⟩, ⟨S2x1x768, b⟩] concatenates_S2x1x768_S2x1x768_S2x2x768_d1) : (⟨S2x1x768, .f32⟩ : BufTy).Contents (Elt F) → (⟨S2x1x768, .f32⟩ : BufTy).Contents (Elt F) → (⟨S2x2x768, .f32⟩ : BufTy).Contents (Elt F))
  :: StableHlo.reshape main_v48 main_v49 (rfl : (.f32 : EltTy) = .f32) shapeCasts_S2x2x768_S2x2x1x768
  :: [] )
theorem main_part0_ops1_sub : (main_part0_ops1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub ..⟩
abbrev main_part0_ops2 : List (HloOp τ sig (Elt F)) :=
  [ StableHlo.reshape main_arg11 main_v51 (rfl : (.f32 : EltTy) = .f32) shapeCasts_S768_S1x768,
    StableHlo.reshape main_arg12 main_v52 (rfl : (.f32 : EltTy) = .f32) shapeCasts_S768_S1x768,
    StableHlo.unary main_arg13 main_v53 ((transpose S768x384 [1, 0] · transposes_S384x768_S768x384_1_0) : (⟨S384x768, .f32⟩ : BufTy).Contents (Elt F) → (⟨S768x384, .f32⟩ : BufTy).Contents (Elt F)),
    StableHlo.reshape main_arg14 main_v54 (rfl : (.f32 : EltTy) = .f32) shapeCasts_S384_S1x384,
    StableHlo.reshape main_arg15 main_v55 (rfl : (.f32 : EltTy) = .f32) shapeCasts_S384_S1x384,
    StableHlo.unary main_arg16 main_v56 ((transpose S384x1536 [1, 0] · transposes_S1536x384_S384x1536_1_0) : (⟨S1536x384, .f32⟩ : BufTy).Contents (Elt F) → (⟨S384x1536, .f32⟩ : BufTy).Contents (Elt F)),
    StableHlo.reshape main_arg17 main_v57 (rfl : (.f32 : EltTy) = .f32) shapeCasts_S1536_S1x1536 ]
theorem main_part0_ops2_sub : (main_part0_ops2 : List (HloOp τ sig (Elt F))).Forall fun op => op.bufs ⊆ StableHlo.tcRefs τ sig :=
  ⟨StableHlo.reshape_bufs_sub .., StableHlo.reshape_bufs_sub .., StableHlo.unary_bufs_sub .., StableHlo.reshape_bufs_sub .., StableHlo.reshape_bufs_sub .., StableHlo.unary_bufs_sub .., StableHlo.reshape_bufs_sub ..⟩
theorem main_part0_chain (c : Dev nD) : main_part0 (F := F) c = (Pipeline.chainK
  [ StableHlo.seq main_part0_ops0,
    Prog.lift (.customCall (Pipeline.entry 0) ()),
    StableHlo.seq main_part0_ops1,
    Prog.lift (.customCall (Pipeline.entry 1) ()) ]
  (StableHlo.seq main_part0_ops2) : Prog (TpuEff nD τ sig (Elt F) (Pipeline.Sig Λ₀ (Fin 3) fun p => (pcfgs (F := F) p).Adm) .tc) PUnit) := by
  rewrite [StableHlo.chainK_seq_cons, Pipeline.chainK_cons, StableHlo.chainK_seq_cons, Pipeline.chainK_cons]
  chain_rfl

abbrev main_part1_ops0 : List (HloOp τ sig (Elt F)) :=
  [ StableHlo.unary main_arg18 main_v58 ((transpose S1536x384 [1, 0] · transposes_S384x1536_S1536x384_1_0) : (⟨S384x1536, .f32⟩ : BufTy).Contents (Elt F) → (⟨S1536x384, .f32⟩ : BufTy).Contents (Elt F)),
    StableHlo.reshape main_arg19 main_v59 (rfl : (.f32 : EltTy) = .f32) shapeCasts_S384_S1x384 ]
theorem main_part1_ops0_sub : (main_part1_ops0 : List (HloOp τ sig (Elt F))).Forall fun op => op.bufs ⊆ StableHlo.tcRefs τ sig :=
  ⟨StableHlo.unary_bufs_sub .., StableHlo.reshape_bufs_sub ..⟩
abbrev main_part1_ops1 : List (HloOp τ sig (Elt F)) :=
  [ StableHlo.reshape main_v60 main_v61 (rfl : (.f32 : EltTy) = .f32) shapeCasts_S8x1024x384_S8x32x32x384 ]
theorem main_part1_ops1_sub : (main_part1_ops1 : List (HloOp τ sig (Elt F))).Forall fun op => op.bufs ⊆ StableHlo.tcRefs τ sig :=
  StableHlo.reshape_bufs_sub ..
theorem main_part1_chain (c : Dev nD) : main_part1 (F := F) c = (Pipeline.chain
  [ StableHlo.seq main_part1_ops0,
    Prog.lift (.customCall (Pipeline.entry 2) ()),
    StableHlo.seq main_part1_ops1 ] : Prog (TpuEff nD τ sig (Elt F) (Pipeline.Sig Λ₀ (Fin 3) fun p => (pcfgs (F := F) p).Adm) .tc) PUnit) := by
  rewrite [StableHlo.chain_seq_cons, Pipeline.chain_cons, StableHlo.chain_seq_cons]
  chain_rfl

theorem main_chain_windows (c : Dev nD) : main (F := F) c = (Pipeline.chain
  [ StableHlo.seq main_part0_ops0,
    Prog.lift (.customCall (Pipeline.entry 0) ()),
    StableHlo.seq main_part0_ops1,
    Prog.lift (.customCall (Pipeline.entry 1) ()),
    StableHlo.seq main_part0_ops2,
    StableHlo.seq main_part1_ops0,
    Prog.lift (.customCall (Pipeline.entry 2) ()),
    StableHlo.seq main_part1_ops1 ] : Prog (TpuEff nD τ sig (Elt F) (Pipeline.Sig Λ₀ (Fin 3) fun p => (pcfgs (F := F) p).Adm) .tc) PUnit) := by
  show (main_part0 (F := F) c >>= fun _ => main_part1 (F := F) c) = _
  rewrite [main_part1_chain, main_part0_chain, Pipeline.chainK_bind_chain]
  chain_rfl

abbrev main_groups (c : Dev nD) : List (StableHlo.Group nD τ sig (Elt F) (Pipeline.Sig Λ₀ (Fin 3) fun p => (pcfgs (F := F) p).Adm)) :=
  [ .ops [main_part0_ops0],
    .prog (Prog.lift (.customCall (Pipeline.entry 0) ())),
    .ops [main_part0_ops1],
    .prog (Prog.lift (.customCall (Pipeline.entry 1) ())),
    .ops [main_part0_ops2, main_part1_ops0],
    .prog (Prog.lift (.customCall (Pipeline.entry 2) ())),
    .ops [main_part1_ops1] ]

theorem main_chain_cut (c : Dev nD) : (Pipeline.chain
  [ StableHlo.seq main_part0_ops0,
    Prog.lift (.customCall (Pipeline.entry 0) ()),
    StableHlo.seq main_part0_ops1,
    Prog.lift (.customCall (Pipeline.entry 1) ()),
    StableHlo.seq main_part0_ops2,
    StableHlo.seq main_part1_ops0,
    Prog.lift (.customCall (Pipeline.entry 2) ()),
    StableHlo.seq main_part1_ops1 ] : Prog (TpuEff nD τ sig (Elt F) (Pipeline.Sig Λ₀ (Fin 3) fun p => (pcfgs (F := F) p).Adm) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3 ] : Prog (TpuEff nD τ sig (Elt F) (Pipeline.Sig Λ₀ (Fin 3) fun p => (pcfgs (F := F) p).Adm) .tc) PUnit) := by
  chain_rfl

theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3 ] : Prog (TpuEff nD τ sig (Elt F) (Pipeline.Sig Λ₀ (Fin 3) fun p => (pcfgs (F := F) p).Adm) .tc) PUnit) :=
  (main_chain_windows (F := F) c).trans <| (main_chain_cut (F := F) c).trans <|
    (StableHlo.chain_cut_eq_whole (main_groups (F := F) c)).trans (main_chain_whole (F := F) c)

end Cert.KernelIdeal.Lau

end
-- ==== Proof.Pre.lean ====
module

public import proofs.«01_k».proof.Proof.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The pre kernel: its body's triple at every grid point, and the proof data of its pipeline. -/

@[expose] public section

set_option maxRecDepth 16384

noncomputable section

namespace Cert.KernelIdeal.R0

open Cert.KernelIdeal.Gen Cert.KernelIdeal.Lau
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers the region is entered with
variable (V : (c : Dev nD) → (b : Ref sig .tc) → Buf (Elt F) ((c : Thread nD τ).loc b))

/-- Window `w`'s block at point `t`, read off the array the region is entered with. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx : Rect S1x1024x384 := Rect.unit (s := S1x1024x384) ![0, 0, 0] S1x1024x384.size inb_S1x1024x384_S1x1024x384_0_0_0
abbrev rg : Rect S1x384 := Rect.unit (s := S1x384) ![0, 0] S1x384.size inb_S1x384_S1x384_0_0
abbrev rw0 : Rect S384x1536 := Rect.unit (s := S384x1536) ![0, 0] S384x1536.size inb_S384x1536_S384x1536_0_0
abbrev rb : Rect S1x768 := Rect.unit (s := S1x768) ![0, 0] S1x768.size inb_S1x768_S1x768_0_0
abbrev rz : Rect S1x1024x768 := Rect.unit (s := S1x1024x768) ![0, 0, 0] S1x1024x768.size inb_S1x1024x768_S1x1024x768_0_0_0
abbrev rpad : Rect S34x34x768 := Rect.unit (s := S34x34x768) ![0, 0, 0] S34x34x768.size inb_S34x34x768_S34x34x768_0_0_0
abbrev rs0 : Rect S2x1x1024x768 := Rect.unit (s := S2x1x1024x768) ![0, 0, 0, 0] S1x1x1024x768.size inb_S2x1x1024x768_S1x1x1024x768_0_0_0_0
abbrev rs1 : Rect S2x1x1024x768 := Rect.unit (s := S2x1x1024x768) ![1, 0, 0, 0] S1x1x1024x768.size inb_S2x1x1024x768_S1x1x1024x768_1_0_0_0
abbrev rp00 : Rect S34x34x768 := Rect.unit (s := S34x34x768) ![0, 0, 0] S32x32x768.size inb_S34x34x768_S32x32x768_0_0_0
abbrev rp01 : Rect S34x34x768 := Rect.unit (s := S34x34x768) ![0, 1, 0] S32x32x768.size inb_S34x34x768_S32x32x768_0_1_0
abbrev rp02 : Rect S34x34x768 := Rect.unit (s := S34x34x768) ![0, 2, 0] S32x32x768.size inb_S34x34x768_S32x32x768_0_2_0
abbrev rp10 : Rect S34x34x768 := Rect.unit (s := S34x34x768) ![1, 0, 0] S32x32x768.size inb_S34x34x768_S32x32x768_1_0_0
abbrev rp11 : Rect S34x34x768 := Rect.unit (s := S34x34x768) ![1, 1, 0] S32x32x768.size inb_S34x34x768_S32x32x768_1_1_0
abbrev rp12 : Rect S34x34x768 := Rect.unit (s := S34x34x768) ![1, 2, 0] S32x32x768.size inb_S34x34x768_S32x32x768_1_2_0
abbrev rp20 : Rect S34x34x768 := Rect.unit (s := S34x34x768) ![2, 0, 0] S32x32x768.size inb_S34x34x768_S32x32x768_2_0_0
abbrev rp21 : Rect S34x34x768 := Rect.unit (s := S34x34x768) ![2, 1, 0] S32x32x768.size inb_S34x34x768_S32x32x768_2_1_0
abbrev rp22 : Rect S34x34x768 := Rect.unit (s := S34x34x768) ![2, 2, 0] S32x32x768.size inb_S34x34x768_S32x32x768_2_2_0
abbrev rc0 : Rect S16x768 := Rect.unit (s := S16x768) ![0, 0] S1x768.size inb_S16x768_S1x768_0_0
abbrev rc1 : Rect S16x768 := Rect.unit (s := S16x768) ![1, 0] S1x768.size inb_S16x768_S1x768_1_0
abbrev rc2 : Rect S16x768 := Rect.unit (s := S16x768) ![2, 0] S1x768.size inb_S16x768_S1x768_2_0
abbrev rc3 : Rect S16x768 := Rect.unit (s := S16x768) ![3, 0] S1x768.size inb_S16x768_S1x768_3_0
abbrev rc4 : Rect S16x768 := Rect.unit (s := S16x768) ![4, 0] S1x768.size inb_S16x768_S1x768_4_0
abbrev rc5 : Rect S16x768 := Rect.unit (s := S16x768) ![5, 0] S1x768.size inb_S16x768_S1x768_5_0
abbrev rc6 : Rect S16x768 := Rect.unit (s := S16x768) ![6, 0] S1x768.size inb_S16x768_S1x768_6_0
abbrev rc7 : Rect S16x768 := Rect.unit (s := S16x768) ![7, 0] S1x768.size inb_S16x768_S1x768_7_0
abbrev rc8 : Rect S16x768 := Rect.unit (s := S16x768) ![8, 0] S1x768.size inb_S16x768_S1x768_8_0

/-- The projection of the normalised block. -/
def proj (x0 : Vec F S1x1024x384 .f32) (x1 : Vec F S1x384 .f32) (x2 : Vec F S1x384 .f32) (x3 : Vec F S384x1536 .f32) : FVec F S1024x1536 .f32 :=
  k0_pay4 (View.ld x0 rx) (View.ld x1 rg) (View.ld x2 rg) (View.ld x3 rw0)

/-- The padded image the convolution reads: zeros, and the projection's first half inside. -/
def padded (x0 : Vec F S1x1024x384 .f32) (x1 : Vec F S1x384 .f32) (x2 : Vec F S1x384 .f32) (x3 : Vec F S384x1536 .f32) : Vec F S34x34x768 .f32 :=
  View.canon [⟨rp11, k0_pay8 (proj x0 x1 x2 x3)⟩, ⟨rpad, k0_pay7 k0_pay6⟩]

/-- The convolution's sum over its first three taps, and over its first eight. -/
def taps3 (p : Vec F S34x34x768 .f32) (x4 : Vec F S16x768 .f32) (x5 : Vec F S1x768 .f32) : FVec F S32x32x768 .f32 :=
  k0_pay9 (View.ld x5 rb) (View.ld p rp00) (View.ld x4 rc0) (View.ld p rp01) (View.ld x4 rc1) (View.ld p rp02) (View.ld x4 rc2)
def taps8 (p : Vec F S34x34x768 .f32) (x4 : Vec F S16x768 .f32) (x5 : Vec F S1x768 .f32) : FVec F S32x32x768 .f32 :=
  k0_pay10 (taps3 p x4 x5) (View.ld p rp10) (View.ld x4 rc3) (View.ld p rp11) (View.ld x4 rc4) (View.ld p rp12) (View.ld x4 rc5)
    (View.ld p rp20) (View.ld x4 rc6) (View.ld p rp21) (View.ld x4 rc7)

/-- What the body leaves in the buffer of the convolved image and its transpose, of the input blocks. -/
def out6 (x0 : Vec F S1x1024x384 .f32) (x1 : Vec F S1x384 .f32) (x2 : Vec F S1x384 .f32) (x3 : Vec F S384x1536 .f32) (x4 : Vec F S16x768 .f32) (x5 : Vec F S1x768 .f32) : Vec F S2x1x1024x768 .f32 :=
  View.canon [⟨rs1, k0_pay3 (taps8 (padded x0 x1 x2 x3) x4 x5) (View.ld (padded x0 x1 x2 x3) rp22) (View.ld x4 rc8)⟩,
    ⟨rs0, k0_pay2 (taps8 (padded x0 x1 x2 x3) x4 x5) (View.ld (padded x0 x1 x2 x3) rp22) (View.ld x4 rc8)⟩]

/-- What the body leaves in the gate's buffer. -/
def out7 (x0 : Vec F S1x1024x384 .f32) (x1 : Vec F S1x384 .f32) (x2 : Vec F S1x384 .f32) (x3 : Vec F S384x1536 .f32) : Vec F S1x1024x768 .f32 :=
  View.canon [⟨rz, k0_pay5 (View.ld x0 rx) (View.ld x1 rg) (View.ld x2 rg) (View.ld x3 rw0)⟩]

/-- The stores cover the two results' buffers. -/
theorem cover7 (p0 : Vec F S1x1024x768 .f32) (y : S1x1024x768.Idx) :
    ∃ pc ∈ ([⟨rz, p0⟩] : List (View.Piece (Elt F) S1x1024x768 .f32)), y ∈ pc.1.set :=
  View.cover_of_tiled [⟨rz, p0⟩] S1x1024x768.size (by rfl) y
theorem cover6 (p1 p0 : Vec F S1x1x1024x768 .f32) (y : S2x1x1024x768.Idx) :
    ∃ pc ∈ ([⟨rs1, p1⟩, ⟨rs0, p0⟩] : List (View.Piece (Elt F) S2x1x1024x768 .f32)), y ∈ pc.1.set :=
  View.cover_of_tiled [⟨rs1, p1⟩, ⟨rs0, p0⟩] S1x1x1024x768.size (by rfl) y

set_option maxHeartbeats 1000000 in
/-- The body's triple on whole staging buffers: the inputs' stay, the results' are `out6` and `out7` of them. -/
theorem sound_kernel (c : Dev nD) (i : grid0.Coords) (arg1 : Memref sig .tc .vmem S1x1024x384 .f32) (harg1 : arg1.IsWhole) (arg2 : Memref sig .tc .vmem S1x384 .f32) (harg2 : arg2.IsWhole) (arg3 : Memref sig .tc .vmem S1x384 .f32) (harg3 : arg3.IsWhole) (arg4 : Memref sig .tc .vmem S384x1536 .f32) (harg4 : arg4.IsWhole) (arg5 : Memref sig .tc .vmem S16x768 .f32) (harg5 : arg5.IsWhole) (arg6 : Memref sig .tc .vmem S1x768 .f32) (harg6 : arg6.IsWhole) (arg7 : Memref sig .tc .vmem S2x1x1024x768 .f32) (harg7 : arg7.IsWhole) (arg8 : Memref sig .tc .vmem S1x1024x768 .f32) (harg8 : arg8.IsWhole) (arg9 : Memref sig .tc .vmem S34x34x768 .f32) (harg9 : arg9.IsWhole)
    (x0 : Vec F S1x1024x384 .f32) (x1 : Vec F S1x384 .f32) (x2 : Vec F S1x384 .f32) (x3 : Vec F S384x1536 .f32) (x4 : Vec F S16x768 .f32) (x5 : Vec F S1x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5) ∗ owns (c : Thread nD τ) arg8 fullShare (out7 x0 x1 x2 x3) ∗ (∃ d, owns (c : Thread nD τ) arg9 fullShare d)) -∗ K ⟨⟩))
          ⊢ wp frame (wpE (defs₀ (F := F)) Variants.none c none) E (cc0_mamba_pre i arg1 harg1 arg2 harg2 arg3 harg3 arg4 harg4 arg5 harg5 arg6 harg6 arg7 harg7 arg8 harg8 arg9 harg9) K := by
    intro E K
    simp only [cc0_mamba_pre_eq_skeleton]; unfold cc0_mamba_pre_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    subst hf0 hf1 hf2 hf3 hf4 hf5
    sl_exec
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      refine (View.read_writes_eq_canon _ _ _ (cover6 _ _)).trans ?_
      sl_unfold_words
      simp only [View.readCov_eq_canon']
      rfl
    isplitl [H7]
    · iexists _; isplitr; swap; · iexact H7
      ipureintro
      refine (View.read_writes_eq_canon _ _ _ (cover7 _)).trans ?_
      rfl
    iexists _, _; isplitr; swap; · iexact HS0
    ipureintro; rfl

/-- The scratch buffer and the generator's register, as the pipeline hands them to the body. -/
theorem PhiA0_eq (c : Dev nD) :
    (Pipeline.ΦA spec0 c : sProp 𝕄)
      = iprop(iprop((∃ d, owns (c : Thread nD τ) (Memref.whole cc0_scratch0) fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]; try rfl

/-- The proof data: every input's buffer stays at its block, the results' are what the body computes of them. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
    | ⟨7, _⟩ => out7 (iblk V c 0 t) (iblk V c 1 t) (iblk V c 2 t) (iblk V c 3 t)
  Φ _ := Pipeline.ΦA spec0 c
  q _ := fullShare
  owed _ := 0

/-- The arrays enter as the region finds them. -/
theorem A_eq (c : Dev nD) (w : Fin cfg0.W) : (dats V c).A w = V c (Pipeline.arrRef spec0 w) := by
  dsimp only [dats]

theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = iblk V c 5 t := by dsimp only [dats]

theorem after0_6 (c : Dev nD) (t : Fin cfg0.N) : (dats V c).after 6 t = out6 (iblk V c 0 t) (iblk V c 1 t) (iblk V c 2 t) (iblk V c 3 t) (iblk V c 4 t) (iblk V c 5 t) := by dsimp only [dats]
theorem after0_7 (c : Dev nD) (t : Fin cfg0.N) : (dats V c).after 7 t = out7 (iblk V c 0 t) (iblk V c 1 t) (iblk V c 2 t) (iblk V c 3 t) := by dsimp only [dats]
theorem before0_0 (c : Dev nD) (t : Fin cfg0.N) (d) : (dats V c).before 0 t d = iblk V c 0 t :=
  ((dats V c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats V c).before 1 t d = iblk V c 1 t :=
  ((dats V c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats V c).before 2 t d = iblk V c 2 t :=
  ((dats V c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats V c).before 3 t d = iblk V c 3 t :=
  ((dats V c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats V c).before 4 t d = iblk V c 4 t :=
  ((dats V c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats V c).before 5 t d = iblk V c 5 t :=
  ((dats V c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- What the body is called with at a point. -/
def bodyPre (c : Dev nD) (t : Fin cfg0.N) : sProp 𝕄 :=
  iprop((dats V c).Φ t.castSucc ∗ (dats V c).owesAt () t.castSucc
    ∗ (∃ d, owns (c : Thread nD τ) (st0_0 t) fullShare ((dats V c).before 0 t d))
    ∗ (∃ d, owns (c : Thread nD τ) (st0_1 t) fullShare ((dats V c).before 1 t d))
    ∗ (∃ d, owns (c : Thread nD τ) (st0_2 t) fullShare ((dats V c).before 2 t d))
    ∗ (∃ d, owns (c : Thread nD τ) (st0_3 t) fullShare ((dats V c).before 3 t d))
    ∗ (∃ d, owns (c : Thread nD τ) (st0_4 t) fullShare ((dats V c).before 4 t d))
    ∗ (∃ d, owns (c : Thread nD τ) (st0_5 t) fullShare ((dats V c).before 5 t d))
    ∗ (∃ d, owns (c : Thread nD τ) (st0_6 t) fullShare ((dats V c).before 6 t d))
    ∗ (∃ d, owns (c : Thread nD τ) (st0_7 t) fullShare ((dats V c).before 7 t d)))

/-- What the body returns at a point. -/
def bodyPost (c : Dev nD) (t : Fin cfg0.N) : sProp 𝕄 :=
  iprop((dats V c).Φ t.succ ∗ (dats V c).owesAt () t.succ
    ∗ owns (c : Thread nD τ) (st0_0 t) fullShare ((dats V c).after 0 t)
    ∗ owns (c : Thread nD τ) (st0_1 t) fullShare ((dats V c).after 1 t)
    ∗ owns (c : Thread nD τ) (st0_2 t) fullShare ((dats V c).after 2 t)
    ∗ owns (c : Thread nD τ) (st0_3 t) fullShare ((dats V c).after 3 t)
    ∗ owns (c : Thread nD τ) (st0_4 t) fullShare ((dats V c).after 4 t)
    ∗ owns (c : Thread nD τ) (st0_5 t) fullShare ((dats V c).after 5 t)
    ∗ owns (c : Thread nD τ) (st0_6 t) fullShare ((dats V c).after 6 t)
    ∗ owns (c : Thread nD τ) (st0_7 t) fullShare ((dats V c).after 7 t))

set_option maxHeartbeats 800000 in
/-- The body at a point, the inputs' buffers at their blocks. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dats V c).Φ t.succ = (dats V c).Φ t.castSucc from rfl,
    show (dats V c).owesAt () t.succ = (dats V c).owesAt () t.castSucc from rfl,
    after0_0, after0_1, after0_2, after0_3, after0_4, after0_5, after0_6, after0_7]
  rw [show (dats V c).Φ t.castSucc = Pipeline.ΦA spec0 c from rfl, PhiA0_eq]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((sound_kernel c (grid0.coords t) _ _ _ _ _ _ _ _ _ _ _ _ _ _ _ _ _ _ (iblk V c 0 t) (iblk V c 1 t) (iblk V c 2 t) (iblk V c 3 t) (iblk V c 4 t) (iblk V c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, H6, H7, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row is the body at the point. -/
theorem defs₀_row (t : Fin cfg0.N) :
    defs₀ (F := F) .tc cfg0.body (cfg0.bodyArgs t (cfg0.slots t)) = bodyAt0 t := by
  unfold defs₀; rw [Defs.onTc_tc]

/-- The pipeline's body obligation at every point. -/
theorem body_obligation (c : Dev nD) : BodyObligation (dats (F := F) V c) (defs₀ (F := F)) Variants.none () Set.univ := fun t => by
  rw [bigSep_W0, bigSep_W0, defs₀_row]
  exact triple_restated (sound_body V c t) rfl .rfl fun _ => .rfl

end Cert.KernelIdeal.R0

end
-- ==== Proof.Scan.lean ====
module

public import proofs.«01_k».proof.Proof.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The scan kernel: its loop's recursion, its body's triple at every grid point, and the proof data of its pipeline. -/

@[expose] public section

set_option maxRecDepth 16384

noncomputable section

namespace Cert.KernelIdeal.R1

open Cert.KernelIdeal.Gen Cert.KernelIdeal.Lau
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the loop carries: the four rows of the state. -/
abbrev Acc (F : FTy → Type) := FVec F S8x768 .f32 × FVec F S8x768 .f32 × FVec F S8x768 .f32 × FVec F S8x768 .f32

abbrev rxt : Rect S256x8x768 := Rect.unit (s := S256x8x768) ![0, 0, 0] S256x8x768.size inb_S256x8x768_S256x8x768_0_0_0
abbrev rbc : Rect S256x8x8 := Rect.unit (s := S256x8x8) ![0, 0, 0] S256x8x8.size inb_S256x8x8_S256x8x8_0_0_0
abbrev ra2 : Rect S1x8x256x768 := Rect.unit (s := S1x8x256x768) ![0, 0, 0, 0] S1x8x256x768.size inb_S1x8x256x768_S1x8x256x768_0_0_0_0
abbrev ra3 : Rect S1x1x768x24 := Rect.unit (s := S1x1x768x24) ![0, 0, 0, 0] S1x1x768x24.size inb_S1x1x768x24_S1x1x768x24_0_0_0_0
abbrev ra4 : Rect S1x1x768x8 := Rect.unit (s := S1x1x768x8) ![0, 0, 0, 0] S1x1x768x8.size inb_S1x1x768x8_S1x1x768x8_0_0_0_0
abbrev ra5 : Rect S1x1x24x768 := Rect.unit (s := S1x1x24x768) ![0, 0, 0, 0] S1x1x24x768.size inb_S1x1x24x768_S1x1x24x768_0_0_0_0
abbrev ra6 : Rect S1x1x1x768 := Rect.unit (s := S1x1x1x768) ![0, 0, 0, 0] S1x1x1x768.size inb_S1x1x1x768_S1x1x1x768_0_0_0_0
abbrev ra7 : Rect S1x1x4x768 := Rect.unit (s := S1x1x4x768) ![0, 0, 0, 0] S1x1x4x768.size inb_S1x1x4x768_S1x1x4x768_0_0_0_0
abbrev rh : Rect S4x8x768 := Rect.unit (s := S4x8x768) ![0, 0, 0] S4x8x768.size inb_S4x8x768_S4x8x768_0_0_0
abbrev rh0 : Rect S4x8x768 := Rect.unit (s := S4x8x768) ![0, 0, 0] S1x8x768.size inb_S4x8x768_S1x8x768_0_0_0
abbrev rh1 : Rect S4x8x768 := Rect.unit (s := S4x8x768) ![1, 0, 0] S1x8x768.size inb_S4x8x768_S1x8x768_1_0_0
abbrev rh2 : Rect S4x8x768 := Rect.unit (s := S4x8x768) ![2, 0, 0] S1x8x768.size inb_S4x8x768_S1x8x768_2_0_0
abbrev rh3 : Rect S4x8x768 := Rect.unit (s := S4x8x768) ![3, 0, 0] S1x8x768.size inb_S4x8x768_S1x8x768_3_0_0
/-- The row a trip works on. -/
abbrev rt (i : grid1.Coords) (k : Fin k1_t1_loop.trips) : Rect S256x8x768 := Rect.unit (s := S256x8x768) (k1_off1 i k) S1x8x768.size (k1_off1_inb i k)
abbrev rt2 (i : grid1.Coords) (k : Fin k1_t1_loop.trips) : Rect S256x8x8 := Rect.unit (s := S256x8x8) (k1_off2 i k) S1x8x8.size (k1_off2_inb i k)

/-- The state after a trip. -/
def tripR (i : grid1.Coords) (a : FVec F S4x768 .f32) (xt dt : Vec F S256x8x768 .f32) (bc : Vec F S256x8x8 .f32) (k : Fin k1_t1_loop.trips) (acc : Acc F) : Acc F :=
  (k1_pay5 a acc.1 (View.ld xt (rt i k)) (View.ld dt (rt i k)) (View.ld bc (rt2 i k)),
   k1_pay6 a acc.2.1 (View.ld xt (rt i k)) (View.ld dt (rt i k)) (View.ld bc (rt2 i k)),
   k1_pay8 a acc.2.2.1 (View.ld xt (rt i k)) (View.ld dt (rt i k)) (View.ld bc (rt2 i k)),
   k1_pay26 a acc.2.2.2 (k1_pay2 (View.ld dt (rt i k))) (k1_pay3 (View.ld bc (rt2 i k))) (k1_pay4 (View.ld xt (rt i k)) (View.ld dt (rt i k))))

/-- The row a trip writes. -/
def tripY (i : grid1.Coords) (a : FVec F S4x768 .f32) (xt dt : Vec F S256x8x768 .f32) (bc : Vec F S256x8x8 .f32) (k : Fin k1_t1_loop.trips) (acc : Acc F) : FVec F S1x8x768 .f32 :=
  k1_pay27 a acc.2.2.2 (k1_pay2 (View.ld dt (rt i k))) (k1_pay3 (View.ld bc (rt2 i k))) (k1_pay4 (View.ld xt (rt i k)) (View.ld dt (rt i k)))
    (k1_pay7 a acc.1 acc.2.1 (View.ld xt (rt i k)) (View.ld dt (rt i k)) (View.ld bc (rt2 i k)))
    (k1_pay9 a acc.2.2.1 (View.ld xt (rt i k)) (View.ld dt (rt i k)) (View.ld bc (rt2 i k)))

/-- The state before trip `k` and the rows written before it, last first. -/
def st (i : grid1.Coords) (a : FVec F S4x768 .f32) (xt dt : Vec F S256x8x768 .f32) (bc : Vec F S256x8x8 .f32) (init : Acc F) : ℕ → Acc F × List (View.Piece (Elt F) S256x8x768 .f32)
  | 0 => (init, [])
  | k + 1 =>
    if h : k < k1_t1_loop.trips then
      (tripR i a xt dt bc ⟨k, h⟩ (st i a xt dt bc init k).1, ⟨rt i ⟨k, h⟩, tripY i a xt dt bc ⟨k, h⟩ (st i a xt dt bc init k).1⟩ :: (st i a xt dt bc init k).2)
    else st i a xt dt bc init k

set_option maxHeartbeats 1000000 in
theorem tripR_eq (𝒱 : Variants) (c : Dev nD) (bd : Option 𝒱.V) (i : grid1.Coords) (arg2 : Memref sig .tc .vmem S1x8x256x768 .f32) (harg2 : arg2.IsWhole) (arg3 : Memref sig .tc .vmem S1x1x768x24 .f32) (harg3 : arg3.IsWhole) (arg4 : Memref sig .tc .vmem S1x1x768x8 .f32) (harg4 : arg4.IsWhole) (arg5 : Memref sig .tc .vmem S1x1x24x768 .f32) (harg5 : arg5.IsWhole) (arg6 : Memref sig .tc .vmem S1x1x1x768 .f32) (harg6 : arg6.IsWhole) (arg7 : Memref sig .tc .vmem S1x1x4x768 .f32) (harg7 : arg7.IsWhole) (arg8 : Memref sig .tc .vmem S1x1x1x768 .f32) (harg8 : arg8.IsWhole) (arg9 : Memref sig .tc .vmem S1x8x256x768 .f32) (harg9 : arg9.IsWhole) (arg10 : Memref sig .tc .vmem S4x8x768 .f32) (harg10 : arg10.IsWhole) (arg11 : Memref sig .tc .vmem S256x8x768 .f32) (harg11 : arg11.IsWhole) (arg12 : Memref sig .tc .vmem S256x8x768 .f32) (harg12 : arg12.IsWhole) (arg13 : Memref sig .tc .vmem S256x8x8 .f32) (harg13 : arg13.IsWhole) (arg14 : Memref sig .tc .vmem S256x8x768 .f32) (harg14 : arg14.IsWhole) (v0 : BitVec 1) (v7 : Vec F S256x8x768 .f32) (v48 : FVec F S4x768 .f32) (v55 : FVec F S8x768 .f32) (v57 : FVec F S8x768 .f32) (v58 : Vec F S1x8x768 .f32) (X_arg11 : BufTy.Contents (Elt F) arg11.view.ty) (X_arg12 : BufTy.Contents (Elt F) arg12.view.ty) (X_arg13 : BufTy.Contents (Elt F) arg13.view.ty) (k : Fin k1_t1_loop.trips) (acc : Acc F) :
    tripR_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 v0 v7 v48 v55 v57 v58 X_arg11 X_arg12 X_arg13 k acc = tripR i v48 (arg11.view.read (Elt F) X_arg11) (arg12.view.read (Elt F) X_arg12) (arg13.view.read (Elt F) X_arg13) k acc := by
  unfold tripR_k1_t1 trip_k1_t1 tripR
  rfl

set_option maxHeartbeats 1000000 in
theorem tripL_eq (𝒱 : Variants) (c : Dev nD) (bd : Option 𝒱.V) (i : grid1.Coords) (arg2 : Memref sig .tc .vmem S1x8x256x768 .f32) (harg2 : arg2.IsWhole) (arg3 : Memref sig .tc .vmem S1x1x768x24 .f32) (harg3 : arg3.IsWhole) (arg4 : Memref sig .tc .vmem S1x1x768x8 .f32) (harg4 : arg4.IsWhole) (arg5 : Memref sig .tc .vmem S1x1x24x768 .f32) (harg5 : arg5.IsWhole) (arg6 : Memref sig .tc .vmem S1x1x1x768 .f32) (harg6 : arg6.IsWhole) (arg7 : Memref sig .tc .vmem S1x1x4x768 .f32) (harg7 : arg7.IsWhole) (arg8 : Memref sig .tc .vmem S1x1x1x768 .f32) (harg8 : arg8.IsWhole) (arg9 : Memref sig .tc .vmem S1x8x256x768 .f32) (harg9 : arg9.IsWhole) (arg10 : Memref sig .tc .vmem S4x8x768 .f32) (harg10 : arg10.IsWhole) (arg11 : Memref sig .tc .vmem S256x8x768 .f32) (harg11 : arg11.IsWhole) (arg12 : Memref sig .tc .vmem S256x8x768 .f32) (harg12 : arg12.IsWhole) (arg13 : Memref sig .tc .vmem S256x8x8 .f32) (harg13 : arg13.IsWhole) (arg14 : Memref sig .tc .vmem S256x8x768 .f32) (harg14 : arg14.IsWhole) (v0 : BitVec 1) (v7 : Vec F S256x8x768 .f32) (v48 : FVec F S4x768 .f32) (v55 : FVec F S8x768 .f32) (v57 : FVec F S8x768 .f32) (v58 : Vec F S1x8x768 .f32) (X_arg11 : BufTy.Contents (Elt F) arg11.view.ty) (X_arg12 : BufTy.Contents (Elt F) arg12.view.ty) (X_arg13 : BufTy.Contents (Elt F) arg13.view.ty) (k : Fin k1_t1_loop.trips) (acc : Acc F) :
    tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 v0 v7 v48 v55 v57 v58 X_arg11 X_arg12 X_arg13 k acc = [⟨rt i k, tripY i v48 (arg11.view.read (Elt F) X_arg11) (arg12.view.read (Elt F) X_arg12) (arg13.view.read (Elt F) X_arg13) k acc⟩] := by
  unfold tripL_k1_t1 trip_k1_t1 tripY
  rfl

/-- The loop's recursion is the one above at the contents of the buffers it reads. -/
theorem st_eq (𝒱 : Variants) (c : Dev nD) (bd : Option 𝒱.V) (i : grid1.Coords) (arg2 : Memref sig .tc .vmem S1x8x256x768 .f32) (harg2 : arg2.IsWhole) (arg3 : Memref sig .tc .vmem S1x1x768x24 .f32) (harg3 : arg3.IsWhole) (arg4 : Memref sig .tc .vmem S1x1x768x8 .f32) (harg4 : arg4.IsWhole) (arg5 : Memref sig .tc .vmem S1x1x24x768 .f32) (harg5 : arg5.IsWhole) (arg6 : Memref sig .tc .vmem S1x1x1x768 .f32) (harg6 : arg6.IsWhole) (arg7 : Memref sig .tc .vmem S1x1x4x768 .f32) (harg7 : arg7.IsWhole) (arg8 : Memref sig .tc .vmem S1x1x1x768 .f32) (harg8 : arg8.IsWhole) (arg9 : Memref sig .tc .vmem S1x8x256x768 .f32) (harg9 : arg9.IsWhole) (arg10 : Memref sig .tc .vmem S4x8x768 .f32) (harg10 : arg10.IsWhole) (arg11 : Memref sig .tc .vmem S256x8x768 .f32) (harg11 : arg11.IsWhole) (arg12 : Memref sig .tc .vmem S256x8x768 .f32) (harg12 : arg12.IsWhole) (arg13 : Memref sig .tc .vmem S256x8x8 .f32) (harg13 : arg13.IsWhole) (arg14 : Memref sig .tc .vmem S256x8x768 .f32) (harg14 : arg14.IsWhole) (v0 : BitVec 1) (v7 : Vec F S256x8x768 .f32) (v48 : FVec F S4x768 .f32) (v55 : FVec F S8x768 .f32) (v57 : FVec F S8x768 .f32) (v58 : Vec F S1x8x768 .f32) (X_arg11 : BufTy.Contents (Elt F) arg11.view.ty) (X_arg12 : BufTy.Contents (Elt F) arg12.view.ty) (X_arg13 : BufTy.Contents (Elt F) arg13.view.ty) (init : Acc F) : ∀ k : ℕ,
    st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 v0 v7 v48 v55 v57 v58 X_arg11 X_arg12 X_arg13 init k = st i v48 (arg11.view.read (Elt F) X_arg11) (arg12.view.read (Elt F) X_arg12) (arg13.view.read (Elt F) X_arg13) init k
  | 0 => rfl
  | k + 1 => by
    have ih := st_eq 𝒱 c bd i arg2 harg2 arg3 harg3 arg4 harg4 arg5 harg5 arg6 harg6 arg7 harg7 arg8 harg8 arg9 harg9 arg10 harg10 arg11 harg11 arg12 harg12 arg13 harg13 arg14 harg14 v0 v7 v48 v55 v57 v58 X_arg11 X_arg12 X_arg13 init k
    rw [st]
    by_cases h : k < k1_t1_loop.trips
    · rw [dif_pos h, st_k1_t1_succ 𝒱 c bd i arg2 harg2 arg3 harg3 arg4 harg4 arg5 harg5 arg6 harg6 arg7 harg7 arg8 harg8 arg9 harg9 arg10 harg10 arg11 harg11 arg12 harg12 arg13 harg13 arg14 harg14 v0 v7 v48 v55 v57 v58 X_arg11 X_arg12 X_arg13 init ⟨k, h⟩, tripR_eq, tripL_eq, ih]; rfl
    · rw [dif_neg h, ← ih, st_k1_t1.eq_2]; unfold st_k1_t1Step; exact dif_neg h

/-- The condition under which the state is set to zero. -/
def rst (i : grid1.Coords) : BitVec 1 :=
  Scalar.cmpi .ne (Scalar.extui (Scalar.ori (Scalar.cmpi .eq (BitVec.ofNat 32 (i 1).val) 0#32) (Scalar.cmpi .eq (BitVec.ofNat 32 (i 1).val) 4#32))) 0#32

/-- The state a point starts from. -/
def h0 (i : grid1.Coords) (h : Vec F S4x8x768 .f32) : Vec F S4x8x768 .f32 :=
  if rst i = 1#1 then View.canon [⟨rh, k1_pay21 (F := F)⟩] else h

/-- The point's inputs, its time steps and its input matrices, as the loop reads them. -/
def xtOf (x0 : Vec F S1x8x256x768 .f32) : Vec F S256x8x768 .f32 := View.canon [⟨rxt, k1_pay10 (View.ld x0 ra2)⟩]
def xtL (x0 : Vec F S1x8x256x768 .f32) : Vec F S256x8x768 .f32 := View.ld (xtOf x0) rxt
def dtOf (x0 : Vec F S1x8x256x768 .f32) (x1 : Vec F S1x1x768x24 .f32) (x3 : Vec F S1x1x24x768 .f32) (x4 : Vec F S1x1x1x768 .f32) : Vec F S256x8x768 .f32 :=
  View.canon [⟨rxt, k1_pay18 (k1_pay13 (xtL x0) (View.ld x1 ra3) (View.ld x3 ra5) (View.ld x4 ra6)) (k1_pay15 (xtL x0) (View.ld x1 ra3) (View.ld x3 ra5) (View.ld x4 ra6))
    (k1_pay16 (xtL x0) (View.ld x1 ra3) (View.ld x3 ra5) (View.ld x4 ra6)) (k1_pay17 (xtL x0) (View.ld x1 ra3) (View.ld x3 ra5) (View.ld x4 ra6))⟩]
def bcOf (x0 : Vec F S1x8x256x768 .f32) (x2 : Vec F S1x1x768x8 .f32) : Vec F S256x8x8 .f32 :=
  View.canon [⟨rbc, k1_pay19 (k1_pay11 (xtL x0)) (View.ld x2 ra4)⟩]

/-- The state before trip `k` of the point, from the state `h` the point finds. -/
def stAt (i : grid1.Coords) (x0 : Vec F S1x8x256x768 .f32) (x1 : Vec F S1x1x768x24 .f32) (x2 : Vec F S1x1x768x8 .f32) (x3 : Vec F S1x1x24x768 .f32) (x4 : Vec F S1x1x1x768 .f32) (x5 : Vec F S1x1x4x768 .f32)
    (h : Vec F S4x8x768 .f32) : ℕ → Acc F × List (View.Piece (Elt F) S256x8x768 .f32) :=
  st i (k1_pay20 (View.ld x5 ra7)) (xtOf x0) (dtOf x0 x1 x3 x4) (bcOf x0 x2)
    (k1_pay22 (View.ld (h0 i h) rh0), k1_pay23 (View.ld (h0 i h) rh1), k1_pay24 (View.ld (h0 i h) rh2), k1_pay25 (View.ld (h0 i h) rh3))

/-- The state the point leaves. -/
def hout (i : grid1.Coords) (x0 : Vec F S1x8x256x768 .f32) (x1 : Vec F S1x1x768x24 .f32) (x2 : Vec F S1x1x768x8 .f32) (x3 : Vec F S1x1x24x768 .f32) (x4 : Vec F S1x1x1x768 .f32) (x5 : Vec F S1x1x4x768 .f32)
    (h : Vec F S4x8x768 .f32) : Vec F S4x8x768 .f32 :=
  View.canon [⟨rh3, k1_pay31 (stAt i x0 x1 x2 x3 x4 x5 h k1_t1_loop.trips).1.2.2.2⟩, ⟨rh2, k1_pay30 (stAt i x0 x1 x2 x3 x4 x5 h k1_t1_loop.trips).1.2.2.1⟩,
    ⟨rh1, k1_pay29 (stAt i x0 x1 x2 x3 x4 x5 h k1_t1_loop.trips).1.2.1⟩, ⟨rh0, k1_pay28 (stAt i x0 x1 x2 x3 x4 x5 h k1_t1_loop.trips).1.1⟩]

/-- The block the point writes. -/
def yout (i : grid1.Coords) (x0 : Vec F S1x8x256x768 .f32) (x1 : Vec F S1x1x768x24 .f32) (x2 : Vec F S1x1x768x8 .f32) (x3 : Vec F S1x1x24x768 .f32) (x4 : Vec F S1x1x1x768 .f32) (x5 : Vec F S1x1x4x768 .f32) (x6 : Vec F S1x1x1x768 .f32)
    (h : Vec F S4x8x768 .f32) : Vec F S1x8x256x768 .f32 :=
  View.canon [⟨ra2, k1_pay1 (k1_pay32 (xtL x0) (View.ld (View.canon (stAt i x0 x1 x2 x3 x4 x5 h k1_t1_loop.trips).2) rxt) (View.ld x6 ra6))⟩]

/-- The stores cover the block and the state. -/
theorem cover7 (p0 : Vec F S1x8x256x768 .f32) (y : S1x8x256x768.Idx) :
    ∃ pc ∈ ([⟨ra2, p0⟩] : List (View.Piece (Elt F) S1x8x256x768 .f32)), y ∈ pc.1.set :=
  View.cover_of_tiled [⟨ra2, p0⟩] S1x8x256x768.size (by rfl) y
theorem coverh (p3 p2 p1 p0 : Vec F S1x8x768 .f32) (y : S4x8x768.Idx) :
    ∃ pc ∈ ([⟨rh3, p3⟩, ⟨rh2, p2⟩, ⟨rh1, p1⟩, ⟨rh0, p0⟩] : List (View.Piece (Elt F) S4x8x768 .f32)), y ∈ pc.1.set :=
  View.cover_of_tiled [⟨rh3, p3⟩, ⟨rh2, p2⟩, ⟨rh1, p1⟩, ⟨rh0, p0⟩] S1x8x768.size (by rfl) y

theorem trips_eq : k1_t1_loop.trips = 256 := by decide

/-- Every row written before trip `k` is among the pieces. -/
theorem st_mem (i : grid1.Coords) (a : FVec F S4x768 .f32) (xt dt : Vec F S256x8x768 .f32) (bc : Vec F S256x8x8 .f32) (init : Acc F) :
    ∀ n j (hj : j < k1_t1_loop.trips), j < n → (⟨rt i ⟨j, hj⟩, tripY i a xt dt bc ⟨j, hj⟩ (st i a xt dt bc init j).1⟩ : View.Piece (Elt F) S256x8x768 .f32) ∈ (st i a xt dt bc init n).2
  | 0, j, hj, h => absurd h (Nat.not_lt_zero _)
  | n + 1, j, hj, h => by
    rw [st]
    by_cases hn : n < k1_t1_loop.trips
    · rw [dif_pos hn]
      rcases Nat.lt_succ_iff_lt_or_eq.mp h with h' | rfl
      · exact List.mem_cons_of_mem _ (st_mem i a xt dt bc init n j hj h')
      · exact List.mem_cons_self
    · rw [dif_neg hn]
      exact st_mem i a xt dt bc init n j hj (by omega)

/-- The rows the loop writes cover its result. -/
theorem covery (i : grid1.Coords) (a : FVec F S4x768 .f32) (xt dt : Vec F S256x8x768 .f32) (bc : Vec F S256x8x8 .f32) (init : Acc F) (y : S256x8x768.Idx) :
    ∃ pc ∈ (st i a xt dt bc init k1_t1_loop.trips).2, y ∈ pc.1.set := by
  have h0 : (y 0).val < 256 := (y 0).isLt
  have hj : (if (i 1).val ≥ 4 then 255 - (y 0).val else (y 0).val) < k1_t1_loop.trips := by rw [trips_eq]; split <;> omega
  refine ⟨_, st_mem i a xt dt bc init _ _ hj hj, ?_⟩
  rw [Rect.mem_set_unit]
  intro d
  rw [k1_off1_eq]
  have h1 : (y 1).val < 8 := (y 1).isLt
  have h2 : (y 2).val < 768 := (y 2).isLt
  match d with
  | ⟨0, _⟩ =>
    show (if (i 1).val ≥ 4 then 255 - (if (i 1).val ≥ 4 then 255 - (y 0).val else (y 0).val) else (if (i 1).val ≥ 4 then 255 - (y 0).val else (y 0).val)) ≤ (y 0).val
      ∧ (y 0).val < (if (i 1).val ≥ 4 then 255 - (if (i 1).val ≥ 4 then 255 - (y 0).val else (y 0).val) else (if (i 1).val ≥ 4 then 255 - (y 0).val else (y 0).val)) + 1
    split_ifs <;> omega
  | ⟨1, _⟩ => exact ⟨Nat.zero_le _, by show (y 1).val < 0 + 8; omega⟩
  | ⟨2, _⟩ => exact ⟨Nat.zero_le _, by show (y 2).val < 0 + 768; omega⟩

/-- The loop's recursion at the body's buffers is the point's. -/
theorem st_at {𝒱 : Variants} {c : Dev nD} {bd : Option 𝒱.V} {i : grid1.Coords} {arg2 : Memref sig .tc .vmem S1x8x256x768 .f32} {harg2 : arg2.IsWhole} {arg3 : Memref sig .tc .vmem S1x1x768x24 .f32} {harg3 : arg3.IsWhole} {arg4 : Memref sig .tc .vmem S1x1x768x8 .f32} {harg4 : arg4.IsWhole} {arg5 : Memref sig .tc .vmem S1x1x24x768 .f32} {harg5 : arg5.IsWhole} {arg6 : Memref sig .tc .vmem S1x1x1x768 .f32} {harg6 : arg6.IsWhole} {arg7 : Memref sig .tc .vmem S1x1x4x768 .f32} {harg7 : arg7.IsWhole} {arg8 : Memref sig .tc .vmem S1x1x1x768 .f32} {harg8 : arg8.IsWhole} {arg9 : Memref sig .tc .vmem S1x8x256x768 .f32} {harg9 : arg9.IsWhole} {arg10 : Memref sig .tc .vmem S4x8x768 .f32} {harg10 : arg10.IsWhole} {arg11 : Memref sig .tc .vmem S256x8x768 .f32} {harg11 : arg11.IsWhole} {arg12 : Memref sig .tc .vmem S256x8x768 .f32} {harg12 : arg12.IsWhole} {arg13 : Memref sig .tc .vmem S256x8x8 .f32} {harg13 : arg13.IsWhole} {arg14 : Memref sig .tc .vmem S256x8x768 .f32} {harg14 : arg14.IsWhole} {v0 : BitVec 1} {v7 : Vec F S256x8x768 .f32} {v48 : FVec F S4x768 .f32} {v55 : FVec F S8x768 .f32} {v57 : FVec F S8x768 .f32} {v58 : Vec F S1x8x768 .f32} {X_arg11 : BufTy.Contents (Elt F) arg11.view.ty} {X_arg12 : BufTy.Contents (Elt F) arg12.view.ty} {X_arg13 : BufTy.Contents (Elt F) arg13.view.ty} {init : Acc F} {x0 : Vec F S1x8x256x768 .f32} {x1 : Vec F S1x1x768x24 .f32} {x2 : Vec F S1x1x768x8 .f32} {x3 : Vec F S1x1x24x768 .f32} {x4 : Vec F S1x1x1x768 .f32} {x5 : Vec F S1x1x4x768 .f32}
    {h : Vec F S4x8x768 .f32} (n : ℕ) (ha : v48 = k1_pay20 (View.ld x5 ra7)) (hx : arg11.view.read (Elt F) X_arg11 = xtOf x0) (hd : arg12.view.read (Elt F) X_arg12 = dtOf x0 x1 x3 x4) (hb : arg13.view.read (Elt F) X_arg13 = bcOf x0 x2)
    (hi : init = (k1_pay22 (View.ld (h0 i h) rh0), k1_pay23 (View.ld (h0 i h) rh1), k1_pay24 (View.ld (h0 i h) rh2), k1_pay25 (View.ld (h0 i h) rh3))) :
    st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 v0 v7 v48 v55 v57 v58 X_arg11 X_arg12 X_arg13 init n = stAt i x0 x1 x2 x3 x4 x5 h n := by
  rw [st_eq, hx, hd, hb, ha, hi]; rfl

theorem coverst (i : grid1.Coords) (x0 : Vec F S1x8x256x768 .f32) (x1 : Vec F S1x1x768x24 .f32) (x2 : Vec F S1x1x768x8 .f32) (x3 : Vec F S1x1x24x768 .f32) (x4 : Vec F S1x1x1x768 .f32) (x5 : Vec F S1x1x4x768 .f32)
    (h : Vec F S4x8x768 .f32) (y : S256x8x768.Idx) :
    ∃ pc ∈ (stAt i x0 x1 x2 x3 x4 x5 h (Scf.trips k1_t1_loop.lb k1_t1_loop.ub k1_t1_loop.st)).2, y ∈ pc.1.set :=
  covery i _ _ _ _ _ y

set_option maxHeartbeats 4000000 in
/-- The body's triple on whole staging buffers: the inputs' stay, the result is `yout` and the carried state `hout`. -/
theorem sound_kernel (c : Dev nD) (i : grid1.Coords) (arg2 : Memref sig .tc .vmem S1x8x256x768 .f32) (harg2 : arg2.IsWhole) (arg3 : Memref sig .tc .vmem S1x1x768x24 .f32) (harg3 : arg3.IsWhole) (arg4 : Memref sig .tc .vmem S1x1x768x8 .f32) (harg4 : arg4.IsWhole) (arg5 : Memref sig .tc .vmem S1x1x24x768 .f32) (harg5 : arg5.IsWhole) (arg6 : Memref sig .tc .vmem S1x1x1x768 .f32) (harg6 : arg6.IsWhole) (arg7 : Memref sig .tc .vmem S1x1x4x768 .f32) (harg7 : arg7.IsWhole) (arg8 : Memref sig .tc .vmem S1x1x1x768 .f32) (harg8 : arg8.IsWhole) (arg9 : Memref sig .tc .vmem S1x8x256x768 .f32) (harg9 : arg9.IsWhole) (arg10 : Memref sig .tc .vmem S4x8x768 .f32) (harg10 : arg10.IsWhole) (arg11 : Memref sig .tc .vmem S256x8x768 .f32) (harg11 : arg11.IsWhole) (arg12 : Memref sig .tc .vmem S256x8x768 .f32) (harg12 : arg12.IsWhole) (arg13 : Memref sig .tc .vmem S256x8x8 .f32) (harg13 : arg13.IsWhole) (arg14 : Memref sig .tc .vmem S256x8x768 .f32) (harg14 : arg14.IsWhole)
    (x0 : Vec F S1x8x256x768 .f32) (x1 : Vec F S1x1x768x24 .f32) (x2 : Vec F S1x1x768x8 .f32) (x3 : Vec F S1x1x24x768 .f32) (x4 : Vec F S1x1x1x768 .f32) (x5 : Vec F S1x1x4x768 .f32) (x6 : Vec F S1x1x1x768 .f32) (h : Vec F S4x8x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare h ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yout i x0 x1 x2 x3 x4 x5 x6 h) ∗ owns (c : Thread nD τ) arg10 fullShare (hout i x0 x1 x2 x3 x4 x5 h) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc1_mamba_scan i arg2 harg2 arg3 harg3 arg4 harg4 arg5 harg5 arg6 harg6 arg7 harg7 arg8 harg8 arg9 harg9 arg10 harg10 arg11 harg11 arg12 harg12 arg13 harg13 arg14 harg14) K := by
    intro E K
    simp only [cc1_mamba_scan_eq_skeleton]; unfold cc1_mamba_scan_skel
    simp only [k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fh, %hfh, HH⟩, ⟨%ds1, %fs1, -, HS1⟩, ⟨%ds2, %fs2, -, HS2⟩, ⟨%ds3, %fs3, -, HS3⟩, ⟨%ds4, %fs4, -, HS4⟩, Hk⟩
    subst hf0 hf1 hf2 hf3 hf4 hf5 hf6 hfh
    by_cases hc : Scalar.cmpi .ne (Scalar.extui (Scalar.ori (Scalar.cmpi .eq (BitVec.ofNat 32 (i 1).val) 0#32) (Scalar.cmpi .eq (BitVec.ofNat 32 (i 1).val) 4#32))) 0#32 = 1#1
    · sl_exec
      sl_step
      iapply Hk
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; swap; · iexact H7
        ipureintro
        refine (View.read_writes_eq_canon _ _ _ (cover7 _)).trans ?_
        unfold yout
        sl_unfold_words

        rw [st_at (x0 := arg2.view.read (Elt F) f0) (x1 := arg3.view.read (Elt F) f1) (x2 := arg4.view.read (Elt F) f2) (x3 := arg5.view.read (Elt F) f3) (x4 := arg6.view.read (Elt F) f4) (x5 := arg7.view.read (Elt F) f5) (h := arg10.view.read (Elt F) fh)]
        rotate_left
        · rfl
        · sl_unfold_words
          exact View.read_writes_eq_canon _ _ _ (View.cover_of_tiled [⟨rxt, _⟩] S256x8x768.size (by rfl))
        · sl_unfold_words
          refine (View.read_writes_eq_canon _ _ _ (View.cover_of_tiled [⟨rxt, _⟩] S256x8x768.size (by rfl))).trans ?_
          simp only [View.readCov_eq_canon']
          rfl
        · sl_unfold_words
          refine (View.read_writes_eq_canon _ _ _ (View.cover_of_tiled [⟨rbc, _⟩] S256x8x8.size (by rfl))).trans ?_
          simp only [View.readCov_eq_canon']
          rfl
        · sl_unfold_words
          rw [show h0 i (arg10.view.read (Elt F) fh) = View.canon [⟨rh, k1_pay21 (F := F)⟩] from if_pos hc]
          simp only [View.readCov_eq_canon']
        simp only [View.readAt_eq_ld]
        rw [View.read_writes_eq_canon _ _ _ (coverst _ _ _ _ _ _ _ _)]
        simp only [View.readCov_eq_canon']
        rfl
      isplitl [HH]
      · iexists _; isplitr; swap; · iexact HH
        ipureintro
        rw [st_at (x0 := arg2.view.read (Elt F) f0) (x1 := arg3.view.read (Elt F) f1) (x2 := arg4.view.read (Elt F) f2) (x3 := arg5.view.read (Elt F) f3) (x4 := arg6.view.read (Elt F) f4) (x5 := arg7.view.read (Elt F) f5) (h := arg10.view.read (Elt F) fh)]
        rotate_left
        · rfl
        · sl_unfold_words
          exact View.read_writes_eq_canon _ _ _ (View.cover_of_tiled [⟨rxt, _⟩] S256x8x768.size (by rfl))
        · sl_unfold_words
          refine (View.read_writes_eq_canon _ _ _ (View.cover_of_tiled [⟨rxt, _⟩] S256x8x768.size (by rfl))).trans ?_
          simp only [View.readCov_eq_canon']
          rfl
        · sl_unfold_words
          refine (View.read_writes_eq_canon _ _ _ (View.cover_of_tiled [⟨rbc, _⟩] S256x8x8.size (by rfl))).trans ?_
          simp only [View.readCov_eq_canon']
          rfl
        · sl_unfold_words
          rw [show h0 i (arg10.view.read (Elt F) fh) = View.canon [⟨rh, k1_pay21 (F := F)⟩] from if_pos hc]
          simp only [View.readCov_eq_canon']
        rw [show ∀ (a b c d : View.Piece (Elt F) S4x8x768 .f32) X, a :: b :: c :: d :: X = [a, b, c, d] ++ X from fun _ _ _ _ _ => rfl, View.writes_append]
        exact View.read_writes_eq_canon _ _ _ (coverh _ _ _ _)
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl
    · sl_exec
      sl_step
      iapply Hk
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; swap; · iexact H7
        ipureintro
        refine (View.read_writes_eq_canon _ _ _ (cover7 _)).trans ?_
        unfold yout
        sl_unfold_words

        rw [st_at (x0 := arg2.view.read (Elt F) f0) (x1 := arg3.view.read (Elt F) f1) (x2 := arg4.view.read (Elt F) f2) (x3 := arg5.view.read (Elt F) f3) (x4 := arg6.view.read (Elt F) f4) (x5 := arg7.view.read (Elt F) f5) (h := arg10.view.read (Elt F) fh)]
        rotate_left
        · rfl
        · sl_unfold_words
          exact View.read_writes_eq_canon _ _ _ (View.cover_of_tiled [⟨rxt, _⟩] S256x8x768.size (by rfl))
        · sl_unfold_words
          refine (View.read_writes_eq_canon _ _ _ (View.cover_of_tiled [⟨rxt, _⟩] S256x8x768.size (by rfl))).trans ?_
          simp only [View.readCov_eq_canon']
          rfl
        · sl_unfold_words
          refine (View.read_writes_eq_canon _ _ _ (View.cover_of_tiled [⟨rbc, _⟩] S256x8x8.size (by rfl))).trans ?_
          simp only [View.readCov_eq_canon']
          rfl
        · sl_unfold_words
          rw [show h0 i (arg10.view.read (Elt F) fh) = arg10.view.read (Elt F) fh from if_neg hc]
          rfl
        simp only [View.readAt_eq_ld]
        rw [View.read_writes_eq_canon _ _ _ (coverst _ _ _ _ _ _ _ _)]
        simp only [View.readCov_eq_canon']
        rfl
      isplitl [HH]
      · iexists _; isplitr; swap; · iexact HH
        ipureintro
        rw [st_at (x0 := arg2.view.read (Elt F) f0) (x1 := arg3.view.read (Elt F) f1) (x2 := arg4.view.read (Elt F) f2) (x3 := arg5.view.read (Elt F) f3) (x4 := arg6.view.read (Elt F) f4) (x5 := arg7.view.read (Elt F) f5) (h := arg10.view.read (Elt F) fh)]
        rotate_left
        · rfl
        · sl_unfold_words
          exact View.read_writes_eq_canon _ _ _ (View.cover_of_tiled [⟨rxt, _⟩] S256x8x768.size (by rfl))
        · sl_unfold_words
          refine (View.read_writes_eq_canon _ _ _ (View.cover_of_tiled [⟨rxt, _⟩] S256x8x768.size (by rfl))).trans ?_
          simp only [View.readCov_eq_canon']
          rfl
        · sl_unfold_words
          refine (View.read_writes_eq_canon _ _ _ (View.cover_of_tiled [⟨rbc, _⟩] S256x8x8.size (by rfl))).trans ?_
          simp only [View.readCov_eq_canon']
          rfl
        · sl_unfold_words
          rw [show h0 i (arg10.view.read (Elt F) fh) = arg10.view.read (Elt F) fh from if_neg hc]
          rfl
        exact View.read_writes_eq_canon _ _ _ (coverh _ _ _ _)
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl

-- the buffers the region is entered with
variable (V : (c : Dev nD) → (b : Ref sig .tc) → Buf (Elt F) ((c : Thread nD τ).loc b))

/-- Window `w`'s block at point `t`, read off the array the region is entered with. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state before point `n`. -/
def hst (c : Dev nD) : ℕ → Vec F S4x8x768 .f32
  | 0 => k1_pay21 (F := F)
  | n + 1 => if hn : n < cfg1.N then hout (grid1.coords ⟨n, hn⟩) (iblk V c 0 ⟨n, hn⟩) (iblk V c 1 ⟨n, hn⟩) (iblk V c 2 ⟨n, hn⟩) (iblk V c 3 ⟨n, hn⟩) (iblk V c 4 ⟨n, hn⟩) (iblk V c 5 ⟨n, hn⟩) (hst c n) else hst c n

theorem hst_succ (c : Dev nD) (t : Fin cfg1.N) : hst V c (t.val + 1) = hout (grid1.coords t) (iblk V c 0 t) (iblk V c 1 t) (iblk V c 2 t) (iblk V c 3 t) (iblk V c 4 t) (iblk V c 5 t) (hst V c t.val) := by
  rw [hst, dif_pos t.isLt]

/-- A point's recursion reads the state it finds only through `h0`. -/
theorem stAt_congr (i : grid1.Coords) (x0 : Vec F S1x8x256x768 .f32) (x1 : Vec F S1x1x768x24 .f32) (x2 : Vec F S1x1x768x8 .f32) (x3 : Vec F S1x1x24x768 .f32) (x4 : Vec F S1x1x1x768 .f32) (x5 : Vec F S1x1x4x768 .f32)
    {h h' : Vec F S4x8x768 .f32} (e : h0 i h = h0 i h') : stAt i x0 x1 x2 x3 x4 x5 h = stAt i x0 x1 x2 x3 x4 x5 h' := by
  unfold stAt; rw [e]

theorem h0_eq (c : Dev nD) (t : Fin cfg1.N) (h : Vec F S4x8x768 .f32) (hh : 0 < t.val → h = hst V c t.val) :
    h0 (grid1.coords t) h = h0 (grid1.coords t) (hst V c t.val) := by
  rcases Nat.eq_zero_or_pos t.val with hz | hp
  · have ht : t = t1_0 := Fin.ext hz
    subst ht
    have hr : rst (grid1.coords t1_0) = 1#1 := by decide
    unfold h0; rw [if_pos hr, if_pos hr]
  · rw [hh hp]

/-- What the body keeps between points: the state, the other scratch buffers at any contents, the generator's register. -/
def Phi (c : Dev nD) (n : ℕ) : sProp 𝕄 :=
  iprop(iprop(iprop((∃ h, owns (c : Thread nD τ) (Memref.whole cc1_scratch0) fullShare h ∗ ⌜0 < n → h = hst V c n⌝)
      ∗ (∃ d, owns (c : Thread nD τ) (Memref.whole cc1_scratch1) fullShare d) ∗ (∃ d, owns (c : Thread nD τ) (Memref.whole cc1_scratch2) fullShare d)
      ∗ (∃ d, owns (c : Thread nD τ) (Memref.whole cc1_scratch3) fullShare d) ∗ (∃ d, owns (c : Thread nD τ) (Memref.whole cc1_scratch4) fullShare d))
    ∗ Pipeline.scopedRestBut (Ix := Unit) (Name := ℕ) (U := UR sig nD τ) (Lvl := ℕ) (Val := Elt F) spec1 c [cc1_scratch0, cc1_scratch1, cc1_scratch2, cc1_scratch3, cc1_scratch4]) ∗ (∃ r, prngReg c r))

/-- The scratch buffers as the pipeline hands them over. -/
theorem rest_eq (c : Dev nD) :
    (Pipeline.scopedRest (Ix := Unit) (Name := ℕ) (U := UR sig nD τ) (Lvl := ℕ) (Val := Elt F) spec1 c : sProp 𝕄)
      = iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d)
          ∗ (∃ d, owns (c : Thread nD τ) (Memref.whole cc1_scratch3) fullShare d) ∗ (∃ d, owns (c : Thread nD τ) (Memref.whole cc1_scratch4) fullShare d))
        ∗ Pipeline.scopedRestBut (Ix := Unit) (Name := ℕ) (U := UR sig nD τ) (Lvl := ℕ) (Val := Elt F) spec1 c [cc1_scratch0, cc1_scratch1, cc1_scratch2, cc1_scratch3, cc1_scratch4]) := by
  rw [scopedRest1_split]; simp only [owns_whole]; try rfl

theorem Phi_in (c : Dev nD) :
    iprop(Pipeline.scopedRest (Ix := Unit) (Name := ℕ) (U := UR sig nD τ) (Lvl := ℕ) (Val := Elt F) spec1 c ∗ (∃ r, prngReg c r)) ⊢ Phi V c 0 := by
  rw [rest_eq]; unfold Phi
  iintro ⟨⟨⟨⟨%h, HH⟩, HS⟩, HR⟩, Hg⟩
  isplitl [HH HS HR]
  · isplitl [HH HS]
    · isplitl [HH]
      · iexists h; isplitl [HH]; · iexact HH
        ipureintro; exact fun h => absurd h (Nat.lt_irrefl 0)
      iexact HS
    iexact HR
  iexact Hg

theorem Phi_out (c : Dev nD) (n : ℕ) :
    Phi V c n ⊢ iprop(Pipeline.scopedRest (Ix := Unit) (Name := ℕ) (U := UR sig nD τ) (Lvl := ℕ) (Val := Elt F) spec1 c ∗ (∃ r, prngReg c r)) := by
  rw [rest_eq]; unfold Phi
  iintro ⟨⟨⟨⟨%h, HH, -⟩, HS⟩, HR⟩, Hg⟩
  isplitl [HH HS HR]
  · isplitl [HH HS]
    · isplitl [HH]
      · iexists h; iexact HH
      iexact HS
    iexact HR
  iexact Hg

/-- The proof data: every input's buffer stays at its block, the result's is what the body computes from the state before the point. -/
def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => yout (grid1.coords t) (iblk V c 0 t) (iblk V c 1 t) (iblk V c 2 t) (iblk V c 3 t) (iblk V c 4 t) (iblk V c 5 t) (iblk V c 6 t) (hst V c t.val)
  Φ t := Phi V c t.val
  q _ := fullShare
  owed _ := 0

/-- The arrays enter as the region finds them. -/
theorem A_eq (c : Dev nD) (w : Fin cfg1.W) : (dats V c).A w = V c (Pipeline.arrRef spec1 w) := by
  dsimp only [dats]

theorem after1_0 (c : Dev nD) (t : Fin cfg1.N) : (dats V c).after 0 t = iblk V c 0 t := by dsimp only [dats]
theorem after1_1 (c : Dev nD) (t : Fin cfg1.N) : (dats V c).after 1 t = iblk V c 1 t := by dsimp only [dats]
theorem after1_2 (c : Dev nD) (t : Fin cfg1.N) : (dats V c).after 2 t = iblk V c 2 t := by dsimp only [dats]
theorem after1_3 (c : Dev nD) (t : Fin cfg1.N) : (dats V c).after 3 t = iblk V c 3 t := by dsimp only [dats]
theorem after1_4 (c : Dev nD) (t : Fin cfg1.N) : (dats V c).after 4 t = iblk V c 4 t := by dsimp only [dats]
theorem after1_5 (c : Dev nD) (t : Fin cfg1.N) : (dats V c).after 5 t = iblk V c 5 t := by dsimp only [dats]
theorem after1_6 (c : Dev nD) (t : Fin cfg1.N) : (dats V c).after 6 t = iblk V c 6 t := by dsimp only [dats]
theorem after1_7 (c : Dev nD) (t : Fin cfg1.N) : (dats V c).after 7 t = yout (grid1.coords t) (iblk V c 0 t) (iblk V c 1 t) (iblk V c 2 t) (iblk V c 3 t) (iblk V c 4 t) (iblk V c 5 t) (iblk V c 6 t) (hst V c t.val) := by dsimp only [dats]
theorem before1_0 (c : Dev nD) (t : Fin cfg1.N) (d) : (dats V c).before 0 t d = iblk V c 0 t :=
  ((dats V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats V c).before 1 t d = iblk V c 1 t :=
  ((dats V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats V c).before 2 t d = iblk V c 2 t :=
  ((dats V c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats V c).before 3 t d = iblk V c 3 t :=
  ((dats V c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats V c).before 4 t d = iblk V c 4 t :=
  ((dats V c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dats V c).before 5 t d = iblk V c 5 t :=
  ((dats V c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dats V c).before 6 t d = iblk V c 6 t :=
  ((dats V c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)

/-- What the body is called with at a point. -/
def bodyPre (c : Dev nD) (t : Fin cfg1.N) : sProp 𝕄 :=
  iprop((dats V c).Φ t.castSucc ∗ (dats V c).owesAt () t.castSucc
    ∗ (∃ d, owns (c : Thread nD τ) (st1_0 t) fullShare ((dats V c).before 0 t d))
    ∗ (∃ d, owns (c : Thread nD τ) (st1_1 t) fullShare ((dats V c).before 1 t d))
    ∗ (∃ d, owns (c : Thread nD τ) (st1_2 t) fullShare ((dats V c).before 2 t d))
    ∗ (∃ d, owns (c : Thread nD τ) (st1_3 t) fullShare ((dats V c).before 3 t d))
    ∗ (∃ d, owns (c : Thread nD τ) (st1_4 t) fullShare ((dats V c).before 4 t d))
    ∗ (∃ d, owns (c : Thread nD τ) (st1_5 t) fullShare ((dats V c).before 5 t d))
    ∗ (∃ d, owns (c : Thread nD τ) (st1_6 t) fullShare ((dats V c).before 6 t d))
    ∗ (∃ d, owns (c : Thread nD τ) (st1_7 t) fullShare ((dats V c).before 7 t d)))

/-- What the body returns at a point. -/
def bodyPost (c : Dev nD) (t : Fin cfg1.N) : sProp 𝕄 :=
  iprop((dats V c).Φ t.succ ∗ (dats V c).owesAt () t.succ
    ∗ owns (c : Thread nD τ) (st1_0 t) fullShare ((dats V c).after 0 t)
    ∗ owns (c : Thread nD τ) (st1_1 t) fullShare ((dats V c).after 1 t)
    ∗ owns (c : Thread nD τ) (st1_2 t) fullShare ((dats V c).after 2 t)
    ∗ owns (c : Thread nD τ) (st1_3 t) fullShare ((dats V c).after 3 t)
    ∗ owns (c : Thread nD τ) (st1_4 t) fullShare ((dats V c).after 4 t)
    ∗ owns (c : Thread nD τ) (st1_5 t) fullShare ((dats V c).after 5 t)
    ∗ owns (c : Thread nD τ) (st1_6 t) fullShare ((dats V c).after 6 t)
    ∗ owns (c : Thread nD τ) (st1_7 t) fullShare ((dats V c).after 7 t))

set_option maxHeartbeats 800000 in
/-- The body at a point, the inputs' buffers at their blocks. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (dats V c).owesAt () t.succ = (dats V c).owesAt () t.castSucc from rfl,
    after1_0, after1_1, after1_2, after1_3, after1_4, after1_5, after1_6, after1_7]
  rw [show (dats V c).Φ t.castSucc = Phi V c t.val from rfl, show (dats V c).Φ t.succ = Phi V c (t.val + 1) from rfl]
  unfold Phi
  iintro ⟨⟨⟨⟨⟨%h, HH, %hh⟩, HS1, HS2, HS3, HS4⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((sound_kernel c (grid1.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) h) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HH]; · iexact HH
  isplitl [HS1]; · iexact HS1
  isplitl [HS2]; · iexact HS2
  isplitl [HS3]; · iexact HS3
  isplitl [HS4]; · iexact HS4
  iintro ⟨H0, H1, H2, H3, H4, H5, H6, H7, HH, HS1, HS2, HS3, HS4⟩
  isplitl [HH HS1 HS2 HS3 HS4 HR Hg]
  · isplitl [HH HS1 HS2 HS3 HS4 HR]
    · isplitl [HH HS1 HS2 HS3 HS4]
      · isplitl [HH]
        · iexists _; isplitl [HH]; · iexact HH
          ipureintro; intro _; rw [hst_succ]; unfold hout; rw [stAt_congr _ _ _ _ _ _ _ (h0_eq V c t h hh)]
        isplitl [HS1]; · iexact HS1
        isplitl [HS2]; · iexact HS2
        isplitl [HS3]; · iexact HS3
        iexact HS4
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show yout (grid1.coords t) (iblk V c 0 t) (iblk V c 1 t) (iblk V c 2 t) (iblk V c 3 t) (iblk V c 4 t) (iblk V c 5 t) (iblk V c 6 t) (hst V c t.val) = yout (grid1.coords t) (iblk V c 0 t) (iblk V c 1 t) (iblk V c 2 t) (iblk V c 3 t) (iblk V c 4 t) (iblk V c 5 t) (iblk V c 6 t) h from by
    unfold yout; rw [stAt_congr _ _ _ _ _ _ _ (h0_eq V c t h hh)]]
  iexact H7

/-- The body table's row is the body at the point. -/
theorem defs₀_row (t : Fin cfg1.N) :
    defs₀ (F := F) .tc cfg1.body (cfg1.bodyArgs t (cfg1.slots t)) = bodyAt1 t := by
  unfold defs₀; rw [Defs.onTc_tc]

/-- The pipeline's body obligation at every point. -/
theorem body_obligation (c : Dev nD) : BodyObligation (dats (F := F) V c) (defs₀ (F := F)) Variants.none () Set.univ := fun t => by
  rw [bigSep_W1, bigSep_W1, defs₀_row]
  exact triple_restated (sound_body V c t) rfl .rfl fun _ => .rfl

end Cert.KernelIdeal.R1

end
-- ==== Proof.Post.lean ====
module

public import proofs.«01_k».proof.Proof.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The post kernel: its body's triple at every grid point, and the proof data of its pipeline. -/

@[expose] public section

set_option maxRecDepth 16384

noncomputable section

namespace Cert.KernelIdeal.R2

open Cert.KernelIdeal.Gen Cert.KernelIdeal.Lau
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers the region is entered with
variable (V : (c : Dev nD) → (b : Ref sig .tc) → Buf (Elt F) ((c : Thread nD τ).loc b))

/-- Window `w`'s block at point `t`, read off the array the region is entered with. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4x1x1024x768 := Rect.unit (s := S4x1x1024x768) ![0, 0, 0, 0] S1x1x1024x768.size inb_S4x1x1024x768_S1x1x1024x768_0_0_0_0
abbrev r2_1 : Rect S4x1x1024x768 := Rect.unit (s := S4x1x1024x768) ![2, 0, 0, 0] S1x1x1024x768.size inb_S4x1x1024x768_S1x1x1024x768_2_0_0_0
abbrev r2_2 : Rect S4x1x1024x768 := Rect.unit (s := S4x1x1024x768) ![1, 0, 0, 0] S1x1x1024x768.size inb_S4x1x1024x768_S1x1x1024x768_1_0_0_0
abbrev r2_3 : Rect S4x1x1024x768 := Rect.unit (s := S4x1x1024x768) ![3, 0, 0, 0] S1x1x1024x768.size inb_S4x1x1024x768_S1x1x1024x768_3_0_0_0
abbrev r2_4 : Rect S1x768 := Rect.unit (s := S1x768) ![0, 0] S1x768.size inb_S1x768_S1x768_0_0
abbrev r2_5 : Rect S1x1024x768 := Rect.unit (s := S1x1024x768) ![0, 0, 0] S1x1024x768.size inb_S1x1024x768_S1x1024x768_0_0_0
abbrev r2_6 : Rect S768x384 := Rect.unit (s := S768x384) ![0, 0] S768x384.size inb_S768x384_S768x384_0_0
abbrev r2_7 : Rect S1x1024x384 := Rect.unit (s := S1x1024x384) ![0, 0, 0] S1x1024x384.size inb_S1x1024x384_S1x1024x384_0_0_0
abbrev r2_8 : Rect S1x384 := Rect.unit (s := S1x384) ![0, 0] S1x384.size inb_S1x384_S1x384_0_0
abbrev r2_9 : Rect S384x1536 := Rect.unit (s := S384x1536) ![0, 0] S384x1536.size inb_S384x1536_S384x1536_0_0
abbrev r2_10 : Rect S1x1536 := Rect.unit (s := S1x1536) ![0, 0] S1x1536.size inb_S1x1536_S1x1536_0_0
abbrev r2_11 : Rect S1536x384 := Rect.unit (s := S1536x384) ![0, 0] S1536x384.size inb_S1536x384_S1536x384_0_0

def k2_pay12 (x0 : Vec F S4x1x1024x768 .f32) (x1 : Vec F S1x1024x768 .f32) (x2 : Vec F S1x1024x384 .f32) (x3 : Vec F S1x768 .f32) (x4 : Vec F S1x768 .f32) (x5 : Vec F S768x384 .f32) (x6 : Vec F S1x384 .f32) (x7 : Vec F S1x384 .f32) (x8 : Vec F S384x1536 .f32) (x9 : Vec F S1x1536 .f32) (x10 : Vec F S1536x384 .f32) (x11 : Vec F S1x384 .f32) : FVec F S768 .f32 :=
  k2_pay3 (View.ld x3 r2_4)
def k2_pay13 (x0 : Vec F S4x1x1024x768 .f32) (x1 : Vec F S1x1024x768 .f32) (x2 : Vec F S1x1024x384 .f32) (x3 : Vec F S1x768 .f32) (x4 : Vec F S1x768 .f32) (x5 : Vec F S768x384 .f32) (x6 : Vec F S1x384 .f32) (x7 : Vec F S1x384 .f32) (x8 : Vec F S384x1536 .f32) (x9 : Vec F S1x1536 .f32) (x10 : Vec F S1536x384 .f32) (x11 : Vec F S1x384 .f32) : FVec F S768 .f32 :=
  k2_pay4 (View.ld x4 r2_4)
def k2_pay14 (x0 : Vec F S4x1x1024x768 .f32) (x1 : Vec F S1x1024x768 .f32) (x2 : Vec F S1x1024x384 .f32) (x3 : Vec F S1x768 .f32) (x4 : Vec F S1x768 .f32) (x5 : Vec F S768x384 .f32) (x6 : Vec F S1x384 .f32) (x7 : Vec F S1x384 .f32) (x8 : Vec F S384x1536 .f32) (x9 : Vec F S1x1536 .f32) (x10 : Vec F S1536x384 .f32) (x11 : Vec F S1x384 .f32) : FVec F S1024x768 .f32 :=
  k2_pay6 (View.ld x0 r2_0) (View.ld x0 r2_1) (View.ld x0 r2_2) (View.ld x0 r2_3)
def k2_pay15 (x0 : Vec F S4x1x1024x768 .f32) (x1 : Vec F S1x1024x768 .f32) (x2 : Vec F S1x1024x384 .f32) (x3 : Vec F S1x768 .f32) (x4 : Vec F S1x768 .f32) (x5 : Vec F S768x384 .f32) (x6 : Vec F S1x384 .f32) (x7 : Vec F S1x384 .f32) (x8 : Vec F S384x1536 .f32) (x9 : Vec F S1x1536 .f32) (x10 : Vec F S1536x384 .f32) (x11 : Vec F S1x384 .f32) : FVec F S1024x1 .f32 :=
  k2_pay7 (View.ld x0 r2_0) (View.ld x0 r2_1) (View.ld x0 r2_2) (View.ld x0 r2_3)

/-- What the body leaves in the result's buffer, as a function of the input blocks. -/
def out2_12 (x0 : Vec F S4x1x1024x768 .f32) (x1 : Vec F S1x1024x768 .f32) (x2 : Vec F S1x1024x384 .f32) (x3 : Vec F S1x768 .f32) (x4 : Vec F S1x768 .f32) (x5 : Vec F S768x384 .f32) (x6 : Vec F S1x384 .f32) (x7 : Vec F S1x384 .f32) (x8 : Vec F S384x1536 .f32) (x9 : Vec F S1x1536 .f32) (x10 : Vec F S1536x384 .f32) (x11 : Vec F S1x384 .f32) : Vec F S1x1024x384 .f32 :=
  View.canon [⟨r2_7, k2_pay1 (k2_pay8 (k2_pay12 x0 x1 x2 x3 x4 x5 x6 x7 x8 x9 x10 x11) (k2_pay13 x0 x1 x2 x3 x4 x5 x6 x7 x8 x9 x10 x11) (k2_pay14 x0 x1 x2 x3 x4 x5 x6 x7 x8 x9 x10 x11) (k2_pay15 x0 x1 x2 x3 x4 x5 x6 x7 x8 x9 x10 x11) (View.ld x1 r2_5) (View.ld x5 r2_6) (View.ld x2 r2_7)) (k2_pay9 (View.ld x7 r2_8)) (k2_pay10 (k2_pay12 x0 x1 x2 x3 x4 x5 x6 x7 x8 x9 x10 x11) (k2_pay13 x0 x1 x2 x3 x4 x5 x6 x7 x8 x9 x10 x11) (k2_pay14 x0 x1 x2 x3 x4 x5 x6 x7 x8 x9 x10 x11) (k2_pay15 x0 x1 x2 x3 x4 x5 x6 x7 x8 x9 x10 x11) (View.ld x1 r2_5) (View.ld x5 r2_6) (View.ld x2 r2_7)) (k2_pay11 (View.ld x6 r2_8)) (View.ld x8 r2_9) (View.ld x9 r2_10) (View.ld x10 r2_11) (View.ld x11 r2_8)⟩]

/-- The one store covers the result's buffer. -/
theorem cover2_12 (p0 : Vec F S1x1024x384 .f32) (y : S1x1024x384.Idx) :
    ∃ pc ∈ ([⟨r2_7, p0⟩] : List (View.Piece (Elt F) S1x1024x384 .f32)), y ∈ pc.1.set :=
  View.cover_of_tiled [⟨r2_7, p0⟩] S1x1024x384.size (by rfl) y

set_option maxHeartbeats 1000000 in
/-- The body's triple on whole staging buffers: the inputs' stay, the result's is `out2_12` of them. -/
theorem sound_kernel (c : Dev nD) (E : Set ℕ) (i : grid2.Coords) (arg1 : Memref sig .tc .vmem S4x1x1024x768 .f32) (harg1 : arg1.IsWhole) (arg2 : Memref sig .tc .vmem S1x1024x768 .f32) (harg2 : arg2.IsWhole) (arg3 : Memref sig .tc .vmem S1x1024x384 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S768x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x1536 .f32) (harg9 : arg9.IsWhole) (arg10 : Memref sig .tc .vmem S1x1536 .f32) (harg10 : arg10.IsWhole) (arg11 : Memref sig .tc .vmem S1536x384 .f32) (harg11 : arg11.IsWhole) (arg12 : Memref sig .tc .vmem S1x384 .f32) (harg12 : arg12.IsWhole) (arg13 : Memref sig .tc .vmem S1x1024x384 .f32) (harg13 : arg13.IsWhole)
    (x0 : Vec F S4x1x1024x768 .f32) (x1 : Vec F S1x1024x768 .f32) (x2 : Vec F S1x1024x384 .f32) (x3 : Vec F S1x768 .f32) (x4 : Vec F S1x768 .f32) (x5 : Vec F S768x384 .f32) (x6 : Vec F S1x384 .f32) (x7 : Vec F S1x384 .f32) (x8 : Vec F S384x1536 .f32) (x9 : Vec F S1x1536 .f32) (x10 : Vec F S1536x384 .f32) (x11 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2_12 x0 x1 x2 x3 x4 x5 x6 x7 x8 x9 x10 x11)) -∗ K ⟨⟩))
      ⊢ wp frame (wpE (defs₀ (F := F)) Variants.none c none) E (cc2_mamba_post i arg1 harg1 arg2 harg2 arg3 harg3 arg4 harg4 arg5 harg5 arg6 harg6 arg7 harg7 arg8 harg8 arg9 harg9 arg10 harg10 arg11 harg11 arg12 harg12 arg13 harg13) K := by
  simp only [cc2_mamba_post_eq_skeleton]; unfold cc2_mamba_post_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (cover2_12 _)).trans ?_
  rfl

/-- The proof data: every input's buffer stays at its block, the result's is what the body computes of them. -/
def dats (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => out2_12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)
  Φ _ := Pipeline.ΦA spec2 c
  q _ := fullShare
  owed _ := 0

/-- The arrays enter as the region finds them. -/
theorem A_eq (c : Dev nD) (w : Fin cfg2.W) : (dats V c).A w = V c (Pipeline.arrRef spec2 w) := by
  dsimp only [dats]

theorem after2_0 (c : Dev nD) (t : Fin cfg2.N) : (dats V c).after 0 t = iblk V c 0 t := by dsimp only [dats]
theorem after2_1 (c : Dev nD) (t : Fin cfg2.N) : (dats V c).after 1 t = iblk V c 1 t := by dsimp only [dats]
theorem after2_2 (c : Dev nD) (t : Fin cfg2.N) : (dats V c).after 2 t = iblk V c 2 t := by dsimp only [dats]
theorem after2_3 (c : Dev nD) (t : Fin cfg2.N) : (dats V c).after 3 t = iblk V c 3 t := by dsimp only [dats]
theorem after2_4 (c : Dev nD) (t : Fin cfg2.N) : (dats V c).after 4 t = iblk V c 4 t := by dsimp only [dats]
theorem after2_5 (c : Dev nD) (t : Fin cfg2.N) : (dats V c).after 5 t = iblk V c 5 t := by dsimp only [dats]
theorem after2_6 (c : Dev nD) (t : Fin cfg2.N) : (dats V c).after 6 t = iblk V c 6 t := by dsimp only [dats]
theorem after2_7 (c : Dev nD) (t : Fin cfg2.N) : (dats V c).after 7 t = iblk V c 7 t := by dsimp only [dats]
theorem after2_8 (c : Dev nD) (t : Fin cfg2.N) : (dats V c).after 8 t = iblk V c 8 t := by dsimp only [dats]
theorem after2_9 (c : Dev nD) (t : Fin cfg2.N) : (dats V c).after 9 t = iblk V c 9 t := by dsimp only [dats]
theorem after2_10 (c : Dev nD) (t : Fin cfg2.N) : (dats V c).after 10 t = iblk V c 10 t := by dsimp only [dats]
theorem after2_11 (c : Dev nD) (t : Fin cfg2.N) : (dats V c).after 11 t = iblk V c 11 t := by dsimp only [dats]
theorem after2_12 (c : Dev nD) (t : Fin cfg2.N) : (dats V c).after 12 t = out2_12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := by dsimp only [dats]

theorem before2_0 (c : Dev nD) (t : Fin cfg2.N) (d) : (dats V c).before 0 t d = iblk V c 0 t :=
  ((dats V c).before_in_eq_fetched 0 rfl (fun _ => rfl) (fun _ _ _ => rfl) (fun t => by rw [after2_0]; unfold Dat.blockOf iblk; rw [A_eq]; try rfl) t d).trans
    (by unfold Dat.fetched Dat.blockOf iblk; rw [A_eq]; try rfl)
theorem before2_1 (c : Dev nD) (t : Fin cfg2.N) (d) : (dats V c).before 1 t d = iblk V c 1 t :=
  ((dats V c).before_in_eq_fetched 1 rfl (fun _ => rfl) (fun _ _ _ => rfl) (fun t => by rw [after2_1]; unfold Dat.blockOf iblk; rw [A_eq]; try rfl) t d).trans
    (by unfold Dat.fetched Dat.blockOf iblk; rw [A_eq]; try rfl)
theorem before2_2 (c : Dev nD) (t : Fin cfg2.N) (d) : (dats V c).before 2 t d = iblk V c 2 t :=
  ((dats V c).before_in_eq_fetched 2 rfl (fun _ => rfl) (fun _ _ _ => rfl) (fun t => by rw [after2_2]; unfold Dat.blockOf iblk; rw [A_eq]; try rfl) t d).trans
    (by unfold Dat.fetched Dat.blockOf iblk; rw [A_eq]; try rfl)
theorem before2_3 (c : Dev nD) (t : Fin cfg2.N) (d) : (dats V c).before 3 t d = iblk V c 3 t :=
  ((dats V c).before_in_eq_fetched 3 rfl (fun _ => rfl) (fun _ _ _ => rfl) (fun t => by rw [after2_3]; unfold Dat.blockOf iblk; rw [A_eq]; try rfl) t d).trans
    (by unfold Dat.fetched Dat.blockOf iblk; rw [A_eq]; try rfl)
theorem before2_4 (c : Dev nD) (t : Fin cfg2.N) (d) : (dats V c).before 4 t d = iblk V c 4 t :=
  ((dats V c).before_in_eq_fetched 4 rfl (fun _ => rfl) (fun _ _ _ => rfl) (fun t => by rw [after2_4]; unfold Dat.blockOf iblk; rw [A_eq]; try rfl) t d).trans
    (by unfold Dat.fetched Dat.blockOf iblk; rw [A_eq]; try rfl)
theorem before2_5 (c : Dev nD) (t : Fin cfg2.N) (d) : (dats V c).before 5 t d = iblk V c 5 t :=
  ((dats V c).before_in_eq_fetched 5 rfl (fun _ => rfl) (fun _ _ _ => rfl) (fun t => by rw [after2_5]; unfold Dat.blockOf iblk; rw [A_eq]; try rfl) t d).trans
    (by unfold Dat.fetched Dat.blockOf iblk; rw [A_eq]; try rfl)
theorem before2_6 (c : Dev nD) (t : Fin cfg2.N) (d) : (dats V c).before 6 t d = iblk V c 6 t :=
  ((dats V c).before_in_eq_fetched 6 rfl (fun _ => rfl) (fun _ _ _ => rfl) (fun t => by rw [after2_6]; unfold Dat.blockOf iblk; rw [A_eq]; try rfl) t d).trans
    (by unfold Dat.fetched Dat.blockOf iblk; rw [A_eq]; try rfl)
theorem before2_7 (c : Dev nD) (t : Fin cfg2.N) (d) : (dats V c).before 7 t d = iblk V c 7 t :=
  ((dats V c).before_in_eq_fetched 7 rfl (fun _ => rfl) (fun _ _ _ => rfl) (fun t => by rw [after2_7]; unfold Dat.blockOf iblk; rw [A_eq]; try rfl) t d).trans
    (by unfold Dat.fetched Dat.blockOf iblk; rw [A_eq]; try rfl)
theorem before2_8 (c : Dev nD) (t : Fin cfg2.N) (d) : (dats V c).before 8 t d = iblk V c 8 t :=
  ((dats V c).before_in_eq_fetched 8 rfl (fun _ => rfl) (fun _ _ _ => rfl) (fun t => by rw [after2_8]; unfold Dat.blockOf iblk; rw [A_eq]; try rfl) t d).trans
    (by unfold Dat.fetched Dat.blockOf iblk; rw [A_eq]; try rfl)
theorem before2_9 (c : Dev nD) (t : Fin cfg2.N) (d) : (dats V c).before 9 t d = iblk V c 9 t :=
  ((dats V c).before_in_eq_fetched 9 rfl (fun _ => rfl) (fun _ _ _ => rfl) (fun t => by rw [after2_9]; unfold Dat.blockOf iblk; rw [A_eq]; try rfl) t d).trans
    (by unfold Dat.fetched Dat.blockOf iblk; rw [A_eq]; try rfl)
theorem before2_10 (c : Dev nD) (t : Fin cfg2.N) (d) : (dats V c).before 10 t d = iblk V c 10 t :=
  ((dats V c).before_in_eq_fetched 10 rfl (fun _ => rfl) (fun _ _ _ => rfl) (fun t => by rw [after2_10]; unfold Dat.blockOf iblk; rw [A_eq]; try rfl) t d).trans
    (by unfold Dat.fetched Dat.blockOf iblk; rw [A_eq]; try rfl)
theorem before2_11 (c : Dev nD) (t : Fin cfg2.N) (d) : (dats V c).before 11 t d = iblk V c 11 t :=
  ((dats V c).before_in_eq_fetched 11 rfl (fun _ => rfl) (fun _ _ _ => rfl) (fun t => by rw [after2_11]; unfold Dat.blockOf iblk; rw [A_eq]; try rfl) t d).trans
    (by unfold Dat.fetched Dat.blockOf iblk; rw [A_eq]; try rfl)

/-- What the body is called with at a point. -/
def bodyPre (c : Dev nD) (t : Fin cfg2.N) : sProp 𝕄 :=
  iprop((dats V c).Φ t.castSucc ∗ (dats V c).owesAt () t.castSucc
    ∗ (∃ d, owns (c : Thread nD τ) (st2_0 t) fullShare ((dats V c).before 0 t d))
    ∗ (∃ d, owns (c : Thread nD τ) (st2_1 t) fullShare ((dats V c).before 1 t d))
    ∗ (∃ d, owns (c : Thread nD τ) (st2_2 t) fullShare ((dats V c).before 2 t d))
    ∗ (∃ d, owns (c : Thread nD τ) (st2_3 t) fullShare ((dats V c).before 3 t d))
    ∗ (∃ d, owns (c : Thread nD τ) (st2_4 t) fullShare ((dats V c).before 4 t d))
    ∗ (∃ d, owns (c : Thread nD τ) (st2_5 t) fullShare ((dats V c).before 5 t d))
    ∗ (∃ d, owns (c : Thread nD τ) (st2_6 t) fullShare ((dats V c).before 6 t d))
    ∗ (∃ d, owns (c : Thread nD τ) (st2_7 t) fullShare ((dats V c).before 7 t d))
    ∗ (∃ d, owns (c : Thread nD τ) (st2_8 t) fullShare ((dats V c).before 8 t d))
    ∗ (∃ d, owns (c : Thread nD τ) (st2_9 t) fullShare ((dats V c).before 9 t d))
    ∗ (∃ d, owns (c : Thread nD τ) (st2_10 t) fullShare ((dats V c).before 10 t d))
    ∗ (∃ d, owns (c : Thread nD τ) (st2_11 t) fullShare ((dats V c).before 11 t d))
    ∗ (∃ d, owns (c : Thread nD τ) (st2_12 t) fullShare ((dats V c).before 12 t d)))

/-- What the body returns at a point. -/
def bodyPost (c : Dev nD) (t : Fin cfg2.N) : sProp 𝕄 :=
  iprop((dats V c).Φ t.succ ∗ (dats V c).owesAt () t.succ
    ∗ owns (c : Thread nD τ) (st2_0 t) fullShare ((dats V c).after 0 t)
    ∗ owns (c : Thread nD τ) (st2_1 t) fullShare ((dats V c).after 1 t)
    ∗ owns (c : Thread nD τ) (st2_2 t) fullShare ((dats V c).after 2 t)
    ∗ owns (c : Thread nD τ) (st2_3 t) fullShare ((dats V c).after 3 t)
    ∗ owns (c : Thread nD τ) (st2_4 t) fullShare ((dats V c).after 4 t)
    ∗ owns (c : Thread nD τ) (st2_5 t) fullShare ((dats V c).after 5 t)
    ∗ owns (c : Thread nD τ) (st2_6 t) fullShare ((dats V c).after 6 t)
    ∗ owns (c : Thread nD τ) (st2_7 t) fullShare ((dats V c).after 7 t)
    ∗ owns (c : Thread nD τ) (st2_8 t) fullShare ((dats V c).after 8 t)
    ∗ owns (c : Thread nD τ) (st2_9 t) fullShare ((dats V c).after 9 t)
    ∗ owns (c : Thread nD τ) (st2_10 t) fullShare ((dats V c).after 10 t)
    ∗ owns (c : Thread nD τ) (st2_11 t) fullShare ((dats V c).after 11 t)
    ∗ owns (c : Thread nD τ) (st2_12 t) fullShare ((dats V c).after 12 t))

/-- The body at a point, the inputs' buffers at their blocks. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5, before2_6, before2_7, before2_8, before2_9, before2_10, before2_11]
  rw [show (dats V c).Φ t.succ = (dats V c).Φ t.castSucc from rfl,
    show (dats V c).owesAt () t.succ = (dats V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid2.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row is the body at the point. -/
theorem defs₀_row (t : Fin cfg2.N) :
    defs₀ (F := F) .tc cfg2.body (cfg2.bodyArgs t (cfg2.slots t)) = bodyAt2 t := by
  unfold defs₀; rw [Defs.onTc_tc]

/-- The pipeline's body obligation at every point. -/
theorem body_obligation (c : Dev nD) : BodyObligation (dats (F := F) V c) (defs₀ (F := F)) Variants.none () Set.univ := fun t => by
  rw [bigSep_W2, bigSep_W2, defs₀_row]
  exact triple_restated (sound_body V c t) rfl .rfl fun _ => .rfl

end Cert.KernelIdeal.R2

end
-- ==== Proof.Run.lean ====
module

public import proofs.«01_k».proof.Proof.Pre
public import proofs.«01_k».proof.Proof.Scan
public import proofs.«01_k».proof.Proof.Post
public import Idealize.ShloMosaic.Lib.Pipeline.Frame
public import Idealize.ShloMosaic.Lib.Pipeline.Regions
public import Idealize.ShloMosaic.Lib.Pipeline.RegionArraysS
public import Idealize.ShloMosaic.Lib.Pipeline.FrameTail

/-! The run of the whole program: its buffers between the items, the three regions' records, and what every buffer holds at the end. -/

@[expose] public section

set_option maxRecDepth 16384

noncomputable section

namespace Cert.KernelIdeal.Run

open Cert.KernelIdeal.Gen Cert.KernelIdeal.Lau
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

theorem hostOps0_fresh : (hostOps0 : List (HloOp τ sig (Elt F))).Forall fun op => op.fresh = ∅ := by
  simp only [List.Forall]; repeat' constructor
/-- The references `hostOps0` writes, in order. -/
abbrev hostOps0_W : List (Ref sig .tc) := [main_v0, main_v1, main_cst, main_v2, main_v3, main_v4, main_c, main_v5, main_v6, main_v7, main_v8, main_v9, main_v10]
theorem hostOps0_writes : (hostOps0 : List (HloOp τ sig (Elt F))).Forall fun op => op.writes ⊆ (hostOps0_W.map (Proc.devRef (τ := τ) .tc)).toFinset :=
  StableHlo.forall_writes_sub_of_map rfl

theorem hostOps1_fresh : (hostOps1 : List (HloOp τ sig (Elt F))).Forall fun op => op.fresh = ∅ := by
  simp only [List.Forall]; repeat' constructor
/-- The references `hostOps1` writes, in order. -/
abbrev hostOps1_W : List (Ref sig .tc) := [main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49]
theorem hostOps1_writes : (hostOps1 : List (HloOp τ sig (Elt F))).Forall fun op => op.writes ⊆ (hostOps1_W.map (Proc.devRef (τ := τ) .tc)).toFinset :=
  StableHlo.forall_writes_sub_of_map rfl

theorem hostOps2_fresh : (hostOps2 : List (HloOp τ sig (Elt F))).Forall fun op => op.fresh = ∅ := by
  simp only [List.Forall]; repeat' constructor
/-- The references `hostOps2` writes, in order. -/
abbrev hostOps2_W : List (Ref sig .tc) := [main_v51, main_v52, main_v53, main_v54, main_v55, main_v56, main_v57, main_v58, main_v59]
theorem hostOps2_writes : (hostOps2 : List (HloOp τ sig (Elt F))).Forall fun op => op.writes ⊆ (hostOps2_W.map (Proc.devRef (τ := τ) .tc)).toFinset :=
  StableHlo.forall_writes_sub_of_map rfl

theorem hostOps3_fresh : (hostOps3 : List (HloOp τ sig (Elt F))).Forall fun op => op.fresh = ∅ := by
  simp only [List.Forall]; repeat' constructor
/-- The references `hostOps3` writes, in order. -/
abbrev hostOps3_W : List (Ref sig .tc) := [main_v61]
theorem hostOps3_writes : (hostOps3 : List (HloOp τ sig (Elt F))).Forall fun op => op.writes ⊆ (hostOps3_W.map (Proc.devRef (τ := τ) .tc)).toFinset :=
  StableHlo.forall_writes_sub_of_map rfl

variable (m : (ℓ : Loc nD τ sig) → Buf (Elt F) ℓ)

/-! The unscoped buffers' contents between the items. -/

def W0 (c : Dev nD) : Valuation τ sig (Elt F) := fun b => m (c, b)
def W1 (c : Dev nD) : Valuation τ sig (Elt F) := StableHlo.after hostOps0 (W0 m c)
def V0 (c : Dev nD) (b : Ref sig .tc) : Buf (Elt F) ((c : Thread nD τ).loc b) := W1 m c (Proc.devRef .tc b)
def D0 (c : Dev nD) : Dat τ (Elt F) Unit ℕ (UR sig nD τ) ℕ cfg0 c := R0.dats (V0 m) c
def W2 (c : Dev nD) : Valuation τ sig (Elt F) := Pipeline.afterRegion (D0 m c) (W1 m c)
def W3 (c : Dev nD) : Valuation τ sig (Elt F) := StableHlo.after hostOps1 (W2 m c)
def V1 (c : Dev nD) (b : Ref sig .tc) : Buf (Elt F) ((c : Thread nD τ).loc b) := W3 m c (Proc.devRef .tc b)
def D1 (c : Dev nD) : Dat τ (Elt F) Unit ℕ (UR sig nD τ) ℕ cfg1 c := R1.dats (V1 m) c
def W4 (c : Dev nD) : Valuation τ sig (Elt F) := Pipeline.afterRegion (D1 m c) (W3 m c)
def W5 (c : Dev nD) : Valuation τ sig (Elt F) := StableHlo.after hostOps2 (W4 m c)
def V2 (c : Dev nD) (b : Ref sig .tc) : Buf (Elt F) ((c : Thread nD τ).loc b) := W5 m c (Proc.devRef .tc b)
def D2 (c : Dev nD) : Dat τ (Elt F) Unit ℕ (UR sig nD τ) ℕ cfg2 c := R2.dats (V2 m) c
def W6 (c : Dev nD) : Valuation τ sig (Elt F) := Pipeline.afterRegion (D2 m c) (W5 m c)
def W7 (c : Dev nD) : Valuation τ sig (Elt F) := StableHlo.after hostOps3 (W6 m c)

/-- The three pipelines' proof data. -/
def pdats : (p : Fin 3) → (c : Dev nD) → Dat τ (Elt F) Unit ℕ (UR sig nD τ) ℕ (cfgs p) c
  | 0 => D0 m
  | 1 => D1 m
  | 2 => D2 m
  | ⟨_ + 3, h⟩ => absurd h (Nat.not_lt.2 (Nat.le_add_left _ _))

abbrev adm : (p : Fin 3) → (pcfgs (F := F) p).Adm := fun p => (cfgs p).toPCfg_adm

/-- Every core's waiting is at one level. -/
def Lv : GSem nD τ sig → Finset Unit := fun g => if g.1.2 = .tc then {()} else ∅
def lv : GSem nD τ sig → Unit → ℕ := fun _ _ => 0

/-- No core owes anything, so no level is ever exceeded. -/
theorem cut (p : Fin 3) : Pipeline.LevelCut (pcfgs (F := F)) adm () Lv lv p (0 : Dev nD → CellTallies nD τ sig Unit) (fun _ => 0) where
  hι c w s := by unfold Lv; rw [if_pos rfl]; exact Finset.mem_singleton_self _
  hιb c w s := le_refl _
  hD c g i h := absurd h (lt_irrefl _)

/-- What rides beside the buffers: nothing owed, the generator's register. -/
def E (c : Dev nD) : sProp 𝕄 := iprop((∃ Wd, owes (c : Thread nD τ) (0 : CellTallies nD τ sig Unit) Wd) ∗ (∃ r, prngReg c r) ∗ emp)

attribute [local irreducible] W0 W1 W3 W5 W7

/-- A region entered from every unscoped buffer at `W` and left at what its run makes of it. -/
def reg (p : Fin 3) (kit : Pipeline.LaunchFacts (nD := nD) (τ := τ) cfgs p) (W : Dev nD → Valuation τ sig (Elt F))
    (hbody : ∀ c, Pipeline.BodyObligation (pdats m p c) (defs₀ (F := F)) Variants.none () Set.univ)
    (howed : ∀ c t, (pdats m p c).owed t = 0) (hrec : ∀ c, (pdats m p c).recorded 0 = Set.univ)
    (hshare : ∀ c w, (pdats m p c).share w = fullShare)
    (hin : ∀ c, iprop(Pipeline.scopedRest (Pipeline.pin (pcfgs (F := F)) adm p).spec c ∗ (∃ r, prngReg c r)) ⊢ (pdats m p c).Φ 0)
    (hout : ∀ c, (pdats m p c).Φ (Fin.last (Pipeline.pin (pcfgs (F := F)) adm p).N) ⊢ iprop(Pipeline.scopedRest (Pipeline.pin (pcfgs (F := F)) adm p).spec c ∗ (∃ r, prngReg c r)))
    (hW : ∀ c w, (pdats m p c).arrAt w 0 = W c (Proc.devRef .tc (Pipeline.arrRef (Pipeline.pin (pcfgs (F := F)) adm p).spec w))) :
    RegionSeg (pcfgs (F := F)) adm (pdats m) () defs₀ Variants.none Lv lv p :=
  Pipeline.RegionSeg.ofHeldIn pcfgs adm (pdats m) () defs₀ Variants.none Lv lv p 0 (Pipeline.ucRefs τ sig)
    (fun c => iprop(∃ r, prngReg c r)) (fun c => iprop(∃ r, prngReg c r)) kit.toP rfl (fun c => (hbody c).loose) howed hrec hshare hin hout
    (fun _ => 0) (cut p) (fun _ => iprop(emp)) W hW

theorem arrs_sub {p : Fin 3} (kit : Pipeline.LaunchFacts (nD := nD) (τ := τ) cfgs p) : Pipeline.arrRefs (τ := τ) (pcfgs (F := F) p).spec ⊆ Pipeline.ucRefs τ sig :=
  Pipeline.arrRefs_sub_ucRefs _ kit.toP.win.arr_unscoped

section
variable {m} {p : Fin 3} {kit : Pipeline.LaunchFacts (nD := nD) (τ := τ) cfgs p} {W : Dev nD → Valuation τ sig (Elt F)}
  {hbody howed hrec hshare hin hout hW}
theorem reg_pre (c : Dev nD) : iprop(StableHlo.held (c : Thread nD τ) (Pipeline.ucRefs τ sig) (W c) ∗ E c) ⊢ (reg m p kit W hbody howed hrec hshare hin hout hW).pre c := by
  unfold reg E
  exact Pipeline.RegionSeg.ofHeldIn_pre (D := 0) (R := fun _ => iprop(emp)) (W := W) (X := fun c => iprop(∃ r, prngReg c r)) (arrs_sub kit) c
theorem reg_post (c : Dev nD) : (reg m p kit W hbody howed hrec hshare hin hout hW).post c ⊢ iprop(StableHlo.held (c : Thread nD τ) (Pipeline.ucRefs τ sig) (Pipeline.afterRegion (pdats m p c) (W c)) ∗ E c) :=
  Pipeline.RegionSeg.ofHeldIn_post (arrs_sub kit) c
end

theorem body0 (c : Dev nD) : Pipeline.BodyObligation (pdats (F := F) m 0 c) (defs₀ (F := F)) Variants.none () Set.univ :=
  R0.body_obligation (V0 m) c
theorem entered0 (c : Dev nD) (w : Fin (Pipeline.pin (pcfgs (F := F)) adm 0).W) :
    (pdats m 0 c).arrAt w 0 = W1 m c (Proc.devRef .tc (Pipeline.arrRef (Pipeline.pin (pcfgs (F := F)) adm 0).spec w)) :=
  R0.A_eq (V0 m) c w
/-- The pre kernel's region. -/
def G0 : RegionSeg (pcfgs (F := F)) adm (pdats m) () defs₀ Variants.none Lv lv 0 :=
  reg m 0 launch0 (W1 m) (body0 m) (fun _ _ => rfl) (fun _ => rfl) (fun c => (D0 m c).share_full fun _ => rfl)
    (fun c => .rfl) (fun c => .rfl) (entered0 m)
theorem body1 (c : Dev nD) : Pipeline.BodyObligation (pdats (F := F) m 1 c) (defs₀ (F := F)) Variants.none () Set.univ :=
  R1.body_obligation (V1 m) c
theorem entered1 (c : Dev nD) (w : Fin (Pipeline.pin (pcfgs (F := F)) adm 1).W) :
    (pdats m 1 c).arrAt w 0 = W3 m c (Proc.devRef .tc (Pipeline.arrRef (Pipeline.pin (pcfgs (F := F)) adm 1).spec w)) :=
  R1.A_eq (V1 m) c w
/-- The scan kernel's region. -/
def G1 : RegionSeg (pcfgs (F := F)) adm (pdats m) () defs₀ Variants.none Lv lv 1 :=
  reg m 1 launch1 (W3 m) (body1 m) (fun _ _ => rfl) (fun _ => rfl) (fun c => (D1 m c).share_full fun _ => rfl)
    (fun c => R1.Phi_in (V1 m) c) (fun c => R1.Phi_out (V1 m) c _) (entered1 m)
theorem body2 (c : Dev nD) : Pipeline.BodyObligation (pdats (F := F) m 2 c) (defs₀ (F := F)) Variants.none () Set.univ :=
  R2.body_obligation (V2 m) c
theorem entered2 (c : Dev nD) (w : Fin (Pipeline.pin (pcfgs (F := F)) adm 2).W) :
    (pdats m 2 c).arrAt w 0 = W5 m c (Proc.devRef .tc (Pipeline.arrRef (Pipeline.pin (pcfgs (F := F)) adm 2).spec w)) :=
  R2.A_eq (V2 m) c w
/-- The post kernel's region. -/
def G2 : RegionSeg (pcfgs (F := F)) adm (pdats m) () defs₀ Variants.none Lv lv 2 :=
  reg m 2 launch2 (W5 m) (body2 m) (fun _ _ => rfl) (fun _ => rfl) (fun c => (D2 m c).share_full fun _ => rfl)
    (fun c => .rfl) (fun c => .rfl) (entered2 m)

/-- A host stretch over the unscoped buffers. -/
def host (ops : List (HloOp τ sig (Elt F))) (hs : ops.Forall fun op => op.bufs ⊆ StableHlo.tcRefs τ sig) (hf : ops.Forall fun op => op.fresh = ∅) (W : Dev nD → Valuation τ sig (Elt F)) :
    HostSeg (Ix := Unit) (Name := ℕ) (U := UR sig nD τ) (Lvl := ℕ) (pcfgs (F := F)) defs₀ Variants.none Lv lv :=
  HostSeg.ofOps _ _ _ _ _ (Pipeline.ucRefs τ sig) ops
    (fun op h => Pipeline.sub_ucRefs op ((List.forall_iff_forall_mem.mp hs) op h))
    (fun op h => (List.forall_iff_forall_mem.mp hf) op h) W E

/-- The program's items. -/
abbrev segs (c : Dev nD) : List (Seg (pcfgs (F := F)) adm (pdats m) () defs₀ Variants.none Lv lv) :=
  [.host (host hostOps0 hostOps0_sub hostOps0_fresh (W0 m)), .region (G0 m), .host (host hostOps1 hostOps1_sub hostOps1_fresh (W2 m)), .region (G1 m),
   .host (host hostOps2 hostOps2_sub hostOps2_fresh (W4 m)), .region (G2 m), .host (host hostOps3 hostOps3_sub hostOps3_fresh (W6 m))]

theorem no_unscoped : ∀ sm : SemLoc sig, sm.isScoped .tc = true := by decide

theorem pre0 (c : Dev nD) : iprop(StableHlo.held (c : Thread nD τ) (Pipeline.ucRefs τ sig) (W1 m c) ∗ E c) ⊢ (G0 m).pre c := by
  unfold G0; exact reg_pre c
theorem post0 (c : Dev nD) : (G0 m).post c ⊢ iprop(StableHlo.held (c : Thread nD τ) (Pipeline.ucRefs τ sig) (W2 m c) ∗ E c) := by
  unfold G0 W2; exact reg_post c
theorem pre1 (c : Dev nD) : iprop(StableHlo.held (c : Thread nD τ) (Pipeline.ucRefs τ sig) (W3 m c) ∗ E c) ⊢ (G1 m).pre c := by
  unfold G1; exact reg_pre c
theorem post1 (c : Dev nD) : (G1 m).post c ⊢ iprop(StableHlo.held (c : Thread nD τ) (Pipeline.ucRefs τ sig) (W4 m c) ∗ E c) := by
  unfold G1 W4; exact reg_post c
theorem pre2 (c : Dev nD) : iprop(StableHlo.held (c : Thread nD τ) (Pipeline.ucRefs τ sig) (W5 m c) ∗ E c) ⊢ (G2 m).pre c := by
  unfold G2; exact reg_pre c
theorem post2 (c : Dev nD) : (G2 m).post c ⊢ iprop(StableHlo.held (c : Thread nD τ) (Pipeline.ucRefs τ sig) (W6 m c) ∗ E c) := by
  unfold G2 W6; exact reg_post c
theorem host_pre (ops : List (HloOp τ sig (Elt F))) (hs hf) (W : Dev nD → Valuation τ sig (Elt F)) (c : Dev nD) :
    (host ops hs hf W).pre c = iprop(StableHlo.held (c : Thread nD τ) (Pipeline.ucRefs τ sig) (W c) ∗ E c) := rfl
theorem host_post (ops : List (HloOp τ sig (Elt F))) (hs hf) (W : Dev nD → Valuation τ sig (Elt F)) (c : Dev nD) :
    (host ops hs hf W).post c = iprop(StableHlo.held (c : Thread nD τ) (Pipeline.ucRefs τ sig) (StableHlo.after ops (W c)) ∗ E c) := rfl
theorem left0 (c : Dev nD) : (host hostOps0 hostOps0_sub hostOps0_fresh (W0 m)).post c = iprop(StableHlo.held (c : Thread nD τ) (Pipeline.ucRefs τ sig) (W1 m c) ∗ E c) := by
  rw [host_post]; unfold W1; rfl
theorem left1 (c : Dev nD) : (host hostOps1 hostOps1_sub hostOps1_fresh (W2 m)).post c = iprop(StableHlo.held (c : Thread nD τ) (Pipeline.ucRefs τ sig) (W3 m c) ∗ E c) := by
  rw [host_post]; unfold W3; rfl
theorem left2 (c : Dev nD) : (host hostOps2 hostOps2_sub hostOps2_fresh (W4 m)).post c = iprop(StableHlo.held (c : Thread nD τ) (Pipeline.ucRefs τ sig) (W5 m c) ∗ E c) := by
  rw [host_post]; unfold W5; rfl
theorem left3 (c : Dev nD) : (host hostOps3 hostOps3_sub hostOps3_fresh (W6 m)).post c = iprop(StableHlo.held (c : Thread nD τ) (Pipeline.ucRefs τ sig) (W7 m c) ∗ E c) := by
  rw [host_post]; unfold W7; rfl

attribute [local irreducible] G0 G1 G2

/-- Each item starts from what the one before it leaves. -/
theorem chains (c : Dev nD) : Seg.ChainsAt c (fun c => iprop(StableHlo.held (c : Thread nD τ) (Pipeline.ucRefs τ sig) (W0 m c) ∗ E c)) (segs m c)
    (fun c => iprop(StableHlo.held (c : Thread nD τ) (Pipeline.ucRefs τ sig) (W7 m c) ∗ ∃ Wd, owes (c : Thread nD τ) (0 : CellTallies nD τ sig Unit) Wd)) := by
  refine ⟨?_, ?_, ?_, ?_, ?_, ?_, ?_, ?_⟩
  · exact .of_eq (host_pre _ _ _ _ c).symm
  · exact (show (host hostOps0 hostOps0_sub hostOps0_fresh (W0 m)).post c ⊢ (G0 m).pre c by rw [left0]; exact pre0 m c)
  · exact (show (G0 m).post c ⊢ (host hostOps1 hostOps1_sub hostOps1_fresh (W2 m)).pre c by rw [host_pre]; exact post0 m c)
  · exact (show (host hostOps1 hostOps1_sub hostOps1_fresh (W2 m)).post c ⊢ (G1 m).pre c by rw [left1]; exact pre1 m c)
  · exact (show (G1 m).post c ⊢ (host hostOps2 hostOps2_sub hostOps2_fresh (W4 m)).pre c by rw [host_pre]; exact post1 m c)
  · exact (show (host hostOps2 hostOps2_sub hostOps2_fresh (W4 m)).post c ⊢ (G2 m).pre c by rw [left2]; exact pre2 m c)
  · exact (show (G2 m).post c ⊢ (host hostOps3 hostOps3_sub hostOps3_fresh (W6 m)).pre c by rw [host_pre]; exact post2 m c)
  · refine (show (host hostOps3 hostOps3_sub hostOps3_fresh (W6 m)).post c ⊢ _ by
      rw [left3]
      exact sep_mono .rfl (by unfold E; iintro ⟨HO, -, -⟩; iexact HO))

set_option backward.isDefEq.respectTransparency.types false in
/-- Every execution of the program ends, with every unscoped buffer at `W7` and every semaphore at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W7 m c b) ∧ r.2.sem = fun _ => 0) := by
  refine Pipeline.θ_run_regions_kit_dev_sems (pcfgs (F := F)) adm (pdats m) () cellOf_inj emb₁ defs₀ Variants.none Lv lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (O₀ := 0) (hL := fun g hg => if_neg hg)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W7 m c))
    (hch := chains m)
    (hinit := by
      refine Pipeline.initEach Lv lv fun c => ?_
      rw [show unscopedBufs c (fun b => m ((c.tc : Thread nD τ).loc b)) = StableHlo.held (c.tc : Thread nD τ) (Pipeline.ucRefs τ sig) (W0 m c)
          from by unfold W0; exact Pipeline.unscopedBufs_held (Ix := Unit) (Name := ℕ) (U := UR sig nD τ) (Lvl := ℕ) c (fun b => m (c, b))]
      unfold E
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = W7 m c b)
    (hfin := fun c s' => by
      unfold StableHlo.held
      iintro ⟨Hh, HSI⟩
      ihave Hr := (pointsTo_read_all (Pipeline.ucRefs τ sig) (fun b => ((c.tc : Thread nD τ).1, b)) (W7 m c) s') $$ [Hh HSI]
      · isplitl [Hh] <;> iassumption
      imodintro; iexact Hr)
    (hQ := fun _ h hz => ⟨h, funext fun g => hz g (.inr (no_unscoped g.2))⟩)

/-- A buffer no stretch writes and no region's output window names ends as it began. -/
theorem kept (c : Dev nD) (r : Ref sig .tc) (h0 : r ∉ hostOps0_W) (h1 : r ∉ hostOps1_W) (h2 : r ∉ hostOps2_W) (h3 : r ∉ hostOps3_W)
    (o0 : ∀ w, Pipeline.arrRef spec0 w = r → (cfg0.win w).isOut = false) (o1 : ∀ w, Pipeline.arrRef spec1 w = r → (cfg1.win w).isOut = false)
    (o2 : ∀ w, Pipeline.arrRef spec2 w = r → (cfg2.win w).isOut = false) :
    W7 m c (Proc.devRef .tc r) = m (c, Proc.devRef .tc r) := by
  rw [show W7 m c = StableHlo.after hostOps3 (W6 m c) from by unfold W7; rfl, StableHlo.after_of_writes_sub hostOps3 _ hostOps3_writes h3]
  unfold W6
  rw [Pipeline.afterRegion_keeps (D2 m c) (W5 m c) winFacts2.arr_inj (fun w => entered2 m c w) r o2]
  rw [show W5 m c = StableHlo.after hostOps2 (W4 m c) from by unfold W5; rfl, StableHlo.after_of_writes_sub hostOps2 _ hostOps2_writes h2]
  unfold W4
  rw [Pipeline.afterRegion_keeps (D1 m c) (W3 m c) winFacts1.arr_inj (fun w => entered1 m c w) r o1]
  rw [show W3 m c = StableHlo.after hostOps1 (W2 m c) from by unfold W3; rfl, StableHlo.after_of_writes_sub hostOps1 _ hostOps1_writes h1]
  unfold W2
  rw [Pipeline.afterRegion_keeps (D0 m c) (W1 m c) winFacts0.arr_inj (fun w => entered0 m c w) r o0]
  rw [show W1 m c = StableHlo.after hostOps0 (W0 m c) from by unfold W1; rfl, StableHlo.after_of_writes_sub hostOps0 _ hostOps0_writes h0]
  unfold W0; rfl

/-- The program's arguments. -/
def args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- Every argument ends as it began. -/
theorem args_kept (c : Dev nD) (r : Ref sig .tc) (hr : r ∈ args) : W7 m c (Proc.devRef .tc r) = m (c, Proc.devRef .tc r) := by
  have h : ∀ r ∈ args, r ∉ hostOps0_W ∧ r ∉ hostOps1_W ∧ r ∉ hostOps2_W ∧ r ∉ hostOps3_W ∧ r.isScoped = false
      ∧ (∀ w, Pipeline.arrRef spec0 w = r → (cfg0.win w).isOut = false) ∧ (∀ w, Pipeline.arrRef spec1 w = r → (cfg1.win w).isOut = false)
      ∧ (∀ w, Pipeline.arrRef spec2 w = r → (cfg2.win w).isOut = false) := by decide
  obtain ⟨h0, h1, h2, h3, -, o0, o1, o2⟩ := h r hr
  exact kept m c r h0 h1 h2 h3 o0 o1 o2

theorem args_unscoped : ∀ r ∈ args, (Proc.devRef .tc r : DevRef τ sig).isScoped = false := by decide

/-- Every execution ends with the arguments as they were, every semaphore at zero and the result what `W7` says. -/
theorem run_args (ρ : Dev nD → PrngReg) :
    θ_run defs (onTc (τ := τ) (main (F := F))) ⟨m, fun _ => 0, ρ⟩ (fun r =>
      (∀ c : Dev nD, (∀ b ∈ args, r.2.mem ((c.tc : Thread nD τ).loc b) = m ((c.tc : Thread nD τ).loc b)) ∧
        r.2.mem ((c.tc : Thread nD τ).loc main_v61) = W7 m c (Proc.devRef .tc main_v61)) ∧ r.2.sem = fun _ => 0) :=
  (θ_run _ _ _).mono (fun r h => ⟨fun c => ⟨fun b hb =>
      (h.1 c _ (Pipeline.devRef_mem_ucRefs (args_unscoped b hb))).trans (args_kept m c b hb),
      h.1 c _ (Pipeline.devRef_mem_ucRefs (b := main_v61) (by decide))⟩, h.2⟩) (run m ρ)

end Cert.KernelIdeal.Run

end
-- ==== Proof.Tr.lean ====
module

public import proofs.«01_k».proof.Kernel
public import proofs.«01_k».proof.KernelIdeal

/-! The two printed kernels are one program: they differ in the namespace alone.  The bodies, the body table and the
    entry function agree by definition, so a run proved of one is a run of the other. -/

@[expose] public section
set_option maxRecDepth 100000
set_option maxHeartbeats 4000000

namespace Cert.Transport

open Idealize.ShloMosaic Idealize.SL.Sem

variable {F : FTy → Type} [FloatOps F]

/-- The pre kernel's body is the same function in both. -/
theorem pre_eq [Cert.Kernel.Facts] [Cert.KernelIdeal.Facts] : @Cert.Kernel.cc0_mamba_pre F _ _ = @Cert.KernelIdeal.cc0_mamba_pre F _ _ := rfl

/-- The scan kernel's body is the same function in both. -/
theorem scan_eq [Cert.Kernel.Facts] [Cert.KernelIdeal.Facts] : @Cert.Kernel.cc1_mamba_scan F _ _ = @Cert.KernelIdeal.cc1_mamba_scan F _ _ := rfl

/-- The post kernel's body is the same function in both. -/
theorem post_eq [Cert.Kernel.Facts] [Cert.KernelIdeal.Facts] : @Cert.Kernel.cc2_mamba_post F _ _ = @Cert.KernelIdeal.cc2_mamba_post F _ _ := rfl

/-- The three pipelines are configured alike. -/
theorem cfgs_eq [Cert.Kernel.Facts] [Cert.KernelIdeal.Facts] : Cert.Kernel.cfgs = Cert.KernelIdeal.cfgs := by
  funext p
  match p with
  | 0 => rfl
  | 1 => rfl
  | 2 => rfl

/-- The bodies' table is the same in both. -/
theorem defs0_eq [Cert.Kernel.Facts] [Cert.KernelIdeal.Facts] : @Cert.Kernel.defs₀ F _ _ = @Cert.KernelIdeal.defs₀ F _ _ := by
  unfold Cert.Kernel.defs₀ Cert.KernelIdeal.defs₀
  congr 1
  funext x y
  match x, y with
  | 0, (t, s) => rfl
  | 1, (t, s) => rfl
  | 2, (t, s) => rfl
  | ⟨_ + 3, h⟩, _ => exact absurd h (by omega)

end Cert.Transport
-- ==== Proof.Tr2.lean ====
module

public import proofs.«01_k».proof.Proof.Tr

/-! The two printed programs' entry functions and their tables agree. -/

@[expose] public section
set_option maxRecDepth 100000
set_option maxHeartbeats 4000000

namespace Cert.Transport

open Idealize.ShloMosaic Idealize.SL.Sem

variable {F : FTy → Type} [FloatOps F]

/-- The pipelines' tables are the same. -/
theorem pcfgs_eq [Cert.Kernel.Facts] [Cert.KernelIdeal.Facts] : @Cert.Kernel.pcfgs F _ = @Cert.KernelIdeal.pcfgs F _ := by
  unfold Cert.Kernel.pcfgs Cert.KernelIdeal.pcfgs
  rw [cfgs_eq]
  rfl

theorem part0_eq [Cert.Kernel.Facts] [Cert.KernelIdeal.Facts] : @Cert.Kernel.main_part0 F _ _ = @Cert.KernelIdeal.main_part0 F _ _ := rfl
theorem part1_eq [Cert.Kernel.Facts] [Cert.KernelIdeal.Facts] : @Cert.Kernel.main_part1 F _ = @Cert.KernelIdeal.main_part1 F _ := rfl

/-- The entry functions are the same. -/
theorem main_eq [Cert.Kernel.Facts] [Cert.KernelIdeal.Facts] : @Cert.Kernel.main F _ _ = @Cert.KernelIdeal.main F _ _ := by
  unfold Cert.Kernel.main Cert.KernelIdeal.main
  rw [part0_eq, part1_eq]
  rfl

/-- The tables of the programs' labels are the same. -/
theorem defs_eq [Cert.Kernel.Facts] [Cert.KernelIdeal.Facts] : @Cert.Kernel.defs F _ _ = @Cert.KernelIdeal.defs F _ _ := by
  unfold Cert.Kernel.defs Cert.KernelIdeal.defs
  rw [defs0_eq]
  rfl

end Cert.Transport
-- ==== Proof.Ref.lean ====
module

public import proofs.«01_k».proof.Proof.Gen.ReferenceIdeal.Run
public import Idealize.ShloMosaic.Lib.Quiescent

/-! The reference's run: its arguments stay, its semaphores are zero, and its result is what the fold of its operations leaves. -/

@[expose] public section
set_option maxRecDepth 100000

noncomputable section

namespace Cert.ReferenceIdeal.Ref

open Cert.ReferenceIdeal.Gen Cert.ReferenceIdeal.Value
open Idealize.ShloMosaic Idealize.ShloMosaic.TcCoe Idealize.SL.Sem Idealize.ShloMosaic.StableHlo

variable {F : FTy → Type} [FloatOps F]
variable (m : (ℓ : Loc nD τ sig) → Buf (Elt F) ℓ)

/-- What the program's buffers hold at the end. -/
abbrev fin (c : Dev nD) : Valuation τ sig (Elt F) := finalContents condOps preI bodyI postI 1024 m c

abbrev hostOps0_10_W : List (Ref sig .tc) := [main_v128, main_v129, main_v130, main_v131, main_v132, main_v133]
theorem hostOps0_10_writes : (hostOps0_10 : List (HloOp τ sig (Elt F))).Forall fun op => op.writes ⊆ (hostOps0_10_W.map (Proc.devRef (τ := τ) .tc)).toFinset :=
  StableHlo.forall_writes_sub_of_map rfl

abbrev hostOps0_11_W : List (Ref sig .tc) := [main_v134]
theorem hostOps0_11_writes : (hostOps0_11 : List (HloOp τ sig (Elt F))).Forall fun op => op.writes ⊆ (hostOps0_11_W.map (Proc.devRef (τ := τ) .tc)).toFinset :=
  StableHlo.forall_writes_sub_of_map rfl

abbrev hostOps0_12_W : List (Ref sig .tc) := [main_v135, main_v136, main_v137, main_v138, main_v139, main_v140, main_v141, main_v142, main_v143, main_v144, main_v145, main_v146, main_v147, main_v148, main_v149, main_v150, main_v151, main_v152, main_v153, main_cst_8, main_v154, main_v155, main_cst_9, main_v156, main_v157, main_v158, main_v159, main_v160, main_cst_10, main_v161, main_v162, main_cst_11, main_v163, main_v164, main_v165, main_v166, main_cst_12, main_v167, main_v168, main_v169, main_v170, main_v171, main_v172, main_v173, main_v174, main_v175, main_v176, main_v177]
theorem hostOps0_12_writes : (hostOps0_12 : List (HloOp τ sig (Elt F))).Forall fun op => op.writes ⊆ (hostOps0_12_W.map (Proc.devRef (τ := τ) .tc)).toFinset :=
  StableHlo.forall_writes_sub_of_map rfl

abbrev hostOps0_13_W : List (Ref sig .tc) := [main_call11_v0, main_call11_v1, main_call11_cst, main_call11_v2, main_call11_v3, main_call11_cst_0, main_call11_v4, main_call11_v5, main_v178]
theorem hostOps0_13_writes : (hostOps0_13 : List (HloOp τ sig (Elt F))).Forall fun op => op.writes ⊆ (hostOps0_13_W.map (Proc.devRef (τ := τ) .tc)).toFinset :=
  StableHlo.forall_writes_sub_of_map rfl

abbrev hostOps0_14_W : List (Ref sig .tc) := [main_v179, main_v180, main_v181, main_cst_13, main_v182, main_v183, main_cst_14, main_v184, main_v185, main_v186, main_v187, main_v188, main_cst_15, main_v189, main_v190, main_cst_16, main_v191, main_v192, main_v193, main_v194, main_cst_17, main_v195, main_v196, main_v197, main_v198, main_v199, main_v200, main_v201, main_v202, main_v203, main_v204, main_v205, main_v206, main_v207, main_v208, main_v209, main_v210, main_v211, main_cst_18, main_v212, main_v213, main_v214, main_cst_19, main_v215, main_v216, main_v217, main_cst_20, main_v218, main_v219, main_cst_21, main_v220, main_v221, main_v222, main_v223, main_v224, main_v225, main_v226, main_v227]
theorem hostOps0_14_writes : (hostOps0_14 : List (HloOp τ sig (Elt F))).Forall fun op => op.writes ⊆ (hostOps0_14_W.map (Proc.devRef (τ := τ) .tc)).toFinset :=
  StableHlo.forall_writes_sub_of_map rfl

/-- A buffer the loop does not write stays through its trips. -/
theorem loop_kept (W : Dev nD → Valuation τ sig (Elt F)) (c : Dev nD) (r : Ref sig .tc) (h_condOps : r ∉ condOps_W) (h_while0Ops0 : r ∉ while0Ops0_W) (h_while0Ops0_1 : r ∉ while0Ops0_1_W) (h_while0Ops0_2 : r ∉ while0Ops0_2_W) (h_while0Ops0_3 : r ∉ while0Ops0_3_W) (h_while0Ops0_4 : r ∉ while0Ops0_4_W) (h_while0Ops0_5 : r ∉ while0Ops0_5_W) (h_while0Ops0_6 : r ∉ while0Ops0_6_W) :
    ∀ k, atTrip condOps bodyI W k c (Proc.devRef .tc r) = W c (Proc.devRef .tc r)
  | 0 => rfl
  | k + 1 => by
    rw [atTrip_succ]
    simp only [bodyI, afterL_cons, afterL_nil]
    rw [after_of_writes_sub while0Ops0_6 _ while0Ops0_6_writes h_while0Ops0_6, after_of_writes_sub while0Ops0_5 _ while0Ops0_5_writes h_while0Ops0_5, after_of_writes_sub while0Ops0_4 _ while0Ops0_4_writes h_while0Ops0_4, after_of_writes_sub while0Ops0_3 _ while0Ops0_3_writes h_while0Ops0_3, after_of_writes_sub while0Ops0_2 _ while0Ops0_2_writes h_while0Ops0_2, after_of_writes_sub while0Ops0_1 _ while0Ops0_1_writes h_while0Ops0_1, after_of_writes_sub while0Ops0 _ while0Ops0_writes h_while0Ops0, after_of_writes_sub condOps _ condOps_writes h_condOps]
    exact loop_kept W c r h_condOps h_while0Ops0 h_while0Ops0_1 h_while0Ops0_2 h_while0Ops0_3 h_while0Ops0_4 h_while0Ops0_5 h_while0Ops0_6 k

/-- A buffer no operation writes ends as it began. -/
theorem kept (c : Dev nD) (r : Ref sig .tc) (h_hostOps0 : r ∉ hostOps0_W) (h_hostOps0_1 : r ∉ hostOps0_1_W) (h_hostOps0_2 : r ∉ hostOps0_2_W) (h_hostOps0_3 : r ∉ hostOps0_3_W) (h_hostOps0_4 : r ∉ hostOps0_4_W) (h_hostOps0_5 : r ∉ hostOps0_5_W) (h_hostOps0_6 : r ∉ hostOps0_6_W) (h_hostOps0_7 : r ∉ hostOps0_7_W) (h_hostOps0_8 : r ∉ hostOps0_8_W) (h_hostOps0_9 : r ∉ hostOps0_9_W) (h_condOps : r ∉ condOps_W) (h_while0Ops0 : r ∉ while0Ops0_W) (h_while0Ops0_1 : r ∉ while0Ops0_1_W) (h_while0Ops0_2 : r ∉ while0Ops0_2_W) (h_while0Ops0_3 : r ∉ while0Ops0_3_W) (h_while0Ops0_4 : r ∉ while0Ops0_4_W) (h_while0Ops0_5 : r ∉ while0Ops0_5_W) (h_while0Ops0_6 : r ∉ while0Ops0_6_W) (h_hostOps0_10 : r ∉ hostOps0_10_W) (h_hostOps0_11 : r ∉ hostOps0_11_W) (h_hostOps0_12 : r ∉ hostOps0_12_W) (h_hostOps0_13 : r ∉ hostOps0_13_W) (h_hostOps0_14 : r ∉ hostOps0_14_W) :
    fin m c (Proc.devRef .tc r) = m (c, Proc.devRef .tc r) := by
  unfold fin finalContents
  simp only [postI, afterL_cons, afterL_nil]
  rw [after_of_writes_sub hostOps0_14 _ hostOps0_14_writes h_hostOps0_14, after_of_writes_sub hostOps0_13 _ hostOps0_13_writes h_hostOps0_13, after_of_writes_sub hostOps0_12 _ hostOps0_12_writes h_hostOps0_12, after_of_writes_sub hostOps0_11 _ hostOps0_11_writes h_hostOps0_11, after_of_writes_sub hostOps0_10 _ hostOps0_10_writes h_hostOps0_10, after_of_writes_sub condOps _ condOps_writes h_condOps, loop_kept _ c r h_condOps h_while0Ops0 h_while0Ops0_1 h_while0Ops0_2 h_while0Ops0_3 h_while0Ops0_4 h_while0Ops0_5 h_while0Ops0_6]
  unfold entryContents
  simp only [preI, afterL_cons, afterL_nil]
  rw [after_of_writes_sub hostOps0_9 _ hostOps0_9_writes h_hostOps0_9, after_of_writes_sub hostOps0_8 _ hostOps0_8_writes h_hostOps0_8, after_of_writes_sub hostOps0_7 _ hostOps0_7_writes h_hostOps0_7, after_of_writes_sub hostOps0_6 _ hostOps0_6_writes h_hostOps0_6, after_of_writes_sub hostOps0_5 _ hostOps0_5_writes h_hostOps0_5, after_of_writes_sub hostOps0_4 _ hostOps0_4_writes h_hostOps0_4, after_of_writes_sub hostOps0_3 _ hostOps0_3_writes h_hostOps0_3, after_of_writes_sub hostOps0_2 _ hostOps0_2_writes h_hostOps0_2, after_of_writes_sub hostOps0_1 _ hostOps0_1_writes h_hostOps0_1, after_of_writes_sub hostOps0 _ hostOps0_writes h_hostOps0]

/-- The program's arguments. -/
def args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- Every argument ends as it began. -/
theorem args_kept (c : Dev nD) (r : Ref sig .tc) (hr : r ∈ args) : fin m c (Proc.devRef .tc r) = m (c, Proc.devRef .tc r) := by
  refine kept m c r ?_ ?_ ?_ ?_ ?_ ?_ ?_ ?_ ?_ ?_ ?_ ?_ ?_ ?_ ?_ ?_ ?_ ?_ ?_ ?_ ?_ ?_ ?_ <;> revert r <;> decide

theorem args_unscoped : ∀ r ∈ args, (Proc.devRef .tc r : DevRef τ sig).isScoped = false := by decide

/-- Every execution ends with the arguments as they were, every semaphore at zero and the result what the fold says. -/
theorem run_args (ρ : Dev nD → PrngReg) :
    θ_run (defs (F := F)) (onTc (τ := τ) (main (F := F))) ⟨m, fun _ => 0, ρ⟩ (fun r =>
      (∀ c : Dev nD, (∀ b ∈ args, r.2.mem ((c.tc : Thread nD τ).loc b) = m ((c.tc : Thread nD τ).loc b)) ∧
        r.2.mem ((c.tc : Thread nD τ).loc main_v227) = fin m c (Proc.devRef .tc main_v227)) ∧ r.2.sem = fun _ => 0) :=
  (θ_run _ _ _).mono (fun r h => ⟨fun c => ⟨fun b hb => (h c b (args_unscoped b hb)).trans (args_kept m c b hb),
      h c main_v227 (by decide)⟩, sem_eq_zero_of_no_sems (by decide) r.2⟩) (run_fold m ρ)

end Cert.ReferenceIdeal.Ref

end
-- ==== Proof.Spec.lean ====
module

public import Idealize.ShloMosaic.Lib.Pointwise

/-! The block's mathematics at one element, over the extended reals: what both programs are shown to compute. -/

@[expose] public section

noncomputable section

namespace Cert.Spec

open Idealize.ShloMosaic

/-- An array's element by its coordinates. -/
abbrev el1 {a : ℕ} (x : Shape.Idx ⟨1, ![a]⟩ → EReal) (i : Fin a) : EReal := x (ix1 i)
abbrev el2 {a b : ℕ} (x : Shape.Idx ⟨2, ![a, b]⟩ → EReal) (i : Fin a) (j : Fin b) : EReal := x (ix2 i j)
abbrev el3 {a b c : ℕ} (x : Shape.Idx ⟨3, ![a, b, c]⟩ → EReal) (i : Fin a) (j : Fin b) (k : Fin c) : EReal := x (ix3 i j k)
abbrev el4 {a b c d : ℕ} (x : Shape.Idx ⟨4, ![a, b, c, d]⟩ → EReal) (i : Fin a) (j : Fin b) (k : Fin c) (l : Fin d) : EReal := x (ix4 i j k l)
abbrev el5 {a b c d e : ℕ} (x : Shape.Idx ⟨5, ![a, b, c, d, e]⟩ → EReal) (i : Fin a) (j : Fin b) (k : Fin c) (l : Fin d) (o : Fin e) : EReal := x (ix5 i j k l o)

/-- The position mirrored at the sequence's end. -/
def fl (t : Fin 1024) : Fin 1024 := t.rev

/-- The position with its two coordinates exchanged. -/
def tr (l : Fin 1024) : Fin 1024 := ⟨l.val % 32 * 32 + l.val / 32, by omega⟩

/-- A position from its two coordinates. -/
def pos (h w : Fin 32) : Fin 1024 := ⟨h.val * 32 + w.val, by omega⟩

/-- A row's mean; `w` spells its length. -/
def mean {n : ℕ} (w : BitVec 32) (v : Fin n → EReal) : EReal := Ideal.div (∑ k, v k) (Ideal.ofBits .f32 w)

/-- The normalized row at one element. -/
def ln {n : ℕ} (w : BitVec 32) (v g b : Fin n → EReal) (i : Fin n) : EReal :=
  (v i - mean w v) * Ideal.rsqrt (mean w (fun k => (v k - mean w v) * (v k - mean w v)) + Ideal.ofBits .f32 0x3727C5AC#32) * g i + b i

/-- `x` times its logistic. -/
def silu (x : EReal) : EReal := x * Ideal.logistic x

/-- The activation of the last stage. -/
def gelu (u : EReal) : EReal :=
  u * (Ideal.ofBits .f32 0x3F000000#32 * (1 + Ideal.tanh (Ideal.ofBits .f32 0x3F4C422A#32 * (u + Ideal.ofBits .f32 0x3D372713#32 * (u * (u * u))))))

/-- The program's arguments, element by element. -/
structure Args where
  x : Fin 8 → Fin 384 → Fin 32 → Fin 32 → EReal
  g1 : Fin 384 → EReal
  b1 : Fin 384 → EReal
  wIn : Fin 1536 → Fin 384 → EReal
  cw : Fin 768 → Fin 3 → Fin 3 → EReal
  cb : Fin 768 → EReal
  wX : Fin 4 → Fin 32 → Fin 768 → EReal
  wDt : Fin 4 → Fin 768 → Fin 24 → EReal
  bDt : Fin 4 → Fin 768 → EReal
  aLog : Fin 4 → Fin 768 → Fin 4 → EReal
  ds : Fin 4 → Fin 768 → EReal
  gO : Fin 768 → EReal
  bO : Fin 768 → EReal
  wO : Fin 384 → Fin 768 → EReal
  g2 : Fin 384 → EReal
  b2 : Fin 384 → EReal
  w1 : Fin 1536 → Fin 384 → EReal
  c1 : Fin 1536 → EReal
  w2 : Fin 384 → Fin 1536 → EReal
  c2 : Fin 384 → EReal

/-! The last stage, on one position's rows: the merged scan's `y`, the gate's `z`, the input's `x`. -/

/-- The row after the output projection and the first residual sum. -/
def resid (gO bO : Fin 768 → EReal) (wO : Fin 384 → Fin 768 → EReal) (y z : Fin 768 → EReal) (x : Fin 384 → EReal) (c : Fin 384) : EReal :=
  x c + ∑ d, ln 0x44400000#32 y gO bO d * silu (z d) * wO c d

/-- The hidden row of the last two projections, before its activation. -/
def hid (g2 b2 : Fin 384 → EReal) (w1 : Fin 1536 → Fin 384 → EReal) (c1 : Fin 1536 → EReal) (r : Fin 384 → EReal) (e : Fin 1536) : EReal :=
  (∑ c, ln 0x43C00000#32 r g2 b2 c * w1 e c) + c1 e

/-- The last two projections with the second residual sum. -/
def mlp (g2 b2 : Fin 384 → EReal) (w1 : Fin 1536 → Fin 384 → EReal) (c1 : Fin 1536 → EReal) (w2 : Fin 384 → Fin 1536 → EReal) (c2 : Fin 384 → EReal)
    (r : Fin 384 → EReal) (c : Fin 384) : EReal :=
  r c + ((∑ e, gelu (hid g2 b2 w1 c1 r e) * w2 c e) + c2 c)

/-- The last stage's row. -/
def post (A : Args) (y z : Fin 768 → EReal) (x : Fin 384 → EReal) (c : Fin 384) : EReal :=
  mlp A.g2 A.b2 A.w1 A.c1 A.w2 A.c2 (resid A.gO A.bO A.wO y z x) c

/-! The first stage, on one picture: `f i j` is the row at pixel `(i, j)`. -/

/-- The input projection of a normalized row. -/
def inp (g b : Fin 384 → EReal) (w : Fin 1536 → Fin 384 → EReal) (x : Fin 384 → EReal) (e : Fin 1536) : EReal :=
  ∑ c, ln 0x43C00000#32 x g b c * w e c

/-- A picture with a border of zeros, one pixel wide. -/
def pad (f : Fin 32 → Fin 32 → EReal) (i j : ℕ) : EReal :=
  if h : (1 ≤ i ∧ i < 33) ∧ (1 ≤ j ∧ j < 33) then f ⟨i - 1, by omega⟩ ⟨j - 1, by omega⟩ else 0

/-- The convolution of a padded picture `p` with nine taps, and its bias. -/
def conv (p : ℕ → ℕ → EReal) (w : Fin 3 → Fin 3 → EReal) (cb : EReal) (i j : Fin 32) : EReal :=
  p i j * w 0 0 + p i (j + 1) * w 0 1 + p i (j + 2) * w 0 2
    + p (i + 1) j * w 1 0 + p (i + 1) (j + 1) * w 1 1 + p (i + 1) (j + 2) * w 1 2
    + p (i + 2) j * w 2 0 + p (i + 2) (j + 1) * w 2 1 + p (i + 2) (j + 2) * w 2 2 + cb

/-- The projection of a picture's pixel. -/
def px (A : Args) (b : Fin 8) (i j : Fin 32) (e : Fin 1536) : EReal := inp A.g1 A.b1 A.wIn (fun c => A.x b c i j) e

/-- The convolved picture. -/
def pic (A : Args) (b : Fin 8) (d : Fin 768) (i j : Fin 32) : EReal :=
  silu (conv (pad fun i j => px A b i j ⟨d.val, by omega⟩) (A.cw d) (A.cb d) i j)

/-- The gate's row. -/
def gate (A : Args) (b : Fin 8) (i j : Fin 32) (d : Fin 768) : EReal := px A b i j ⟨768 + d.val, by omega⟩

/-! The scan along one direction: `u t` is the row at step `t`. -/

/-- The picture read along rows (`k = 0`) or along columns. -/
def flat (A : Args) (k : Fin 2) (b : Fin 8) (l : Fin 1024) (d : Fin 768) : EReal :=
  if k = 0 then pic A b d ⟨l.val / 32, by omega⟩ ⟨l.val % 32, by omega⟩ else pic A b d ⟨l.val % 32, by omega⟩ ⟨l.val / 32, by omega⟩

/-- The position a direction reads at a step. -/
def at' (k : Fin 4) (t : Fin 1024) : Fin 1024 := if k.val < 2 then t else fl t

/-- The direction's row at a step. -/
def useq (A : Args) (k : Fin 4) (b : Fin 8) (t : Fin 1024) (d : Fin 768) : EReal := flat A ⟨k.val % 2, by omega⟩ b (at' k t) d

/-- The logarithm of one plus the exponential. -/
def softplus (x : EReal) : EReal := max x 0 + Ideal.log1p (Ideal.exp (-(max x (-x))))

/-- A row's projection to the scan's parameters. -/
def dbl (w : Fin 32 → Fin 768 → EReal) (u : Fin 768 → EReal) (e : Fin 32) : EReal := ∑ d, u d * w e d

/-- The step's length. -/
def delta (w : Fin 32 → Fin 768 → EReal) (wd : Fin 768 → Fin 24 → EReal) (bd : Fin 768 → EReal) (u : Fin 768 → EReal) (d : Fin 768) : EReal :=
  softplus ((∑ r : Fin 24, dbl w u ⟨r.val, by omega⟩ * wd d r) + bd d)

/-- One step of the state. -/
def next (dt u bn a h : EReal) : EReal := Ideal.exp (dt * a) * h + dt * u * bn

/-- The state before step `t`. -/
def state (A : Args) (k : Fin 4) (b : Fin 8) : ℕ → Fin 768 → Fin 4 → EReal
  | 0, _, _ => 0
  | t + 1, d, n =>
    let u := useq A k b (Fin.ofNat 1024 t)
    next (delta (A.wX k) (A.wDt k) (A.bDt k) u d) (u d) (dbl (A.wX k) u ⟨24 + n.val, by omega⟩) (-Ideal.exp (A.aLog k d n)) (state A k b t d n)

/-- The direction's result at step `t`. -/
def res (A : Args) (k : Fin 4) (b : Fin 8) (t : Fin 1024) (d : Fin 768) : EReal :=
  (∑ n : Fin 4, state A k b (t + 1) d n * dbl (A.wX k) (useq A k b t) ⟨28 + n.val, by omega⟩) + useq A k b t d * A.ds k d

/-- The four directions merged. -/
def merged (A : Args) (b : Fin 8) (l : Fin 1024) (d : Fin 768) : EReal :=
  res A 0 b l d + res A 2 b (fl l) d + (res A 1 b (tr l) d + res A 3 b (fl (tr l)) d)

/-- The program's result. -/
def out (A : Args) (b : Fin 8) (h w : Fin 32) (c : Fin 384) : EReal :=
  post A (merged A b (pos h w)) (gate A b h w) (fun c => A.x b c h w) c

end Cert.Spec

end
-- ==== Proof.PreK.lean ====
module

public import proofs.«01_k».proof.Proof.Pre
public import proofs.«01_k».proof.Proof.Spec
public import Idealize.ShloMosaic.Lib.Pointwise
public import Idealize.ShloMosaic.Lib.Pipeline.ValueKit

/-! The pre kernel's blocks at an element. -/

@[expose] public section
set_option maxRecDepth 16384

noncomputable section

namespace Cert.KernelIdeal.R0

open Cert.KernelIdeal.Gen Cert.KernelIdeal.Lau
open Idealize.ShloMosaic
open Cert.Spec (mean ln silu inp conv pos el1 el2 el3 el4)

/-- The block's projection at a position and a channel. -/
theorem proj_at (x0 : Vec Ideal S1x1024x384 .f32) (x1 x2 : Vec Ideal S1x384 .f32) (x3 : Vec Ideal S384x1536 .f32) (l : Fin 1024) (e : Fin 1536) :
    proj x0 x1 x2 x3 (ix2 l e)
      = inp (fun c => x1 (ix2 0 c)) (fun c => x2 (ix2 0 c)) (fun e c => x3 (ix2 c e)) (fun c => x0 (ix3 0 l c)) e := by
  unfold proj
  pointwise [k0_pay4, inp, ln, mean]

theorem out7_at (x0 : Vec Ideal S1x1024x384 .f32) (x1 x2 : Vec Ideal S1x384 .f32) (x3 : Vec Ideal S384x1536 .f32) (l : Fin 1024) (d : Fin 768) :
    out7 x0 x1 x2 x3 (ix3 0 l d)
      = inp (fun c => x1 (ix2 0 c)) (fun c => x2 (ix2 0 c)) (fun e c => x3 (ix2 c e)) (fun c => x0 (ix3 0 l c)) ⟨768 + d.val, by omega⟩ := by
  unfold out7
  rw [View.canon_cons_unit_lit]
  rotate_left
  · decide
  rw [← proj_at]
  unfold k0_pay5
  pointwise [proj]

/-- The padded picture: zeros, and inside them the projection's first half. -/
theorem padded_at (x0 : Vec Ideal S1x1024x384 .f32) (x1 x2 : Vec Ideal S1x384 .f32) (x3 : Vec Ideal S384x1536 .f32) (p q : Fin 34) (d : Fin 768) :
    padded x0 x1 x2 x3 (ix3 p q d) = Spec.pad (fun i j => proj x0 x1 x2 x3 (ix2 (pos i j) ⟨d.val, by omega⟩)) p q := by
  unfold padded Spec.pad
  by_cases h : (1 ≤ p.val ∧ p.val < 33) ∧ 1 ≤ q.val ∧ q.val < 33
  · rw [dif_pos h]
    have e : ix3 p q d = rp11.emb (ix3 (⟨p.val - 1, by omega⟩ : Fin 32) (⟨q.val - 1, by omega⟩ : Fin 32) d) := by
      funext a
      match a with
      | 0 => exact Fin.ext (by show p.val = 1 + 1 * (p.val - 1); omega)
      | 1 => exact Fin.ext (by show q.val = 1 + 1 * (q.val - 1); omega)
      | 2 => exact Fin.ext (by show d.val = 0 + 1 * d.val; omega)
    rw [e, View.canon_cons_emb]
    pointwise [k0_pay8, pos]
  · rw [dif_neg h, View.canon_cons_of_not_mem, View.canon_cons_unit_lit]
    rotate_left
    · decide
    · intro hm
      rw [Rect.mem_set_unit] at hm
      have a0 := hm 0
      have a1 := hm 1
      refine h ⟨⟨a0.1, ?_⟩, a1.1, ?_⟩
      · exact a0.2
      · exact a1.2
    pointwise [k0_pay7, k0_pay6]

theorem sum_at (c a0 a1 a2 a3 a4 a5 a6 a7 a8 : EReal) :
    c * 1 + a0 + a1 + a2 + a3 + a4 + a5 + a6 + a7 + a8 = a0 + a1 + a2 + a3 + a4 + a5 + a6 + a7 + a8 + c := by
  rw [mul_one]
  ac_rfl

/-- The convolution's nine taps with its bias, and the activation. -/
theorem last_at (p : Vec Ideal S34x34x768 .f32) (x4 : Vec Ideal S16x768 .f32) (x5 : Vec Ideal S1x768 .f32) (q : ℕ → ℕ → EReal) (i j : Fin 32) (d : Fin 768)
    (h : ∀ a b : Fin 34, p (ix3 a b d) = q a b) :
    k0_pay1 (taps8 p x4 x5) (View.ld p rp22) (View.ld x4 rc8) (ix3 i j d)
      = silu (conv q (fun r s => x4 (ix2 ⟨r.val * 3 + s.val, by omega⟩ d)) (x5 (ix2 0 d)) i j) := by
  unfold silu conv
  rw [← sum_at]
  pointwise [k0_pay1, taps8, taps3, k0_pay9, k0_pay10]
  simp only [h]
  simp only [Nat.add_comm 1, Nat.add_comm 2]

/-- The convolved picture, along rows and along columns. -/
theorem out6_at0 (x0 : Vec Ideal S1x1024x384 .f32) (x1 x2 : Vec Ideal S1x384 .f32) (x3 : Vec Ideal S384x1536 .f32) (x4 : Vec Ideal S16x768 .f32) (x5 : Vec Ideal S1x768 .f32) (l : Fin 1024) (d : Fin 768) :
    out6 x0 x1 x2 x3 x4 x5 (ix4 0 0 l d)
      = silu (conv (Spec.pad (fun i j => proj x0 x1 x2 x3 (ix2 (pos i j) ⟨d.val, by omega⟩))) (fun r s => x4 (ix2 ⟨r.val * 3 + s.val, by omega⟩ d)) (x5 (ix2 0 d))
          ⟨l.val / 32, by omega⟩ ⟨l.val % 32, by omega⟩) := by
  unfold out6
  rw [View.canon_cons_of_not_mem]
  · have e : (ix4 0 0 l d : S2x1x1024x768.Idx) = rs0.emb (ix4 0 0 l d) := by
      funext a
      match a with
      | 0 => rfl
      | 1 => rfl
      | 2 => exact Fin.ext (by show l.val = 0 + 1 * l.val; omega)
      | 3 => exact Fin.ext (by show d.val = 0 + 1 * d.val; omega)
    rw [e, View.canon_cons_emb, ← last_at _ _ _ _ _ _ _ fun a b => padded_at x0 x1 x2 x3 a b d]
    pointwise [k0_pay2]
  · intro hm
    rw [Rect.mem_set_unit] at hm
    exact absurd (hm 0).1 (by show ¬ (1 ≤ 0); omega)

theorem out6_at1 (x0 : Vec Ideal S1x1024x384 .f32) (x1 x2 : Vec Ideal S1x384 .f32) (x3 : Vec Ideal S384x1536 .f32) (x4 : Vec Ideal S16x768 .f32) (x5 : Vec Ideal S1x768 .f32) (l : Fin 1024) (d : Fin 768) :
    out6 x0 x1 x2 x3 x4 x5 (ix4 1 0 l d)
      = silu (conv (Spec.pad (fun i j => proj x0 x1 x2 x3 (ix2 (pos i j) ⟨d.val, by omega⟩))) (fun r s => x4 (ix2 ⟨r.val * 3 + s.val, by omega⟩ d)) (x5 (ix2 0 d))
          ⟨l.val % 32, by omega⟩ ⟨l.val / 32, by omega⟩) := by
  unfold out6
  have e : (ix4 1 0 l d : S2x1x1024x768.Idx) = rs1.emb (ix4 0 0 l d) := by
    funext a
    match a with
    | 0 => rfl
    | 1 => rfl
    | 2 => exact Fin.ext (by show l.val = 0 + 1 * l.val; omega)
    | 3 => exact Fin.ext (by show d.val = 0 + 1 * d.val; omega)
  rw [e, View.canon_cons_emb, ← last_at _ _ _ _ _ _ _ fun a b => padded_at x0 x1 x2 x3 a b d]
  pointwise [k0_pay3]

end Cert.KernelIdeal.R0
end
-- ==== Proof.PreV.lean ====
module

public import proofs.«01_k».proof.Proof.PreK

/-! The pre kernel's result arrays, of the arrays its region is entered with. -/

@[expose] public section
set_option maxRecDepth 16384

noncomputable section

namespace Cert.KernelIdeal.R0

open Cert.KernelIdeal.Gen Cert.KernelIdeal.Lau
open Idealize.ShloMosaic Idealize.ShloMosaic.TcCoe Idealize.SL.Sem
open Cert.Spec (silu conv inp pos el1 el2 el3 el4)

variable (V : (c : Dev nD) → (b : Ref sig .tc) → Buf (Elt Ideal) ((c : Thread nD τ).loc b))

/-! Each window's index, and its block read from its array. -/

theorem i0 : ∀ t : Fin cfg0.N, (cfg0.win 0).index t = ![t.val, 0, 0] := by decide +kernel
theorem i1 : ∀ t : Fin cfg0.N, (cfg0.win 1).index t = ![0, 0] ∧ (cfg0.win 2).index t = ![0, 0] ∧ (cfg0.win 3).index t = ![0, 0] ∧ (cfg0.win 4).index t = ![0, 0]
    ∧ (cfg0.win 5).index t = ![0, 0] := by decide +kernel
theorem i6 : ∀ t : Fin cfg0.N, (cfg0.win 6).index t = ![0, t.val, 0, 0] := by decide +kernel
theorem i7 : ∀ t : Fin cfg0.N, (cfg0.win 7).index t = ![t.val, 0, 0] := by decide +kernel

theorem b0 (c : Dev nD) (t : Fin cfg0.N) (l : Fin 1024) (d : Fin 384) :
    (iblk V c 0 t : Vec Ideal S1x1024x384 .f32) (ix3 0 l d) = el3 (V c main_v1) ⟨t.val, t.isLt⟩ l d := by
  blk_ext [iblk, i0 t]
theorem b1 (c : Dev nD) (t : Fin cfg0.N) (d : Fin 384) : (iblk V c 1 t : Vec Ideal S1x384 .f32) (ix2 0 d) = el2 (V c main_v7) 0 d := by
  blk_ext [iblk, i1 t]
theorem b2 (c : Dev nD) (t : Fin cfg0.N) (d : Fin 384) : (iblk V c 2 t : Vec Ideal S1x384 .f32) (ix2 0 d) = el2 (V c main_v8) 0 d := by
  blk_ext [iblk, i1 t]
theorem b3 (c : Dev nD) (t : Fin cfg0.N) (e : Fin 384) (d : Fin 1536) : (iblk V c 3 t : Vec Ideal S384x1536 .f32) (ix2 e d) = el2 (V c main_v9) e d := by
  blk_ext [iblk, i1 t]
theorem b4 (c : Dev nD) (t : Fin cfg0.N) (e : Fin 16) (d : Fin 768) : (iblk V c 4 t : Vec Ideal S16x768 .f32) (ix2 e d) = el2 (V c main_v6) e d := by
  blk_ext [iblk, i1 t]
theorem b5 (c : Dev nD) (t : Fin cfg0.N) (d : Fin 768) : (iblk V c 5 t : Vec Ideal S1x768 .f32) (ix2 0 d) = el2 (V c main_v10) 0 d := by
  blk_ext [iblk, i1 t]

/-- The projection at an element, of the arrays the region is entered with. -/
def projV (c : Dev nD) (b : Fin 8) (l : Fin 1024) (e : Fin 1536) : EReal :=
  inp (fun q => el2 (V c main_v7) 0 q) (fun q => el2 (V c main_v8) 0 q) (fun e q => el2 (V c main_v9) q e) (fun q => el3 (V c main_v1) b l q) e

/-- The convolved picture at an element. -/
def picV (c : Dev nD) (b : Fin 8) (d : Fin 768) (i j : Fin 32) : EReal :=
  silu (conv (Spec.pad (fun i j => projV V c b (pos i j) ⟨d.val, by omega⟩)) (fun r s => el2 (V c main_v6) ⟨r.val * 3 + s.val, by omega⟩ d) (el2 (V c main_v10) 0 d) i j)

/-- The picture along rows or along columns. -/
def flatV (c : Dev nD) (k : Fin 2) (b : Fin 8) (l : Fin 1024) (d : Fin 768) : EReal :=
  if k = 0 then picV V c b d ⟨l.val / 32, by omega⟩ ⟨l.val % 32, by omega⟩ else picV V c b d ⟨l.val % 32, by omega⟩ ⟨l.val / 32, by omega⟩

/-- The projection of a point's blocks. -/
theorem proj_blk (c : Dev nD) (t : Fin cfg0.N) (l : Fin 1024) (e : Fin 1536) :
    proj (iblk V c 0 t) (iblk V c 1 t) (iblk V c 2 t) (iblk V c 3 t) (ix2 l e) = projV V c ⟨t.val, t.isLt⟩ l e := by
  rw [proj_at]
  unfold projV
  simp only [b0, b1, b2, b3]

/-- A point's block of the gate. -/
theorem gate_blk (c : Dev nD) (t : Fin cfg0.N) (l : Fin 1024) (d : Fin 768) :
    out7 (iblk V c 0 t) (iblk V c 1 t) (iblk V c 2 t) (iblk V c 3 t) (ix3 0 l d) = projV V c ⟨t.val, t.isLt⟩ l ⟨768 + d.val, by omega⟩ := by
  rw [out7_at, ← proj_at, proj_blk]

/-- A point's block of the pictures. -/
theorem flat_blk (c : Dev nD) (t : Fin cfg0.N) (k : Fin 2) (l : Fin 1024) (d : Fin 768) :
    out6 (iblk V c 0 t) (iblk V c 1 t) (iblk V c 2 t) (iblk V c 3 t) (iblk V c 4 t) (iblk V c 5 t) (ix4 k 0 l d) = flatV V c k ⟨t.val, t.isLt⟩ l d := by
  unfold flatV picV
  match k with
  | 0 =>
    rw [if_pos rfl]
    refine (out6_at0 _ _ _ _ _ _ l d).trans ?_
    simp only [proj_blk, b4, b5]
  | 1 =>
    rw [if_neg (by decide)]
    refine (out6_at1 _ _ _ _ _ _ l d).trans ?_
    simp only [proj_blk, b4, b5]

/-- The gate's half of the projection, before its silu. -/
def gateV (c : Dev nD) (b : Fin 8) (l : Fin 1024) (d : Fin 768) : EReal := projV V c b l ⟨768 + d.val, by omega⟩

/-- The gate's array after the region. -/
theorem arr7 (c : Dev nD) : (dats V c).arrAt 7 cfg0.N = (fun i : S8x1024x768.Idx => gateV V c (i 0) (i 1) (i 2)) := by
  refine (dats V c).arrAt_eq_of_covers 7 _ (by decide +kernel) fun t hf y => ?_
  blk_simp
  rw [after0_7]
  obtain ⟨l, q, rfl⟩ : ∃ (l : Fin 1024) (q : Fin 768), y = (ix3 (0 : Fin 1) l q : S1x1024x768.Idx) :=
    ⟨y 1, y 2, (eq_ix3 (n0 := 1) (n1 := 1024) (n2 := 768) y).trans (by congr 1; exact Subsingleton.elim (α := Fin 1) _ _)⟩
  refine (gate_blk V c t l q).trans ?_
  have e : (win0_7.blk t).view.emb (ix3 (0 : Fin 1) l q : S1x1024x768.Idx) = (ix3 (⟨t.val, t.isLt⟩ : Fin 8) l q : S8x1024x768.Idx) := by blk_ext [i7 t]
  rw [e]
  rfl

/-- The convolved pictures' array after the region. -/
theorem arr6 (c : Dev nD) : (dats V c).arrAt 6 cfg0.N = (fun i : S2x8x1024x768.Idx => flatV V c (i 0) (i 1) (i 2) (i 3)) := by
  refine (dats V c).arrAt_eq_of_covers 6 _ (by decide +kernel) fun t hf y => ?_
  blk_simp
  rw [after0_6]
  obtain ⟨k, l, q, rfl⟩ : ∃ (k : Fin 2) (l : Fin 1024) (q : Fin 768), y = (ix4 k (0 : Fin 1) l q : S2x1x1024x768.Idx) :=
    ⟨y 0, y 2, y 3, (eq_ix4 (n0 := 2) (n1 := 1) (n2 := 1024) (n3 := 768) y).trans (by congr 1; exact Subsingleton.elim (α := Fin 1) _ _)⟩
  refine (flat_blk V c t k l q).trans ?_
  have e : (win0_6.blk t).view.emb (ix4 k (0 : Fin 1) l q : S2x1x1024x768.Idx) = (ix4 k (⟨t.val, t.isLt⟩ : Fin 8) l q : S2x8x1024x768.Idx) := by blk_ext [i6 t]
  rw [e]
  rfl

end Cert.KernelIdeal.R0
end
-- ==== Proof.ScanK.lean ====
module

public import proofs.«01_k».proof.Proof.Scan
public import proofs.«01_k».proof.Proof.Spec
public import Idealize.ShloMosaic.Lib.Pointwise
public import Idealize.ShloMosaic.Lib.Pipeline.ValueKit

/-! The scan kernel's block at an element: one point's loop runs the state of its direction on by 256 steps. -/

@[expose] public section
set_option maxRecDepth 16384

noncomputable section

namespace Cert.KernelIdeal.R1

open Cert.KernelIdeal.Gen Cert.KernelIdeal.Lau
open Idealize.ShloMosaic
open Cert.Spec (next softplus dbl delta Args useq state res el1 el2 el3 el4)

/-- The row trip `k` works on. -/
def te (i : grid1.Coords) (k : Fin 256) : Fin 256 := if (i 1).val ≥ 4 then k.rev else k

theorem te_te (i : grid1.Coords) (k : Fin 256) : te i (te i k) = k := by
  unfold te
  split_ifs
  · exact Fin.rev_rev k
  · rfl

theorem te_off (i : grid1.Coords) (k : Fin k1_t1_loop.trips) (hk : k.val < 256) : k1_off1 i k = ![(te i ⟨k.val, hk⟩).val, 0, 0] := by
  rw [k1_off1_eq]
  unfold te
  congr 1
  split_ifs <;> simp [Fin.rev]

theorem te_off2 (i : grid1.Coords) (k : Fin k1_t1_loop.trips) (hk : k.val < 256) : k1_off2 i k = ![(te i ⟨k.val, hk⟩).val, 0, 0] := by
  rw [k1_off2_eq]
  unfold te
  congr 1
  split_ifs <;> simp [Fin.rev]

theorem rt_emb (i : grid1.Coords) (k : Fin k1_t1_loop.trips) (hk : k.val < 256) (b : Fin 8) (d : Fin 768) :
    (rt i k).emb (ix3 0 b d) = ix3 (te i ⟨k.val, hk⟩) b d := by
  funext a
  refine Fin.ext ?_
  rw [Rect.emb_apply]
  show k1_off1 i k a + 1 * _ = _
  rw [te_off i k hk]
  match a with
  | 0 => show (te i ⟨k.val, hk⟩).val + 1 * 0 = (te i ⟨k.val, hk⟩).val; omega
  | 1 => show 0 + 1 * b.val = b.val; omega
  | 2 => show 0 + 1 * d.val = d.val; omega

theorem rt2_emb (i : grid1.Coords) (k : Fin k1_t1_loop.trips) (hk : k.val < 256) (b n : Fin 8) :
    (rt2 i k).emb (ix3 0 b n) = ix3 (te i ⟨k.val, hk⟩) b n := by
  funext a
  refine Fin.ext ?_
  rw [Rect.emb_apply]
  show k1_off2 i k a + 1 * _ = _
  rw [te_off2 i k hk]
  match a with
  | 0 => show (te i ⟨k.val, hk⟩).val + 1 * 0 = (te i ⟨k.val, hk⟩).val; omega
  | 1 => show 0 + 1 * b.val = b.val; omega
  | 2 => show 0 + 1 * n.val = n.val; omega

theorem ld_rt (X : Vec Ideal S256x8x768 .f32) (i : grid1.Coords) (k : Fin k1_t1_loop.trips) (hk : k.val < 256) (b : Fin 8) (d : Fin 768) :
    View.ld X (rt i k) (ix3 0 b d) = X (ix3 (te i ⟨k.val, hk⟩) b d) := by
  rw [← rt_emb i k hk]; rfl

theorem ld_rt2 (X : Vec Ideal S256x8x8 .f32) (i : grid1.Coords) (k : Fin k1_t1_loop.trips) (hk : k.val < 256) (b n : Fin 8) :
    View.ld X (rt2 i k) (ix3 0 b n) = X (ix3 (te i ⟨k.val, hk⟩) b n) := by
  rw [← rt2_emb i k hk]; rfl

/-- The carried state at an element. -/
def hAt (acc : Acc Ideal) (n : Fin 4) (b : Fin 8) (d : Fin 768) : EReal :=
  match n with
  | 0 => acc.1 (ix2 b d)
  | 1 => acc.2.1 (ix2 b d)
  | 2 => acc.2.2.1 (ix2 b d)
  | 3 => acc.2.2.2 (ix2 b d)

theorem pay5_at (a : FVec Ideal S4x768 .f32) (h : FVec Ideal S8x768 .f32) (x dt : Vec Ideal S1x8x768 .f32) (bc : Vec Ideal S1x8x8 .f32) (b : Fin 8) (d : Fin 768) :
    k1_pay5 a h x dt bc (ix2 b d) = next (dt (ix3 0 b d)) (x (ix3 0 b d)) (bc (ix3 0 b 0)) (a (ix2 0 d)) (h (ix2 b d)) := by
  pointwise [k1_pay5, k1_pay4, k1_pay3, k1_pay2, next]
theorem pay6_at (a : FVec Ideal S4x768 .f32) (h : FVec Ideal S8x768 .f32) (x dt : Vec Ideal S1x8x768 .f32) (bc : Vec Ideal S1x8x8 .f32) (b : Fin 8) (d : Fin 768) :
    k1_pay6 a h x dt bc (ix2 b d) = next (dt (ix3 0 b d)) (x (ix3 0 b d)) (bc (ix3 0 b 1)) (a (ix2 1 d)) (h (ix2 b d)) := by
  pointwise [k1_pay6, k1_pay4, k1_pay3, k1_pay2, next]
theorem pay8_at (a : FVec Ideal S4x768 .f32) (h : FVec Ideal S8x768 .f32) (x dt : Vec Ideal S1x8x768 .f32) (bc : Vec Ideal S1x8x8 .f32) (b : Fin 8) (d : Fin 768) :
    k1_pay8 a h x dt bc (ix2 b d) = next (dt (ix3 0 b d)) (x (ix3 0 b d)) (bc (ix3 0 b 2)) (a (ix2 2 d)) (h (ix2 b d)) := by
  pointwise [k1_pay8, k1_pay4, k1_pay3, k1_pay2, next]
theorem pay26_at (a : FVec Ideal S4x768 .f32) (h : FVec Ideal S8x768 .f32) (x dt : Vec Ideal S1x8x768 .f32) (bc : Vec Ideal S1x8x8 .f32) (b : Fin 8) (d : Fin 768) :
    k1_pay26 a h (k1_pay2 dt) (k1_pay3 bc) (k1_pay4 x dt) (ix2 b d) = next (dt (ix3 0 b d)) (x (ix3 0 b d)) (bc (ix3 0 b 3)) (a (ix2 3 d)) (h (ix2 b d)) := by
  pointwise [k1_pay26, k1_pay4, k1_pay3, k1_pay2, next]

/-- A trip is one step of the state. -/
theorem tripR_at (i : grid1.Coords) (a : FVec Ideal S4x768 .f32) (xt dt : Vec Ideal S256x8x768 .f32) (bc : Vec Ideal S256x8x8 .f32) (k : Fin k1_t1_loop.trips) (hk : k.val < 256) (acc : Acc Ideal)
    (n : Fin 4) (b : Fin 8) (d : Fin 768) :
    hAt (tripR i a xt dt bc k acc) n b d
      = next (dt (ix3 (te i ⟨k.val, hk⟩) b d)) (xt (ix3 (te i ⟨k.val, hk⟩) b d)) (bc (ix3 (te i ⟨k.val, hk⟩) b ⟨n.val, by omega⟩)) (a (ix2 n d)) (hAt acc n b d) := by
  match n with
  | 0 => exact (pay5_at a acc.1 _ _ _ b d).trans (by rw [ld_rt _ i k hk, ld_rt _ i k hk, ld_rt2 _ i k hk]; rfl)
  | 1 => exact (pay6_at a acc.2.1 _ _ _ b d).trans (by rw [ld_rt _ i k hk, ld_rt _ i k hk, ld_rt2 _ i k hk]; rfl)
  | 2 => exact (pay8_at a acc.2.2.1 _ _ _ b d).trans (by rw [ld_rt _ i k hk, ld_rt _ i k hk, ld_rt2 _ i k hk]; rfl)
  | 3 => exact (pay26_at a acc.2.2.2 _ _ _ b d).trans (by rw [ld_rt _ i k hk, ld_rt _ i k hk, ld_rt2 _ i k hk]; rfl)

theorem pay27_at (a : FVec Ideal S4x768 .f32) (h0 h1 h2 h3 : FVec Ideal S8x768 .f32) (x dt : Vec Ideal S1x8x768 .f32) (bc : Vec Ideal S1x8x8 .f32) (b : Fin 8) (d : Fin 768) :
    k1_pay27 a h3 (k1_pay2 dt) (k1_pay3 bc) (k1_pay4 x dt) (k1_pay7 a h0 h1 x dt bc) (k1_pay9 a h2 x dt bc) (ix3 0 b d)
      = k1_pay5 a h0 x dt bc (ix2 b d) * bc (ix3 0 b 4) + k1_pay6 a h1 x dt bc (ix2 b d) * bc (ix3 0 b 5) + k1_pay8 a h2 x dt bc (ix2 b d) * bc (ix3 0 b 6)
        + k1_pay26 a h3 (k1_pay2 dt) (k1_pay3 bc) (k1_pay4 x dt) (ix2 b d) * bc (ix3 0 b 7) := by
  rw [pay5_at, pay6_at, pay8_at, pay26_at]
  pointwise [k1_pay27, k1_pay26, k1_pay7, k1_pay9, k1_pay8, k1_pay6, k1_pay5, k1_pay4, k1_pay3, k1_pay2, next]

/-- The row a trip writes, of the state it leaves. -/
theorem tripY_at (i : grid1.Coords) (a : FVec Ideal S4x768 .f32) (xt dt : Vec Ideal S256x8x768 .f32) (bc : Vec Ideal S256x8x8 .f32) (k : Fin k1_t1_loop.trips) (hk : k.val < 256) (acc : Acc Ideal)
    (b : Fin 8) (d : Fin 768) :
    tripY i a xt dt bc k acc (ix3 0 b d) = ∑ n : Fin 4, hAt (tripR i a xt dt bc k acc) n b d * bc (ix3 (te i ⟨k.val, hk⟩) b ⟨4 + n.val, by omega⟩) := by
  unfold tripY
  rw [pay27_at, Fin.sum_univ_four]
  rw [ld_rt2 _ i k hk, ld_rt2 _ i k hk, ld_rt2 _ i k hk, ld_rt2 _ i k hk]
  rfl

/-- What a point's loop needs to know of its data: they are the direction's from step `T` on. -/
structure Runs (A : Args) (K : Fin 4) (T : ℕ) (i : grid1.Coords) (a : FVec Ideal S4x768 .f32) (xt dt : Vec Ideal S256x8x768 .f32) (bc : Vec Ideal S256x8x8 .f32) (init : Acc Ideal) : Prop where
  hx : ∀ (k : Fin 256) b d, xt (ix3 (te i k) b d) = useq A K b (Fin.ofNat 1024 (T + k.val)) d
  hdt : ∀ (k : Fin 256) b d, dt (ix3 (te i k) b d) = delta (A.wX K) (A.wDt K) (A.bDt K) (useq A K b (Fin.ofNat 1024 (T + k.val))) d
  hbc : ∀ (k : Fin 256) b (n : Fin 8), bc (ix3 (te i k) b n) = dbl (A.wX K) (useq A K b (Fin.ofNat 1024 (T + k.val))) ⟨24 + n.val, by omega⟩
  ha : ∀ n d, a (ix2 n d) = -Ideal.exp (A.aLog K d n)
  hi : ∀ n b d, hAt init n b d = state A K b T d n

variable {A : Args} {K : Fin 4} {T : ℕ} {i : grid1.Coords} {a : FVec Ideal S4x768 .f32} {xt dt : Vec Ideal S256x8x768 .f32} {bc : Vec Ideal S256x8x8 .f32} {init : Acc Ideal}

theorem Runs.step (R : Runs A K T i a xt dt bc init) (k : Fin k1_t1_loop.trips) (hk : k.val < 256) (acc : Acc Ideal) (h : ∀ n b d, hAt acc n b d = state A K b (T + k.val) d n)
    (n : Fin 4) (b : Fin 8) (d : Fin 768) : hAt (tripR i a xt dt bc k acc) n b d = state A K b (T + k.val + 1) d n := by
  rw [tripR_at i a xt dt bc k hk, R.hx, R.hdt, R.hbc, R.ha, h, state]

/-- The state before trip `k` is the direction's before step `T + k`. -/
theorem Runs.at (R : Runs A K T i a xt dt bc init) : ∀ k ≤ 256, ∀ n b d, hAt (st i a xt dt bc init k).1 n b d = state A K b (T + k) d n
  | 0, _, n, b, d => R.hi n b d
  | k + 1, h, n, b, d => by
    have hk : k < k1_t1_loop.trips := by rw [trips_eq]; omega
    rw [st, dif_pos hk]
    exact R.step ⟨k, hk⟩ (by show k < 256; omega) _ (R.at k (by omega)) n b d

/-- The row of trip `k`, as the direction has it at step `T + k`. -/
def rowAt (A : Args) (K : Fin 4) (T : ℕ) (k : Fin 256) (b : Fin 8) (d : Fin 768) : EReal :=
  ∑ n : Fin 4, state A K b (T + k.val + 1) d n * dbl (A.wX K) (useq A K b (Fin.ofNat 1024 (T + k.val))) ⟨28 + n.val, by omega⟩

theorem Runs.row (R : Runs A K T i a xt dt bc init) : ∀ n, ∀ p ∈ (st i a xt dt bc init n).2, ∀ x : p.1.shape.Idx,
    p.2 x = (fun y : S256x8x768.Idx => (rowAt A K T (te i (y 0)) (y 1) (y 2) : EReal)) (p.1.emb x)
  | 0, p, hp, _ => absurd hp List.not_mem_nil
  | n + 1, p, hp, x => by
    rw [st] at hp
    by_cases hn : n < k1_t1_loop.trips
    · rw [dif_pos hn] at hp
      rcases List.mem_cons.mp hp with rfl | hp
      · have hk : n < 256 := by rw [trips_eq] at hn; exact hn
        obtain ⟨b, d, rfl⟩ : ∃ (b : Fin 8) (d : Fin 768), x = ix3 (0 : Fin 1) b d := ⟨x 1, x 2, by rw [eq_ix3 x]; congr 1; exact Subsingleton.elim (α := Fin 1) _ _⟩
        show tripY i a xt dt bc ⟨n, hn⟩ (st i a xt dt bc init n).1 (ix3 0 b d) = _
        rw [tripY_at i a xt dt bc ⟨n, hn⟩ hk]
        show _ = (fun y : S256x8x768.Idx => (rowAt A K T (te i (y 0)) (y 1) (y 2) : EReal)) ((rt i ⟨n, hn⟩).emb (ix3 0 b d))
        rw [rt_emb i ⟨n, hn⟩ hk]
        show _ = rowAt A K T (te i (te i ⟨n, hk⟩)) b d
        rw [te_te]
        unfold rowAt
        refine Finset.sum_congr rfl fun m _ => ?_
        rw [R.step ⟨n, hn⟩ hk _ (R.at n (by omega)), R.hbc]
        have e : (⟨24 + (4 + m.val), by omega⟩ : Fin 32) = ⟨28 + m.val, by omega⟩ := Fin.ext (by show 24 + (4 + m.val) = 28 + m.val; omega)
        exact congrArg (fun z => _ * dbl _ _ z) e
      · exact R.row n p hp x
    · rw [dif_neg hn] at hp
      exact R.row n p hp x

/-- The loop's result. -/
theorem Runs.canon (R : Runs A K T i a xt dt bc init) (k : Fin 256) (b : Fin 8) (d : Fin 768) :
    View.canon (st i a xt dt bc init k1_t1_loop.trips).2 (ix3 (te i k) b d) = rowAt A K T k b d := by
  refine (View.canon_apply_of_pieces (fun y : S256x8x768.Idx => (rowAt A K T (te i (y 0)) (y 1) (y 2) : EReal)) _ (R.row _) _ (covery i a xt dt bc init _)).trans ?_
  show rowAt A K T (te i (te i k)) b d = _
  rw [te_te]

/-! The block's data. -/

theorem xtOf_at (x0 : Vec Ideal S1x8x256x768 .f32) (t : Fin 256) (b : Fin 8) (d : Fin 768) : xtOf x0 (ix3 t b d) = x0 (ix4 0 b t d) := by
  unfold xtOf
  rw [View.canon_cons_unit_lit]
  rotate_left
  · decide
  pointwise [k1_pay10]

theorem xtL_at (x0 : Vec Ideal S1x8x256x768 .f32) (t : Fin 256) (b : Fin 8) (d : Fin 768) : xtL x0 (ix3 t b d) = x0 (ix4 0 b t d) := by
  rw [← xtOf_at x0]
  unfold xtL
  pointwise

theorem pay12_at (v : Vec Ideal S256x8x768 .f32) (x1 : Vec Ideal S1x1x768x24 .f32) (x3 : Vec Ideal S1x1x24x768 .f32) (x4 : Vec Ideal S1x1x1x768 .f32) (t : Fin 256) (b : Fin 8) (d : Fin 768) :
    k1_pay12 v x1 x3 x4 (ix2 ⟨t.val * 8 + b.val, by omega⟩ d)
      = (∑ r : Fin 24, (∑ e, v (ix3 t b e) * x1 (ix4 0 0 e r)) * x3 (ix4 0 0 r d)) + x4 (ix4 0 0 0 d) := by
  pointwise [k1_pay12, k1_pay11]

theorem soft_at (v : Vec Ideal S256x8x768 .f32) (x1 : Vec Ideal S1x1x768x24 .f32) (x3 : Vec Ideal S1x1x24x768 .f32) (x4 : Vec Ideal S1x1x1x768 .f32) (t : Fin 256) (b : Fin 8) (d : Fin 768) :
    k1_pay18 (k1_pay13 v x1 x3 x4) (k1_pay15 v x1 x3 x4) (k1_pay16 v x1 x3 x4) (k1_pay17 v x1 x3 x4) (ix3 t b d)
      = softplus (k1_pay12 v x1 x3 x4 (ix2 ⟨t.val * 8 + b.val, by omega⟩ d)) := by
  pointwise [k1_pay18, k1_pay13, k1_pay15, k1_pay16, k1_pay17, k1_pay14, softplus]
  rw [if_neg (fun h => h rfl), zero_sub]
  rfl

theorem dtOf_at (x0 : Vec Ideal S1x8x256x768 .f32) (x1 : Vec Ideal S1x1x768x24 .f32) (x3 : Vec Ideal S1x1x24x768 .f32) (x4 : Vec Ideal S1x1x1x768 .f32) (t : Fin 256) (b : Fin 8) (d : Fin 768) :
    dtOf x0 x1 x3 x4 (ix3 t b d)
      = softplus ((∑ r : Fin 24, (∑ e, x0 (ix4 0 b t e) * x1 (ix4 0 0 e r)) * x3 (ix4 0 0 r d)) + x4 (ix4 0 0 0 d)) := by
  unfold dtOf
  rw [View.canon_cons_unit_lit]
  rotate_left
  · decide
  rw [soft_at, pay12_at]
  simp only [xtL_at]
  pointwise

theorem bcOf_at (x0 : Vec Ideal S1x8x256x768 .f32) (x2 : Vec Ideal S1x1x768x8 .f32) (t : Fin 256) (b n : Fin 8) :
    bcOf x0 x2 (ix3 t b n) = ∑ e, x0 (ix4 0 b t e) * x2 (ix4 0 0 e n) := by
  unfold bcOf
  rw [View.canon_cons_unit_lit]
  rotate_left
  · decide
  simp only [← xtL_at]
  pointwise [k1_pay19, k1_pay11]

theorem a_at (x5 : Vec Ideal S1x1x4x768 .f32) (n : Fin 4) (d : Fin 768) : k1_pay20 (View.ld x5 ra7) (ix2 n d) = -Ideal.exp (x5 (ix4 0 0 n d)) := by
  pointwise [k1_pay20]
  rw [zero_sub]

/-- The state a point starts from, as the loop takes it. -/
theorem hAt_ld (h : Vec Ideal S4x8x768 .f32) (n : Fin 4) (b : Fin 8) (d : Fin 768) :
    hAt (k1_pay22 (View.ld h rh0), k1_pay23 (View.ld h rh1), k1_pay24 (View.ld h rh2), k1_pay25 (View.ld h rh3)) n b d = h (ix3 n b d) := by
  match n with
  | 0 => show k1_pay22 (View.ld h rh0) (ix2 b d) = _; pointwise [k1_pay22]
  | 1 => show k1_pay23 (View.ld h rh1) (ix2 b d) = _; pointwise [k1_pay23]
  | 2 => show k1_pay24 (View.ld h rh2) (ix2 b d) = _; pointwise [k1_pay24]
  | 3 => show k1_pay25 (View.ld h rh3) (ix2 b d) = _; pointwise [k1_pay25]

theorem zero_at (n : Fin 4) (b : Fin 8) (d : Fin 768) : k1_pay21 (F := Ideal) (ix3 n b d) = (0 : EReal) := by
  pointwise [k1_pay21]

/-- The state a point leaves, read back. -/
theorem hcanon_at (acc : Acc Ideal) (n : Fin 4) (b : Fin 8) (d : Fin 768) :
    View.canon (Val := Elt Ideal) (s := S4x8x768) (e := .f32) [⟨rh3, k1_pay31 acc.2.2.2⟩, ⟨rh2, k1_pay30 acc.2.2.1⟩, ⟨rh1, k1_pay29 acc.2.1⟩, ⟨rh0, k1_pay28 acc.1⟩] (ix3 n b d) = hAt acc n b d := by
  have hG := View.canon_apply_of_pieces (Val := Elt Ideal) (S := S4x8x768) (e := .f32) (fun y => hAt acc (y 0) (y 1) (y 2))
    [⟨rh3, k1_pay31 acc.2.2.2⟩, ⟨rh2, k1_pay30 acc.2.2.1⟩, ⟨rh1, k1_pay29 acc.2.1⟩, ⟨rh0, k1_pay28 acc.1⟩] ?_ (ix3 n b d) (coverh _ _ _ _ _)
  · exact hG
  · intro p hp x
    simp only [List.mem_cons, List.not_mem_nil, or_false] at hp
    rcases hp with rfl | rfl | rfl | rfl
    all_goals
      obtain ⟨b, d, rfl⟩ : ∃ (b : Fin 8) (d : Fin 768), x = ix3 (0 : Fin 1) b d := ⟨x 1, x 2, by rw [eq_ix3 x]; congr 1; exact Subsingleton.elim (α := Fin 1) _ _⟩
    · have e : rh3.emb (ix3 0 b d) = ix3 (3 : Fin 4) b d := by
        funext a; match a with
        | 0 => rfl
        | 1 => exact Fin.ext (by show 0 + 1 * b.val = b.val; omega)
        | 2 => exact Fin.ext (by show 0 + 1 * d.val = d.val; omega)
      show k1_pay31 acc.2.2.2 (ix3 0 b d) = (fun y : S4x8x768.Idx => hAt acc (y 0) (y 1) (y 2)) (rh3.emb (ix3 0 b d))
      rw [e]
      show _ = acc.2.2.2 (ix2 b d)
      pointwise [k1_pay31]
    · have e : rh2.emb (ix3 0 b d) = ix3 (2 : Fin 4) b d := by
        funext a; match a with
        | 0 => rfl
        | 1 => exact Fin.ext (by show 0 + 1 * b.val = b.val; omega)
        | 2 => exact Fin.ext (by show 0 + 1 * d.val = d.val; omega)
      show k1_pay30 acc.2.2.1 (ix3 0 b d) = (fun y : S4x8x768.Idx => hAt acc (y 0) (y 1) (y 2)) (rh2.emb (ix3 0 b d))
      rw [e]
      show _ = acc.2.2.1 (ix2 b d)
      pointwise [k1_pay30]
    · have e : rh1.emb (ix3 0 b d) = ix3 (1 : Fin 4) b d := by
        funext a; match a with
        | 0 => rfl
        | 1 => exact Fin.ext (by show 0 + 1 * b.val = b.val; omega)
        | 2 => exact Fin.ext (by show 0 + 1 * d.val = d.val; omega)
      show k1_pay29 acc.2.1 (ix3 0 b d) = (fun y : S4x8x768.Idx => hAt acc (y 0) (y 1) (y 2)) (rh1.emb (ix3 0 b d))
      rw [e]
      show _ = acc.2.1 (ix2 b d)
      pointwise [k1_pay29]
    · have e : rh0.emb (ix3 0 b d) = ix3 (0 : Fin 4) b d := by
        funext a; match a with
        | 0 => rfl
        | 1 => exact Fin.ext (by show 0 + 1 * b.val = b.val; omega)
        | 2 => exact Fin.ext (by show 0 + 1 * d.val = d.val; omega)
      show k1_pay28 acc.1 (ix3 0 b d) = (fun y : S4x8x768.Idx => hAt acc (y 0) (y 1) (y 2)) (rh0.emb (ix3 0 b d))
      rw [e]
      show _ = acc.1 (ix2 b d)
      pointwise [k1_pay28]

theorem y_at (v w : Vec Ideal S256x8x768 .f32) (x6 : Vec Ideal S1x1x1x768 .f32) (b : Fin 8) (t : Fin 256) (d : Fin 768) :
    k1_pay1 (k1_pay32 v (View.ld w rxt) (View.ld x6 ra6)) (ix4 0 b t d) = w (ix3 t b d) + v (ix3 t b d) * x6 (ix4 0 0 0 d) := by
  pointwise [k1_pay1, k1_pay32]

/-- What a point needs to know of its blocks: they are the direction's from step `T` on. -/
structure Point (A : Args) (K : Fin 4) (T : ℕ) (i : grid1.Coords) (x0 : Vec Ideal S1x8x256x768 .f32) (x1 : Vec Ideal S1x1x768x24 .f32) (x2 : Vec Ideal S1x1x768x8 .f32) (x3 : Vec Ideal S1x1x24x768 .f32)
    (x4 : Vec Ideal S1x1x1x768 .f32) (x5 : Vec Ideal S1x1x4x768 .f32) (h : Vec Ideal S4x8x768 .f32) : Prop where
  h0 : ∀ (k : Fin 256) b d, x0 (ix4 0 b (te i k) d) = useq A K b (Fin.ofNat 1024 (T + k.val)) d
  h1 : ∀ e (r : Fin 24), x1 (ix4 0 0 e r) = A.wX K ⟨r.val, by omega⟩ e
  h2 : ∀ e (n : Fin 8), x2 (ix4 0 0 e n) = A.wX K ⟨24 + n.val, by omega⟩ e
  h3 : ∀ r d, x3 (ix4 0 0 r d) = A.wDt K d r
  h4 : ∀ d, x4 (ix4 0 0 0 d) = A.bDt K d
  h5 : ∀ n d, x5 (ix4 0 0 n d) = A.aLog K d n
  hh : ∀ n b d, R1.h0 i h (ix3 n b d) = state A K b T d n

variable {x0 : Vec Ideal S1x8x256x768 .f32} {x1 : Vec Ideal S1x1x768x24 .f32} {x2 : Vec Ideal S1x1x768x8 .f32} {x3 : Vec Ideal S1x1x24x768 .f32}
    {x4 : Vec Ideal S1x1x1x768 .f32} {x5 : Vec Ideal S1x1x4x768 .f32} {h : Vec Ideal S4x8x768 .f32}

theorem Point.runs (P : Point A K T i x0 x1 x2 x3 x4 x5 h) :
    Runs A K T i (k1_pay20 (View.ld x5 ra7)) (xtOf x0) (dtOf x0 x1 x3 x4) (bcOf x0 x2)
      (k1_pay22 (View.ld (R1.h0 i h) rh0), k1_pay23 (View.ld (R1.h0 i h) rh1), k1_pay24 (View.ld (R1.h0 i h) rh2), k1_pay25 (View.ld (R1.h0 i h) rh3)) where
  hx k b d := by rw [xtOf_at, P.h0]
  hdt k b d := by
    rw [dtOf_at]
    simp only [P.h0, P.h1, P.h3, P.h4]
    rfl
  hbc k b n := by
    rw [bcOf_at]
    simp only [P.h0, P.h2]
    rfl
  ha n d := by rw [a_at, P.h5]
  hi n b d := by rw [hAt_ld, P.hh]

/-- A point runs the direction's state on by 256 steps, -/
theorem Point.hout (P : Point A K T i x0 x1 x2 x3 x4 x5 h) (n : Fin 4) (b : Fin 8) (d : Fin 768) :
    R1.hout i x0 x1 x2 x3 x4 x5 h (ix3 n b d) = state A K b (T + 256) d n := by
  unfold R1.hout
  rw [hcanon_at]
  exact P.runs.at 256 le_rfl n b d

/-- and writes the direction's results of those steps. -/
theorem Point.yout (P : Point A K T i x0 x1 x2 x3 x4 x5 h) (x6 : Vec Ideal S1x1x1x768 .f32) (h6 : ∀ d, x6 (ix4 0 0 0 d) = A.ds K d) (k : Fin 256) (hT : T + k.val < 1024) (b : Fin 8) (d : Fin 768) :
    R1.yout i x0 x1 x2 x3 x4 x5 x6 h (ix4 0 b (te i k) d) = res A K b ⟨T + k.val, hT⟩ d := by
  have e : Fin.ofNat 1024 (T + k.val) = ⟨T + k.val, hT⟩ := Fin.ext (Nat.mod_eq_of_lt hT)
  unfold R1.yout
  rw [View.canon_cons_unit_lit]
  rotate_left
  · decide
  rw [y_at]
  unfold stAt
  rw [P.runs.canon, xtL_at, P.h0, h6]
  unfold rowAt res
  rw [e]

end Cert.KernelIdeal.R1
end
-- ==== Proof.ScanV.lean ====
module

public import proofs.«01_k».proof.Proof.ScanK

/-! The scan kernel's result array, of the arrays its region is entered with: an induction over the grid's points. -/

@[expose] public section
set_option maxRecDepth 16384

noncomputable section

namespace Cert.KernelIdeal.R1

open Cert.KernelIdeal.Gen Cert.KernelIdeal.Lau
open Idealize.ShloMosaic Idealize.ShloMosaic.TcCoe Idealize.SL.Sem
open Cert.Spec (Args flat useq at' fl state res el1 el2 el3 el4)

variable (V : (c : Dev nD) → (b : Ref sig .tc) → Buf (Elt Ideal) ((c : Thread nD τ).loc b))

/-- The block of positions a point works on. -/
def cm (t : ℕ) : ℕ := if t % 8 < 4 then t % 8 else 7 - t % 8

theorem cm_lt (t : ℕ) : cm t < 4 := by unfold cm; split <;> omega

/-! Each window's index, and its block read from its array. -/

theorem i0 : ∀ t : Fin cfg1.N, (cfg1.win 0).index t = ![t.val / 8, 0, cm t.val, 0] := by decide +kernel
theorem i1 : ∀ t : Fin cfg1.N, (cfg1.win 1).index t = ![t.val / 8, t.val % 8 / 4, 0, 0] ∧ (cfg1.win 2).index t = ![t.val / 8, t.val % 8 / 4, 0, 0] ∧ (cfg1.win 3).index t = ![t.val / 8, t.val % 8 / 4, 0, 0]
    ∧ (cfg1.win 4).index t = ![t.val / 8, t.val % 8 / 4, 0, 0] ∧ (cfg1.win 5).index t = ![t.val / 8, t.val % 8 / 4, 0, 0] ∧ (cfg1.win 6).index t = ![t.val / 8, t.val % 8 / 4, 0, 0] := by decide +kernel
theorem i7 : ∀ t : Fin cfg1.N, (cfg1.win 7).index t = ![t.val / 8 + 2 * (t.val % 8 / 4), 0, cm t.val, 0] := by decide +kernel

/-- The picture's orientation, and the direction's half, of a point. -/
def kA (t : Fin 16) : Fin 2 := ⟨t.val / 8, by omega⟩
def kB (t : Fin 16) : Fin 2 := ⟨t.val % 8 / 4, by omega⟩
/-- The position of a block's row. -/
def row (t : Fin 16) (r : Fin 256) : Fin 1024 := ⟨cm t.val * 256 + r.val, by have := cm_lt t.val; omega⟩

theorem b0 (c : Dev nD) (t : Fin cfg1.N) (b : Fin 8) (r : Fin 256) (d : Fin 768) :
    (iblk V c 0 t : Vec Ideal S1x8x256x768 .f32) (ix4 0 b r d) = el4 (V c main_v11_0) (kA t) b (row t r) d := by
  unfold kA row
  blk_ext [iblk, i0 t]
theorem b1 (c : Dev nD) (t : Fin cfg1.N) (e : Fin 768) (r : Fin 24) : (iblk V c 1 t : Vec Ideal S1x1x768x24 .f32) (ix4 0 0 e r) = el4 (V c main_v18) (kA t) (kB t) e r := by
  unfold kA kB
  blk_ext [iblk, i1 t]
theorem b2 (c : Dev nD) (t : Fin cfg1.N) (e : Fin 768) (r : Fin 8) : (iblk V c 2 t : Vec Ideal S1x1x768x8 .f32) (ix4 0 0 e r) = el4 (V c main_v25) (kA t) (kB t) e r := by
  unfold kA kB
  blk_ext [iblk, i1 t]
theorem b3 (c : Dev nD) (t : Fin cfg1.N) (r : Fin 24) (d : Fin 768) : (iblk V c 3 t : Vec Ideal S1x1x24x768 .f32) (ix4 0 0 r d) = el4 (V c main_v31) (kA t) (kB t) r d := by
  unfold kA kB
  blk_ext [iblk, i1 t]
theorem b4 (c : Dev nD) (t : Fin cfg1.N) (d : Fin 768) : (iblk V c 4 t : Vec Ideal S1x1x1x768 .f32) (ix4 0 0 0 d) = el4 (V c main_v43) (kA t) (kB t) 0 d := by
  unfold kA kB
  blk_ext [iblk, i1 t]
theorem b5 (c : Dev nD) (t : Fin cfg1.N) (n : Fin 4) (d : Fin 768) : (iblk V c 5 t : Vec Ideal S1x1x4x768 .f32) (ix4 0 0 n d) = el4 (V c main_v37) (kA t) (kB t) n d := by
  unfold kA kB
  blk_ext [iblk, i1 t]
theorem b6 (c : Dev nD) (t : Fin cfg1.N) (d : Fin 768) : (iblk V c 6 t : Vec Ideal S1x1x1x768 .f32) (ix4 0 0 0 d) = el4 (V c main_v49) (kA t) (kB t) 0 d := by
  unfold kA kB
  blk_ext [iblk, i1 t]

/-- The direction of an orientation and a half. -/
def dir (a b : Fin 2) : Fin 4 := ⟨a.val + 2 * b.val, by omega⟩

/-- What the region is entered with: the pictures, and the four directions' weights. -/
structure Entered (A : Args) (c : Dev nD) : Prop where
  xs : ∀ k b l d, el4 (V c main_v11_0) k b l d = flat A k b l d
  w1 : ∀ (a b : Fin 2) (e : Fin 768) (r : Fin 24), el4 (V c main_v18) a b e r = A.wX (dir a b) ⟨r.val, by omega⟩ e
  w2 : ∀ (a b : Fin 2) (e : Fin 768) (r : Fin 8), el4 (V c main_v25) a b e r = A.wX (dir a b) ⟨24 + r.val, by omega⟩ e
  w3 : ∀ (a b : Fin 2) (r : Fin 24) (d : Fin 768), el4 (V c main_v31) a b r d = A.wDt (dir a b) d r
  w4 : ∀ (a b : Fin 2) (d : Fin 768), el4 (V c main_v43) a b 0 d = A.bDt (dir a b) d
  w5 : ∀ (a b : Fin 2) (n : Fin 4) (d : Fin 768), el4 (V c main_v37) a b n d = A.aLog (dir a b) d n
  w6 : ∀ (a b : Fin 2) (d : Fin 768), el4 (V c main_v49) a b 0 d = A.ds (dir a b) d

theorem coords1 : ∀ t : Fin cfg1.N, (grid1.coords t 1).val = t.val % 8 := by decide +kernel
/-- The state is reset at the first point of every four. -/
theorem rst_eq : ∀ t : Fin cfg1.N, rst (grid1.coords t) = if t.val % 4 = 0 then 1#1 else 0#1 := by decide +kernel

/-- The step a point starts at. -/
def start (t : Fin 16) : ℕ := 256 * (t.val % 4)

theorem start_lt (t : Fin 16) (k : Fin 256) : start t + k.val < 1024 := by unfold start; omega

/-- The row a trip works on is the position its step reads. -/
theorem row_te (t : Fin cfg1.N) (k : Fin 256) : row t (te (grid1.coords t) k) = at' (dir (kA t) (kB t)) ⟨start t + k.val, start_lt t k⟩ := by
  have h16 : t.val < 16 := t.isLt
  have hd : (dir (kA t) (kB t)).val = t.val / 8 + 2 * (t.val % 8 / 4) := rfl
  have hr : (row t (te (grid1.coords t) k)).val = cm t.val * 256 + (te (grid1.coords t) k).val := rfl
  refine Fin.ext (hr.trans ?_)
  by_cases h : t.val % 8 < 4
  · have h1 : te (grid1.coords t) k = k := by unfold te; rw [if_neg (by rw [coords1]; omega)]
    have h2 : cm t.val = t.val % 8 := if_pos h
    rw [h1, h2]
    unfold at'
    rw [if_pos (by rw [hd]; omega)]
    show t.val % 8 * 256 + k.val = 256 * (t.val % 4) + k.val
    omega
  · have h1 : te (grid1.coords t) k = k.rev := by unfold te; rw [if_pos (by rw [coords1]; omega)]
    have h2 : cm t.val = 7 - t.val % 8 := if_neg h
    rw [h1, h2]
    unfold at'
    rw [if_neg (by rw [hd]; omega)]
    show (7 - t.val % 8) * 256 + (256 - (k.val + 1)) = 1024 - (256 * (t.val % 4) + k.val + 1)
    omega

/-- A point's block holds its direction's rows at its steps. -/
theorem xs_at {A : Args} {c : Dev nD} (E : Entered V A c) (t : Fin cfg1.N) (k : Fin 256) (b : Fin 8) (d : Fin 768) :
    (iblk V c 0 t : Vec Ideal S1x8x256x768 .f32) (ix4 0 b (te (grid1.coords t) k) d) = useq A (dir (kA t) (kB t)) b (Fin.ofNat 1024 (start t + k.val)) d := by
  have e : Fin.ofNat 1024 (start t + k.val) = ⟨start t + k.val, start_lt t k⟩ := Fin.ext (Nat.mod_eq_of_lt (start_lt t k))
  have hk : (⟨(dir (kA t) (kB t)).val % 2, by omega⟩ : Fin 2) = kA t := Fin.ext (by
    have h16 : t.val < 16 := t.isLt
    show (t.val / 8 + 2 * (t.val % 8 / 4)) % 2 = t.val / 8; omega)
  rw [b0, E.xs, e]
  unfold useq
  rw [row_te, hk]

/-- Every point starts from its direction's state. -/
theorem point {A : Args} {c : Dev nD} (E : Entered V A c) : ∀ (n : ℕ) (hn : n < cfg1.N),
    Point A (dir (kA ⟨n, hn⟩) (kB ⟨n, hn⟩)) (start ⟨n, hn⟩) (grid1.coords ⟨n, hn⟩) (iblk V c 0 ⟨n, hn⟩) (iblk V c 1 ⟨n, hn⟩) (iblk V c 2 ⟨n, hn⟩) (iblk V c 3 ⟨n, hn⟩) (iblk V c 4 ⟨n, hn⟩)
      (iblk V c 5 ⟨n, hn⟩) (hst V c n) := by
  intro n
  induction n with
  | zero => exact fun hn => {
      h0 := fun k b d => xs_at V E _ k b d
      h1 := fun e r => (b1 V c _ e r).trans (E.w1 _ _ _ _)
      h2 := fun e r => (b2 V c _ e r).trans (E.w2 _ _ _ _)
      h3 := fun r d => (b3 V c _ r d).trans (E.w3 _ _ _ _)
      h4 := fun d => (b4 V c _ d).trans (E.w4 _ _ _)
      h5 := fun r d => (b5 V c _ r d).trans (E.w5 _ _ _ _)
      hh := fun m b d => by
        have hr : rst (grid1.coords (⟨0, hn⟩ : Fin cfg1.N)) = 1#1 := rst_eq _
        unfold R1.h0
        rw [if_pos hr, View.canon_cons_unit_lit]
        rotate_left
        · decide
        exact zero_at m b d }
  | succ n ih => exact fun hn => {
      h0 := fun k b d => xs_at V E _ k b d
      h1 := fun e r => (b1 V c _ e r).trans (E.w1 _ _ _ _)
      h2 := fun e r => (b2 V c _ e r).trans (E.w2 _ _ _ _)
      h3 := fun r d => (b3 V c _ r d).trans (E.w3 _ _ _ _)
      h4 := fun d => (b4 V c _ d).trans (E.w4 _ _ _)
      h5 := fun r d => (b5 V c _ r d).trans (E.w5 _ _ _ _)
      hh := fun m b d => by
        have hn' : n + 1 < 16 := hn
        have hr := rst_eq (⟨n + 1, hn⟩ : Fin cfg1.N)
        unfold R1.h0
        by_cases hz : (n + 1) % 4 = 0
        · rw [if_pos (hr.trans (if_pos hz)), View.canon_cons_unit_lit]
          rotate_left
          · decide
          rw [show start ⟨n + 1, hn⟩ = 0 from by show 256 * ((n + 1) % 4) = 0; omega]
          exact zero_at m b d
        · rw [if_neg (by rw [hr.trans (if_neg hz)]; decide), hst_succ V c ⟨n, by omega⟩, (ih (by omega)).hout]
          have e1 : kA ⟨n + 1, hn⟩ = kA ⟨n, by omega⟩ := Fin.ext (by show (n + 1) / 8 = n / 8; omega)
          have e2 : kB ⟨n + 1, hn⟩ = kB ⟨n, by omega⟩ := Fin.ext (by show (n + 1) % 8 / 4 = n % 8 / 4; omega)
          have e3 : start ⟨n + 1, hn⟩ = start ⟨n, by omega⟩ + 256 := by show 256 * ((n + 1) % 4) = 256 * (n % 4) + 256; omega
          rw [e1, e2, e3] }

/-- Reading a direction's positions twice is reading in order. -/
theorem at'_at' (k : Fin 4) (p : Fin 1024) : at' k (at' k p) = p := by
  unfold at'
  split
  · rfl
  · exact Fin.rev_rev p

/-- A point's block holds its direction's results, at the positions they were read from. -/
theorem y_blk {A : Args} {c : Dev nD} (E : Entered V A c) (t : Fin cfg1.N) (b : Fin 8) (r : Fin 256) (d : Fin 768) :
    yout (grid1.coords t) (iblk V c 0 t) (iblk V c 1 t) (iblk V c 2 t) (iblk V c 3 t) (iblk V c 4 t) (iblk V c 5 t) (iblk V c 6 t) (hst V c t.val) (ix4 0 b r d)
      = res A (dir (kA t) (kB t)) b (at' (dir (kA t) (kB t)) (row t r)) d := by
  have hrow := row_te t (te (grid1.coords t) r)
  rw [te_te] at hrow
  have hy := (point V E t.val t.isLt).yout (iblk V c 6 t) (fun d => (b6 V c t d).trans (E.w6 _ _ _)) (te (grid1.coords t) r) (start_lt t _) b d
  rw [te_te] at hy
  refine hy.trans ?_
  refine congrArg (fun p => res A (dir (kA t) (kB t)) b p d) ?_
  rw [hrow, at'_at']
  rfl

/-- The array after the region: each direction's results, at the positions they were read from. -/
theorem arr {A : Args} {c : Dev nD} (E : Entered V A c) : (dats V c).arrAt 7 cfg1.N = (fun i : S4x8x1024x768.Idx => res A (i 0) (i 1) (at' (i 0) (i 2)) (i 3)) := by
  refine (dats V c).arrAt_eq_of_covers 7 _ (by decide +kernel) fun t hf y => ?_
  blk_simp
  rw [after1_7]
  obtain ⟨b, r, d, rfl⟩ : ∃ (b : Fin 8) (r : Fin 256) (d : Fin 768), y = (ix4 (0 : Fin 1) b r d : S1x8x256x768.Idx) :=
    ⟨y 1, y 2, y 3, (eq_ix4 (n0 := 1) (n1 := 8) (n2 := 256) (n3 := 768) y).trans (by congr 1; exact Subsingleton.elim (α := Fin 1) _ _)⟩
  refine (y_blk V E t b r d).trans ?_
  have e : (win1_7.blk t).view.emb (ix4 (0 : Fin 1) b r d : S1x8x256x768.Idx) = (ix4 (dir (kA t) (kB t)) b (row t r) d : S4x8x1024x768.Idx) := by
    unfold dir kA kB row
    blk_ext [i7 t]
  rw [e]
  rfl

end Cert.KernelIdeal.R1
end
-- ==== Proof.PostK.lean ====
module

public import proofs.«01_k».proof.Proof.Post
public import proofs.«01_k».proof.Proof.Spec
public import Idealize.ShloMosaic.Lib.Pointwise
public import Idealize.ShloMosaic.Lib.Pipeline.ValueKit

/-! The post kernel's block at an element. -/

@[expose] public section
set_option maxRecDepth 16384

noncomputable section

namespace Cert.KernelIdeal.R2

open Cert.KernelIdeal.Gen Cert.KernelIdeal.Lau
open Idealize.ShloMosaic
open Cert.Spec (mean ln silu gelu resid hid mlp tr el1 el2 el3 el4)

/-- The kernel's merge of the four directions. -/
def merge (x0 : Vec Ideal S4x1x1024x768 .f32) (l : Fin 1024) (e : Fin 768) : EReal :=
  x0 (ix4 0 0 l e) + x0 (ix4 2 0 l e) + (x0 (ix4 1 0 (tr l) e) + x0 (ix4 3 0 (tr l) e))

theorem pay2_at (x0 : Vec Ideal S4x1x1024x768 .f32) (l : Fin 1024) (e : Fin 768) :
    k2_pay2 (View.ld x0 r2_0) (View.ld x0 r2_1) (View.ld x0 r2_2) (View.ld x0 r2_3) (ix2 l e) = merge x0 l e := by
  pointwise [k2_pay2, merge, tr]

theorem pay8_at (v15 : FVec Ideal S768 .f32) (v17 : FVec Ideal S768 .f32) (v30 : FVec Ideal S1024x768 .f32) (v33 : FVec Ideal S1024x1 .f32) (v42 : Vec Ideal S1x1024x768 .f32) (v47 : Vec Ideal S768x384 .f32) (v50 : Vec Ideal S1x1024x384 .f32) (l : Fin 1024) (c : Fin 384) :
    k2_pay8 v15 v17 v30 v33 v42 v47 v50 (ix2 l c)
      = v50 (ix3 0 l c) + ∑ d, (v30 (ix2 l d) * v33 (ix2 l 0) * v15 (ix1 d) + v17 (ix1 d)) * silu (v42 (ix3 0 l d)) * v47 (ix2 d c) := by
  pointwise [k2_pay8, silu]

/-- The block's rows after the first residual sum. -/
theorem resid_at (x0 : Vec Ideal S4x1x1024x768 .f32) (x1 : Vec Ideal S1x1024x768 .f32) (x2 : Vec Ideal S1x1024x384 .f32) (x3 : Vec Ideal S1x768 .f32) (x4 : Vec Ideal S1x768 .f32) (x5 : Vec Ideal S768x384 .f32) (l : Fin 1024) (c : Fin 384) :
    k2_pay8 (k2_pay3 (View.ld x3 r2_4)) (k2_pay4 (View.ld x4 r2_4)) (k2_pay6 (View.ld x0 r2_0) (View.ld x0 r2_1) (View.ld x0 r2_2) (View.ld x0 r2_3))
        (k2_pay7 (View.ld x0 r2_0) (View.ld x0 r2_1) (View.ld x0 r2_2) (View.ld x0 r2_3)) (View.ld x1 r2_5) (View.ld x5 r2_6) (View.ld x2 r2_7) (ix2 l c)
      = resid (fun d => x3 (ix2 0 d)) (fun d => x4 (ix2 0 d)) (fun c d => x5 (ix2 d c)) (merge x0 l) (fun d => x1 (ix3 0 l d)) (fun c => x2 (ix3 0 l c)) c := by
  rw [pay8_at]
  pointwise [resid, ln, mean, k2_pay3, k2_pay4, k2_pay6, k2_pay7, k2_pay5]
  simp only [pay2_at]

theorem mlp_at (v52 : FVec Ideal S1024x384 .f32) (v56 : FVec Ideal S384 .f32) (v74 : FVec Ideal S1024x384 .f32) (v75 : FVec Ideal S1x384 .f32) (v81 : Vec Ideal S384x1536 .f32) (v84 : Vec Ideal S1x1536 .f32) (v102 : Vec Ideal S1536x384 .f32) (v105 : Vec Ideal S1x384 .f32) (l : Fin 1024) (c : Fin 384) :
    k2_pay1 v52 v56 v74 v75 v81 v84 v102 v105 (ix3 0 l c)
      = v52 (ix2 l c) + ((∑ e, gelu ((∑ d, (v74 (ix2 l d) * v75 (ix2 0 d) + v56 (ix1 d)) * v81 (ix2 d e)) + v84 (ix2 0 e)) * v102 (ix2 e c)) + v105 (ix2 0 c)) := by
  pointwise [k2_pay1, gelu]

theorem pay10_at (v15 : FVec Ideal S768 .f32) (v17 : FVec Ideal S768 .f32) (v30 : FVec Ideal S1024x768 .f32) (v33 : FVec Ideal S1024x1 .f32) (v42 : Vec Ideal S1x1024x768 .f32) (v47 : Vec Ideal S768x384 .f32) (v50 : Vec Ideal S1x1024x384 .f32) (r : Fin 384 → EReal) (l : Fin 1024) (c : Fin 384)
    (h : ∀ c, k2_pay8 v15 v17 v30 v33 v42 v47 v50 (ix2 l c) = r c) :
    k2_pay10 v15 v17 v30 v33 v42 v47 v50 (ix2 l c)
      = (r c - mean 0x43C00000#32 r) * Ideal.rsqrt (mean 0x43C00000#32 (fun k => (r k - mean 0x43C00000#32 r) * (r k - mean 0x43C00000#32 r)) + Ideal.ofBits .f32 0x3727C5AC#32) := by
  pointwise [k2_pay10, mean]
  simp only [h]

/-- What the post kernel leaves of its blocks, at a position and a channel. -/
theorem out_at (x0 : Vec Ideal S4x1x1024x768 .f32) (x1 : Vec Ideal S1x1024x768 .f32) (x2 : Vec Ideal S1x1024x384 .f32) (x3 : Vec Ideal S1x768 .f32) (x4 : Vec Ideal S1x768 .f32) (x5 : Vec Ideal S768x384 .f32) (x6 : Vec Ideal S1x384 .f32) (x7 : Vec Ideal S1x384 .f32) (x8 : Vec Ideal S384x1536 .f32) (x9 : Vec Ideal S1x1536 .f32) (x10 : Vec Ideal S1536x384 .f32) (x11 : Vec Ideal S1x384 .f32) (l : Fin 1024) (c : Fin 384) :
    out2_12 x0 x1 x2 x3 x4 x5 x6 x7 x8 x9 x10 x11 (ix3 0 l c)
      = mlp (fun d => x6 (ix2 0 d)) (fun d => x7 (ix2 0 d)) (fun e d => x8 (ix2 d e)) (fun e => x9 (ix2 0 e)) (fun c e => x10 (ix2 e c)) (fun c => x11 (ix2 0 c))
          (resid (fun d => x3 (ix2 0 d)) (fun d => x4 (ix2 0 d)) (fun c d => x5 (ix2 d c)) (merge x0 l) (fun d => x1 (ix3 0 l d)) (fun c => x2 (ix3 0 l c))) c := by
  unfold out2_12
  rw [View.canon_cons_unit_lit]
  rotate_left
  · decide
  rw [mlp_at]
  unfold k2_pay12 k2_pay13 k2_pay14 k2_pay15
  simp only [pay10_at _ _ _ _ _ _ _ _ _ _ (resid_at x0 x1 x2 x3 x4 x5 l), resid_at]
  unfold mlp hid ln
  pointwise [k2_pay9, k2_pay11]

end Cert.KernelIdeal.R2
end
-- ==== Proof.PostV.lean ====
module

public import proofs.«01_k».proof.Proof.PostK

/-! The post kernel's result array, of the arrays its region is entered with. -/

@[expose] public section
set_option maxRecDepth 16384

noncomputable section

namespace Cert.KernelIdeal.R2

open Cert.KernelIdeal.Gen Cert.KernelIdeal.Lau
open Idealize.ShloMosaic Idealize.ShloMosaic.TcCoe Idealize.SL.Sem
open Cert.Spec (mean ln silu gelu resid hid mlp tr el1 el2 el3 el4)

variable (V : (c : Dev nD) → (b : Ref sig .tc) → Buf (Elt Ideal) ((c : Thread nD τ).loc b))

theorem i0 : ∀ t : Fin cfg2.N, (cfg2.win 0).index t = ![0, t.val, 0, 0] := by decide +kernel
theorem i1 : ∀ t : Fin cfg2.N, (cfg2.win 1).index t = ![t.val, 0, 0] := by decide +kernel
theorem i2 : ∀ t : Fin cfg2.N, (cfg2.win 2).index t = ![t.val, 0, 0] := by decide +kernel
theorem i3 : ∀ t : Fin cfg2.N, (cfg2.win 3).index t = ![0, 0] ∧ (cfg2.win 4).index t = ![0, 0] ∧ (cfg2.win 5).index t = ![0, 0] ∧ (cfg2.win 6).index t = ![0, 0] ∧ (cfg2.win 7).index t = ![0, 0]
    ∧ (cfg2.win 8).index t = ![0, 0] ∧ (cfg2.win 9).index t = ![0, 0] ∧ (cfg2.win 10).index t = ![0, 0] ∧ (cfg2.win 11).index t = ![0, 0] := by decide +kernel
theorem i12 : ∀ t : Fin cfg2.N, (cfg2.win 12).index t = ![t.val, 0, 0] := by decide +kernel

theorem b0 (c : Dev nD) (t : Fin cfg2.N) (k : Fin 4) (l : Fin 1024) (d : Fin 768) :
    (iblk V c 0 t : Vec Ideal S4x1x1024x768 .f32) (ix4 k 0 l d) = el4 (V c main_v50) k ⟨t.val, t.isLt⟩ l d := by
  blk_ext [iblk, i0 t]
theorem b1 (c : Dev nD) (t : Fin cfg2.N) (l : Fin 1024) (d : Fin 768) :
    (iblk V c 1 t : Vec Ideal S1x1024x768 .f32) (ix3 0 l d) = el3 (V c main_v11_1) ⟨t.val, t.isLt⟩ l d := by
  blk_ext [iblk, i1 t]
theorem b2 (c : Dev nD) (t : Fin cfg2.N) (l : Fin 1024) (d : Fin 384) :
    (iblk V c 2 t : Vec Ideal S1x1024x384 .f32) (ix3 0 l d) = el3 (V c main_v1) ⟨t.val, t.isLt⟩ l d := by
  blk_ext [iblk, i2 t]
theorem b3 (c : Dev nD) (t : Fin cfg2.N) (d : Fin 768) : (iblk V c 3 t : Vec Ideal S1x768 .f32) (ix2 0 d) = el2 (V c main_v51) 0 d := by
  blk_ext [iblk, i3 t]
theorem b4 (c : Dev nD) (t : Fin cfg2.N) (d : Fin 768) : (iblk V c 4 t : Vec Ideal S1x768 .f32) (ix2 0 d) = el2 (V c main_v52) 0 d := by
  blk_ext [iblk, i3 t]
theorem b5 (c : Dev nD) (t : Fin cfg2.N) (e : Fin 768) (d : Fin 384) : (iblk V c 5 t : Vec Ideal S768x384 .f32) (ix2 e d) = el2 (V c main_v53) e d := by
  blk_ext [iblk, i3 t]
theorem b6 (c : Dev nD) (t : Fin cfg2.N) (d : Fin 384) : (iblk V c 6 t : Vec Ideal S1x384 .f32) (ix2 0 d) = el2 (V c main_v54) 0 d := by
  blk_ext [iblk, i3 t]
theorem b7 (c : Dev nD) (t : Fin cfg2.N) (d : Fin 384) : (iblk V c 7 t : Vec Ideal S1x384 .f32) (ix2 0 d) = el2 (V c main_v55) 0 d := by
  blk_ext [iblk, i3 t]
theorem b8 (c : Dev nD) (t : Fin cfg2.N) (e : Fin 384) (d : Fin 1536) : (iblk V c 8 t : Vec Ideal S384x1536 .f32) (ix2 e d) = el2 (V c main_v56) e d := by
  blk_ext [iblk, i3 t]
theorem b9 (c : Dev nD) (t : Fin cfg2.N) (d : Fin 1536) : (iblk V c 9 t : Vec Ideal S1x1536 .f32) (ix2 0 d) = el2 (V c main_v57) 0 d := by
  blk_ext [iblk, i3 t]
theorem b10 (c : Dev nD) (t : Fin cfg2.N) (e : Fin 1536) (d : Fin 384) : (iblk V c 10 t : Vec Ideal S1536x384 .f32) (ix2 e d) = el2 (V c main_v58) e d := by
  blk_ext [iblk, i3 t]
theorem b11 (c : Dev nD) (t : Fin cfg2.N) (d : Fin 384) : (iblk V c 11 t : Vec Ideal S1x384 .f32) (ix2 0 d) = el2 (V c main_v59) 0 d := by
  blk_ext [iblk, i3 t]

/-- The result at an element, of the arrays the region is entered with. -/
def outV (c : Dev nD) (b : Fin 8) (l : Fin 1024) (q : Fin 384) : EReal :=
  mlp (fun d => el2 (V c main_v54) 0 d) (fun d => el2 (V c main_v55) 0 d) (fun e d => el2 (V c main_v56) d e) (fun e => el2 (V c main_v57) 0 e) (fun q e => el2 (V c main_v58) e q) (fun q => el2 (V c main_v59) 0 q)
    (resid (fun d => el2 (V c main_v51) 0 d) (fun d => el2 (V c main_v52) 0 d) (fun q d => el2 (V c main_v53) d q)
      (fun e => el4 (V c main_v50) 0 b l e + el4 (V c main_v50) 2 b l e + (el4 (V c main_v50) 1 b (tr l) e + el4 (V c main_v50) 3 b (tr l) e))
      (fun d => el3 (V c main_v11_1) b l d) (fun q => el3 (V c main_v1) b l q)) q

theorem blk_at (c : Dev nD) (t : Fin cfg2.N) (l : Fin 1024) (q : Fin 384) :
    out2_12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (ix3 0 l q)
      = outV V c ⟨t.val, t.isLt⟩ l q := by
  rw [out_at]
  unfold outV merge
  simp only [b0, b1, b2, b3, b4, b5, b6, b7, b8, b9, b10, b11]

/-- The array after the region. -/
theorem arr (c : Dev nD) : (dats V c).arrAt 12 cfg2.N = (fun i : S8x1024x384.Idx => outV V c (i 0) (i 1) (i 2)) := by
  refine (dats V c).arrAt_eq_of_covers 12 _ (by decide +kernel) fun t hf y => ?_
  blk_simp
  rw [after2_12]
  obtain ⟨l, q, rfl⟩ : ∃ (l : Fin 1024) (q : Fin 384), y = (ix3 (0 : Fin 1) l q : S1x1024x384.Idx) :=
    ⟨y 1, y 2, (eq_ix3 (n0 := 1) (n1 := 1024) (n2 := 384) y).trans (by congr 1; exact Subsingleton.elim (α := Fin 1) _ _)⟩
  refine (blk_at V c t l q).trans ?_
  have e : (win2_12.blk t).view.emb (ix3 (0 : Fin 1) l q : S1x1024x384.Idx) = (ix3 (⟨t.val, t.isLt⟩ : Fin 8) l q : S8x1024x384.Idx) := by blk_ext [i12 t]
  rw [e]
  rfl

end Cert.KernelIdeal.R2
end
-- ==== Proof.Host.lean ====
module

public import proofs.«01_k».proof.Proof.Launch
public import proofs.«01_k».proof.Proof.Spec
public import Idealize.ShloMosaic.Lib.StableHlo.ReadAt
public import Idealize.ShloMosaic.Lib.Pointwise
public import Idealize.ShloMosaic.Lib.Routing.OpsSet

/-! What the kernel's host stretches write, element by element. -/

@[expose] public section
set_option maxRecDepth 16384

noncomputable section

namespace Cert.KernelIdeal.Host'

open Cert.KernelIdeal.Gen Cert.KernelIdeal.Lau
open Idealize.ShloMosaic Idealize.ShloMosaic.TcCoe Idealize.SL.Sem
open Idealize.ShloMosaic.StableHlo (after)
open Cert.Spec (el1 el2 el3 el4)

/-- The taps written over the first nine rows are what is read there. -/
theorem scat (x : Vec Ideal S16x768 .f32) (i : IVec S1 32) (u : Vec Ideal S9x768 .f32) (hi : ∀ j, i j = 0#32) (r : Fin 9) (d : Fin 768) :
    Host.scatter scatter_S16x768_S1_S9x768_01_n_0_0 (fun _ b => b) x i u (ix2 ⟨r.val, by omega⟩ d) = u (ix2 r d) := by
  have hs (k : S9x768.Idx) (a : Fin 2) : scatter_S16x768_S1_S9x768_01_n_0_0.start k i a = 0 := by
    unfold ScatterDims.start
    split
    · rw [hi]; rfl
    · rfl
  have hw (k : S9x768.Idx) (a : Fin 2) : scatter_S16x768_S1_S9x768_01_n_0_0.window k a = (k a).val := by
    match a with
    | 0 => rfl
    | 1 => rfl
  have hl (k : S9x768.Idx) : scatter_S16x768_S1_S9x768_01_n_0_0.resultIdx? k i = some (ix2 (⟨r.val, by omega⟩ : Fin 16) d : S16x768.Idx) ↔ k = ix2 r d := by
    rw [Routing.resultIdx?_eq_some]
    constructor
    · intro h
      have e0 := h 0
      have e1 := h 1
      rw [hs, hw] at e0 e1
      refine (eq_ix2 (n0 := 9) (n1 := 768) k).trans ?_
      rw [show k 0 = r from Fin.ext (by have : ((k 0).val : Int) = (r.val : Int) := by simpa using e0
                                        omega),
        show k 1 = d from Fin.ext (by have : ((k 1).val : Int) = (d.val : Int) := by simpa using e1
                                      omega)]
    · rintro rfl a
      rw [hs, hw, zero_add]
      match a with
      | 0 => rfl
      | 1 => rfl
  exact Routing.scatter_set_hit _ x i u _ _ (fun k hk => by rw [(hl k).1 hk]) (ix2 r d) ((hl _).2 rfl)

/-- A tap's number is its row and its column. -/
theorem tap (f : Fin 3 → Fin 3 → EReal) (r s : Fin 3) : f ⟨(r.val * 3 + s.val) / 3, by omega⟩ ⟨(r.val * 3 + s.val) % 3, by omega⟩ = f r s :=
  congrArg₂ f (Fin.ext (by show (r.val * 3 + s.val) / 3 = r.val; omega)) (Fin.ext (by show (r.val * 3 + s.val) % 3 = s.val; omega))

/-- Two halves of four directions. -/
theorem halves (f : Fin 2 → EReal) (g : Fin 4 → EReal) (a : Fin 2) (h0 : f 0 = g ⟨a.val, by omega⟩) (h1 : f 1 = g ⟨2 + a.val, by omega⟩) (b : Fin 2) : f b = g ⟨a.val + 2 * b.val, by omega⟩ :=
  match b with
  | 0 => h0
  | 1 => h1.trans (congrArg g (Fin.ext (Nat.add_comm 2 a.val)))

variable (V : Valuation τ sig (Elt Ideal))

/-! The first stretch: the picture with its channels last, the first normalization's row, the input projection, the taps and their bias. -/

theorem v1 (b : Fin 8) (l : Fin 1024) (q : Fin 384) : el3 (after hostOps0 V (Proc.devRef .tc main_v1)) b l q = el4 (V (Proc.devRef .tc main_arg0)) b q ⟨l.val / 32, by omega⟩ ⟨l.val % 32, by omega⟩ := by
  after_reads_at; rfl
theorem v7 (d : Fin 384) : el2 (after hostOps0 V (Proc.devRef .tc main_v7)) 0 d = el1 (V (Proc.devRef .tc main_arg1)) d := by after_reads_at; rfl
theorem v8 (d : Fin 384) : el2 (after hostOps0 V (Proc.devRef .tc main_v8)) 0 d = el1 (V (Proc.devRef .tc main_arg2)) d := by after_reads_at; rfl
theorem v9 (e : Fin 384) (d : Fin 1536) : el2 (after hostOps0 V (Proc.devRef .tc main_v9)) e d = el2 (V (Proc.devRef .tc main_arg3)) d e := by
  dsimp only [el2]; after_reads_at
theorem v10 (d : Fin 768) : el2 (after hostOps0 V (Proc.devRef .tc main_v10)) 0 d = el1 (V (Proc.devRef .tc main_arg5)) d := by after_reads_at; rfl
/-- The taps, scattered over zeros. -/
theorem v6 (r s : Fin 3) (d : Fin 768) : el2 (after hostOps0 V (Proc.devRef .tc main_v6)) ⟨r.val * 3 + s.val, by omega⟩ d = el4 (V (Proc.devRef .tc main_arg4)) d 0 r s := by
  dsimp only [el2, el4]
  after_reads_simp
  refine (scat _ _ _ (fun j => rfl) ⟨r.val * 3 + s.val, by omega⟩ d).trans ?_
  pointwise
  exact tap (fun r s => V (Proc.devRef .tc main_arg4) (ix4 d 0 r s)) r s

/-! The second stretch: the four directions' weights, regrouped by orientation and half. -/

theorem v18 (a b : Fin 2) (e : Fin 768) (r : Fin 24) : el4 (after hostOps1 V (Proc.devRef .tc main_v18)) a b e r = el3 (V (Proc.devRef .tc main_arg6)) ⟨a.val + 2 * b.val, by omega⟩ ⟨r.val, by omega⟩ e :=
  halves (fun b' => el4 (after hostOps1 V (Proc.devRef .tc main_v18)) a b' e r) (fun k => el3 (V (Proc.devRef .tc main_arg6)) k ⟨r.val, by omega⟩ e) a (by dsimp only [el4, el3, el2]; after_reads_at; first | done | rfl | (after_reads_at; first | done | rfl)) (by dsimp only [el4, el3, el2]; after_reads_at; first | done | rfl | (after_reads_at; first | done | rfl)) b
theorem v25 (a b : Fin 2) (e : Fin 768) (r : Fin 8) : el4 (after hostOps1 V (Proc.devRef .tc main_v25)) a b e r = el3 (V (Proc.devRef .tc main_arg6)) ⟨a.val + 2 * b.val, by omega⟩ ⟨24 + r.val, by omega⟩ e :=
  halves (fun b' => el4 (after hostOps1 V (Proc.devRef .tc main_v25)) a b' e r) (fun k => el3 (V (Proc.devRef .tc main_arg6)) k ⟨24 + r.val, by omega⟩ e) a (by dsimp only [el4, el3, el2]; after_reads_at; first | done | rfl | (after_reads_at; first | done | rfl)) (by dsimp only [el4, el3, el2]; after_reads_at; first | done | rfl | (after_reads_at; first | done | rfl)) b
theorem v31 (a b : Fin 2) (r : Fin 24) (d : Fin 768) : el4 (after hostOps1 V (Proc.devRef .tc main_v31)) a b r d = el3 (V (Proc.devRef .tc main_arg7)) ⟨a.val + 2 * b.val, by omega⟩ d r :=
  halves (fun b' => el4 (after hostOps1 V (Proc.devRef .tc main_v31)) a b' r d) (fun k => el3 (V (Proc.devRef .tc main_arg7)) k d r) a (by dsimp only [el4, el3, el2]; after_reads_at; first | done | rfl | (after_reads_at; first | done | rfl)) (by dsimp only [el4, el3, el2]; after_reads_at; first | done | rfl | (after_reads_at; first | done | rfl)) b
theorem v37 (a b : Fin 2) (n : Fin 4) (d : Fin 768) : el4 (after hostOps1 V (Proc.devRef .tc main_v37)) a b n d = el3 (V (Proc.devRef .tc main_arg9)) ⟨a.val + 2 * b.val, by omega⟩ d n :=
  halves (fun b' => el4 (after hostOps1 V (Proc.devRef .tc main_v37)) a b' n d) (fun k => el3 (V (Proc.devRef .tc main_arg9)) k d n) a (by dsimp only [el4, el3, el2]; after_reads_at; first | done | rfl | (after_reads_at; first | done | rfl)) (by dsimp only [el4, el3, el2]; after_reads_at; first | done | rfl | (after_reads_at; first | done | rfl)) b
theorem v43 (a b : Fin 2) (d : Fin 768) : el4 (after hostOps1 V (Proc.devRef .tc main_v43)) a b 0 d = el2 (V (Proc.devRef .tc main_arg8)) ⟨a.val + 2 * b.val, by omega⟩ d :=
  halves (fun b' => el4 (after hostOps1 V (Proc.devRef .tc main_v43)) a b' 0 d) (fun k => el2 (V (Proc.devRef .tc main_arg8)) k d) a (by dsimp only [el4, el3, el2]; after_reads_at; first | done | rfl | (after_reads_at; first | done | rfl)) (by dsimp only [el4, el3, el2]; after_reads_at; first | done | rfl | (after_reads_at; first | done | rfl)) b
theorem v49 (a b : Fin 2) (d : Fin 768) : el4 (after hostOps1 V (Proc.devRef .tc main_v49)) a b 0 d = el2 (V (Proc.devRef .tc main_arg10)) ⟨a.val + 2 * b.val, by omega⟩ d :=
  halves (fun b' => el4 (after hostOps1 V (Proc.devRef .tc main_v49)) a b' 0 d) (fun k => el2 (V (Proc.devRef .tc main_arg10)) k d) a (by dsimp only [el4, el3, el2]; after_reads_at; first | done | rfl | (after_reads_at; first | done | rfl)) (by dsimp only [el4, el3, el2]; after_reads_at; first | done | rfl | (after_reads_at; first | done | rfl)) b

/-! The third stretch: the last stage's weights. -/

theorem v51 (d : Fin 768) : el2 (after hostOps2 V (Proc.devRef .tc main_v51)) 0 d = el1 (V (Proc.devRef .tc main_arg11)) d := by after_reads_at; rfl
theorem v52 (d : Fin 768) : el2 (after hostOps2 V (Proc.devRef .tc main_v52)) 0 d = el1 (V (Proc.devRef .tc main_arg12)) d := by after_reads_at; rfl
theorem v53 (d : Fin 768) (q : Fin 384) : el2 (after hostOps2 V (Proc.devRef .tc main_v53)) d q = el2 (V (Proc.devRef .tc main_arg13)) q d := by
  dsimp only [el2]; after_reads_at
theorem v54 (d : Fin 384) : el2 (after hostOps2 V (Proc.devRef .tc main_v54)) 0 d = el1 (V (Proc.devRef .tc main_arg14)) d := by after_reads_at; rfl
theorem v55 (d : Fin 384) : el2 (after hostOps2 V (Proc.devRef .tc main_v55)) 0 d = el1 (V (Proc.devRef .tc main_arg15)) d := by after_reads_at; rfl
theorem v56 (d : Fin 384) (e : Fin 1536) : el2 (after hostOps2 V (Proc.devRef .tc main_v56)) d e = el2 (V (Proc.devRef .tc main_arg16)) e d := by
  dsimp only [el2]; after_reads_at
theorem v57 (e : Fin 1536) : el2 (after hostOps2 V (Proc.devRef .tc main_v57)) 0 e = el1 (V (Proc.devRef .tc main_arg17)) e := by after_reads_at; rfl
theorem v58 (e : Fin 1536) (q : Fin 384) : el2 (after hostOps2 V (Proc.devRef .tc main_v58)) e q = el2 (V (Proc.devRef .tc main_arg18)) q e := by
  dsimp only [el2]; after_reads_at
theorem v59 (q : Fin 384) : el2 (after hostOps2 V (Proc.devRef .tc main_v59)) 0 q = el1 (V (Proc.devRef .tc main_arg19)) q := by after_reads_at; rfl

/-- The result is the last region's array, its rows split in two coordinates. -/
theorem v61 (b : Fin 8) (h w : Fin 32) (q : Fin 384) : el4 (after hostOps3 V (Proc.devRef .tc main_v61)) b h w q = el3 (V (Proc.devRef .tc main_v60)) b (Cert.Spec.pos h w) q := by
  after_reads_at
  rfl

end Cert.KernelIdeal.Host'
end
-- ==== Proof.Value.lean ====
module

public import proofs.«01_k».proof.Proof.Run
public import proofs.«01_k».proof.Proof.PreV
public import proofs.«01_k».proof.Proof.ScanV
public import proofs.«01_k».proof.Proof.PostV
public import proofs.«01_k».proof.Proof.Host

/-! The kernel's result at an element: the specification's. -/

@[expose] public section
set_option maxRecDepth 16384

noncomputable section

namespace Cert.KernelIdeal.Run

open Cert.KernelIdeal.Gen Cert.KernelIdeal.Lau
open Idealize.ShloMosaic Idealize.ShloMosaic.TcCoe Idealize.SL.Sem
open Idealize.ShloMosaic.StableHlo (after)
open Cert.Spec (Args inp px pic flat gate res merged fl tr at' pos el1 el2 el3 el4)

variable (m : (ℓ : Loc nD τ sig) → Buf (Elt Ideal) ℓ) (c : Dev nD)

/-- The arguments' elements. -/
def A : Args where
  x := fun b q i j => el4 (m (c, Proc.devRef .tc main_arg0)) b q i j
  g1 := fun i => el1 (m (c, Proc.devRef .tc main_arg1)) i
  b1 := fun i => el1 (m (c, Proc.devRef .tc main_arg2)) i
  wIn := fun e i => el2 (m (c, Proc.devRef .tc main_arg3)) e i
  cw := fun d i j => el4 (m (c, Proc.devRef .tc main_arg4)) d 0 i j
  cb := fun d => el1 (m (c, Proc.devRef .tc main_arg5)) d
  wX := fun k e d => el3 (m (c, Proc.devRef .tc main_arg6)) k e d
  wDt := fun k d r => el3 (m (c, Proc.devRef .tc main_arg7)) k d r
  bDt := fun k d => el2 (m (c, Proc.devRef .tc main_arg8)) k d
  aLog := fun k d n => el3 (m (c, Proc.devRef .tc main_arg9)) k d n
  ds := fun k d => el2 (m (c, Proc.devRef .tc main_arg10)) k d
  gO := fun d => el1 (m (c, Proc.devRef .tc main_arg11)) d
  bO := fun d => el1 (m (c, Proc.devRef .tc main_arg12)) d
  wO := fun i d => el2 (m (c, Proc.devRef .tc main_arg13)) i d
  g2 := fun i => el1 (m (c, Proc.devRef .tc main_arg14)) i
  b2 := fun i => el1 (m (c, Proc.devRef .tc main_arg15)) i
  w1 := fun e i => el2 (m (c, Proc.devRef .tc main_arg16)) e i
  c1 := fun e => el1 (m (c, Proc.devRef .tc main_arg17)) e
  w2 := fun i e => el2 (m (c, Proc.devRef .tc main_arg18)) i e
  c2 := fun i => el1 (m (c, Proc.devRef .tc main_arg19)) i

/-! What each item leaves alone. -/

theorem keep1 {r : Ref sig .tc} (h : r ∉ hostOps0_W) : W1 m c (Proc.devRef .tc r) = W0 m c (Proc.devRef .tc r) := StableHlo.after_of_writes_sub hostOps0 _ hostOps0_writes h
theorem keep2 {r : Ref sig .tc} (o : ∀ w, Pipeline.arrRef spec0 w = r → (cfg0.win w).isOut = false) : W2 m c (Proc.devRef .tc r) = W1 m c (Proc.devRef .tc r) :=
  Pipeline.afterRegion_keeps (D0 m c) (W1 m c) winFacts0.arr_inj (fun w => entered0 m c w) r o
theorem keep3 {r : Ref sig .tc} (h : r ∉ hostOps1_W) : W3 m c (Proc.devRef .tc r) = W2 m c (Proc.devRef .tc r) := StableHlo.after_of_writes_sub hostOps1 _ hostOps1_writes h
theorem keep4 {r : Ref sig .tc} (o : ∀ w, Pipeline.arrRef spec1 w = r → (cfg1.win w).isOut = false) : W4 m c (Proc.devRef .tc r) = W3 m c (Proc.devRef .tc r) :=
  Pipeline.afterRegion_keeps (D1 m c) (W3 m c) winFacts1.arr_inj (fun w => entered1 m c w) r o
theorem keep5 {r : Ref sig .tc} (h : r ∉ hostOps2_W) : W5 m c (Proc.devRef .tc r) = W4 m c (Proc.devRef .tc r) := StableHlo.after_of_writes_sub hostOps2 _ hostOps2_writes h

theorem arg2 {r : Ref sig .tc} (hr : r ∈ args) : W2 m c (Proc.devRef .tc r) = m (c, Proc.devRef .tc r) := by
  have h : ∀ r ∈ args, r ∉ hostOps0_W ∧ (∀ w, Pipeline.arrRef spec0 w = r → (cfg0.win w).isOut = false) := by decide
  rw [keep2 m c (h r hr).2, keep1 m c (h r hr).1]; rfl
theorem arg4 {r : Ref sig .tc} (hr : r ∈ args) : W4 m c (Proc.devRef .tc r) = m (c, Proc.devRef .tc r) := by
  have h : ∀ r ∈ args, r ∉ hostOps1_W ∧ (∀ w, Pipeline.arrRef spec1 w = r → (cfg1.win w).isOut = false) := by decide
  rw [keep4 m c (h r hr).2, keep3 m c (h r hr).1, arg2 m c hr]

/-! The first region. -/

theorem x_at (b : Fin 8) (l : Fin 1024) (q : Fin 384) : el3 (V0 m c main_v1) b l q = (A m c).x b q ⟨l.val / 32, by omega⟩ ⟨l.val % 32, by omega⟩ := Host'.v1 (W0 m c) b l q

theorem proj_eq (b : Fin 8) (l : Fin 1024) (e : Fin 1536) : R0.projV (V0 m) c b l e = px (A m c) b ⟨l.val / 32, by omega⟩ ⟨l.val % 32, by omega⟩ e := by
  have h7 (q : Fin 384) : el2 (V0 m c main_v7) 0 q = (A m c).g1 q := Host'.v7 (W0 m c) q
  have h8 (q : Fin 384) : el2 (V0 m c main_v8) 0 q = (A m c).b1 q := Host'.v8 (W0 m c) q
  have h9 (e : Fin 1536) (q : Fin 384) : el2 (V0 m c main_v9) q e = (A m c).wIn e q := Host'.v9 (W0 m c) q e
  unfold R0.projV px
  simp only [h7, h8, h9, x_at]

theorem proj_pos (b : Fin 8) (i j : Fin 32) (e : Fin 1536) : R0.projV (V0 m) c b (pos i j) e = px (A m c) b i j e := by
  rw [proj_eq]
  refine congrArg₂ (fun i j => px (A m c) b i j e) (Fin.ext ?_) (Fin.ext ?_)
  · show (i.val * 32 + j.val) / 32 = i.val; omega
  · show (i.val * 32 + j.val) % 32 = j.val; omega

theorem pic_eq (b : Fin 8) (d : Fin 768) (i j : Fin 32) : R0.picV (V0 m) c b d i j = pic (A m c) b d i j := by
  have h6 (r s : Fin 3) : el2 (V0 m c main_v6) ⟨r.val * 3 + s.val, by omega⟩ d = (A m c).cw d r s := Host'.v6 (W0 m c) r s d
  have h10 : el2 (V0 m c main_v10) 0 d = (A m c).cb d := Host'.v10 (W0 m c) d
  unfold R0.picV pic
  simp only [proj_pos, h6, h10]

/-- The pictures the scan reads. -/
theorem flat_eq (k : Fin 2) (b : Fin 8) (l : Fin 1024) (d : Fin 768) : el4 (W2 m c (Proc.devRef .tc main_v11_0)) k b l d = flat (A m c) k b l d := by
  have h : W2 m c (Proc.devRef .tc main_v11_0) = (D0 m c).arrAt 6 cfg0.N := Pipeline.afterRegion_arr (D0 m c) (W1 m c) winFacts0.arr_inj 6
  have h' := h.trans (R0.arr6 (V0 m) c)
  rw [h']
  show R0.flatV (V0 m) c k b l d = _
  unfold R0.flatV flat
  simp only [pic_eq]

/-- The gate. -/
theorem gate_eq (b : Fin 8) (l : Fin 1024) (d : Fin 768) : el3 (W2 m c (Proc.devRef .tc main_v11_1)) b l d = gate (A m c) b ⟨l.val / 32, by omega⟩ ⟨l.val % 32, by omega⟩ d := by
  have h : W2 m c (Proc.devRef .tc main_v11_1) = (D0 m c).arrAt 7 cfg0.N := Pipeline.afterRegion_arr (D0 m c) (W1 m c) winFacts0.arr_inj 7
  have h' := h.trans (R0.arr7 (V0 m) c)
  rw [h']
  exact proj_eq m c b l _

/-! The second region. -/

theorem entered : R1.Entered (V1 m) (A m c) c where
  xs := fun k b l d => (congrArg (fun f => el4 f k b l d) (keep3 m c (r := main_v11_0) (by decide))).trans (flat_eq m c k b l d)
  w1 := fun a b e r => (Host'.v18 (W2 m c) a b e r).trans (by rw [arg2 m c (r := main_arg6) (by decide)]; rfl)
  w2 := fun a b e r => (Host'.v25 (W2 m c) a b e r).trans (by rw [arg2 m c (r := main_arg6) (by decide)]; rfl)
  w3 := fun a b r d => (Host'.v31 (W2 m c) a b r d).trans (by rw [arg2 m c (r := main_arg7) (by decide)]; rfl)
  w4 := fun a b d => (Host'.v43 (W2 m c) a b d).trans (by rw [arg2 m c (r := main_arg8) (by decide)]; rfl)
  w5 := fun a b n d => (Host'.v37 (W2 m c) a b n d).trans (by rw [arg2 m c (r := main_arg9) (by decide)]; rfl)
  w6 := fun a b d => (Host'.v49 (W2 m c) a b d).trans (by rw [arg2 m c (r := main_arg10) (by decide)]; rfl)

/-- The directions' results. -/
theorem res_eq (k : Fin 4) (b : Fin 8) (p : Fin 1024) (d : Fin 768) : el4 (V2 m c main_v50) k b p d = res (A m c) k b (at' k p) d := by
  have h : W4 m c (Proc.devRef .tc main_v50) = (D1 m c).arrAt 7 cfg1.N := Pipeline.afterRegion_arr (D1 m c) (W3 m c) winFacts1.arr_inj 7
  have h' : V2 m c main_v50 = _ := (keep5 m c (r := main_v50) (by decide)).trans (h.trans (R1.arr (V1 m) (entered m c)))
  rw [h']
  rfl

theorem gate2_eq (b : Fin 8) (l : Fin 1024) (d : Fin 768) : el3 (V2 m c main_v11_1) b l d = gate (A m c) b ⟨l.val / 32, by omega⟩ ⟨l.val % 32, by omega⟩ d := by
  have h : V2 m c main_v11_1 = W2 m c (Proc.devRef .tc main_v11_1) := (keep5 m c (r := main_v11_1) (by decide)).trans ((keep4 m c (by decide)).trans (keep3 m c (by decide)))
  rw [h]
  exact gate_eq m c b l d

theorem x2_eq (b : Fin 8) (l : Fin 1024) (q : Fin 384) : el3 (V2 m c main_v1) b l q = (A m c).x b q ⟨l.val / 32, by omega⟩ ⟨l.val % 32, by omega⟩ := by
  have h : V2 m c main_v1 = V0 m c main_v1 := (keep5 m c (r := main_v1) (by decide)).trans ((keep4 m c (by decide)).trans ((keep3 m c (by decide)).trans (keep2 m c (by decide))))
  rw [h]
  exact x_at m c b l q

/-! The third region. -/

theorem out_eq (b : Fin 8) (l : Fin 1024) (q : Fin 384) :
    R2.outV (V2 m) c b l q = Cert.Spec.post (A m c) (merged (A m c) b l) (gate (A m c) b ⟨l.val / 32, by omega⟩ ⟨l.val % 32, by omega⟩) (fun q => (A m c).x b q ⟨l.val / 32, by omega⟩ ⟨l.val % 32, by omega⟩) q := by
  have h51 (d : Fin 768) : el2 (V2 m c main_v51) 0 d = (A m c).gO d := (Host'.v51 (W4 m c) d).trans (by rw [arg4 m c (r := main_arg11) (by decide)]; rfl)
  have h52 (d : Fin 768) : el2 (V2 m c main_v52) 0 d = (A m c).bO d := (Host'.v52 (W4 m c) d).trans (by rw [arg4 m c (r := main_arg12) (by decide)]; rfl)
  have h53 (q : Fin 384) (d : Fin 768) : el2 (V2 m c main_v53) d q = (A m c).wO q d := (Host'.v53 (W4 m c) d q).trans (by rw [arg4 m c (r := main_arg13) (by decide)]; rfl)
  have h54 (d : Fin 384) : el2 (V2 m c main_v54) 0 d = (A m c).g2 d := (Host'.v54 (W4 m c) d).trans (by rw [arg4 m c (r := main_arg14) (by decide)]; rfl)
  have h55 (d : Fin 384) : el2 (V2 m c main_v55) 0 d = (A m c).b2 d := (Host'.v55 (W4 m c) d).trans (by rw [arg4 m c (r := main_arg15) (by decide)]; rfl)
  have h56 (e : Fin 1536) (d : Fin 384) : el2 (V2 m c main_v56) d e = (A m c).w1 e d := (Host'.v56 (W4 m c) d e).trans (by rw [arg4 m c (r := main_arg16) (by decide)]; rfl)
  have h57 (e : Fin 1536) : el2 (V2 m c main_v57) 0 e = (A m c).c1 e := (Host'.v57 (W4 m c) e).trans (by rw [arg4 m c (r := main_arg17) (by decide)]; rfl)
  have h58 (q : Fin 384) (e : Fin 1536) : el2 (V2 m c main_v58) e q = (A m c).w2 q e := (Host'.v58 (W4 m c) e q).trans (by rw [arg4 m c (r := main_arg18) (by decide)]; rfl)
  have h59 (q : Fin 384) : el2 (V2 m c main_v59) 0 q = (A m c).c2 q := (Host'.v59 (W4 m c) q).trans (by rw [arg4 m c (r := main_arg19) (by decide)]; rfl)
  have hm : (fun e => el4 (V2 m c main_v50) 0 b l e + el4 (V2 m c main_v50) 2 b l e + (el4 (V2 m c main_v50) 1 b (tr l) e + el4 (V2 m c main_v50) 3 b (tr l) e)) = merged (A m c) b l := by
    funext e
    rw [res_eq, res_eq, res_eq, res_eq]
    rfl
  unfold R2.outV Cert.Spec.post
  rw [hm]
  simp only [h51, h52, h53, h54, h55, h56, h57, h58, h59, gate2_eq, x2_eq]

/-- The kernel's result. -/
theorem value (b : Fin 8) (h w : Fin 32) (q : Fin 384) : el4 (W7 m c (Proc.devRef .tc main_v61)) b h w q = Cert.Spec.out (A m c) b h w q := by
  have e : W6 m c (Proc.devRef .tc main_v60) = (D2 m c).arrAt 12 cfg2.N := Pipeline.afterRegion_arr (D2 m c) (W5 m c) winFacts2.arr_inj 12
  have e' := e.trans (R2.arr (V2 m) c)
  refine (Host'.v61 (W6 m c) b h w q).trans ?_
  rw [e']
  refine (out_eq m c b (pos h w) q).trans ?_
  have hh : (⟨(pos h w).val / 32, by omega⟩ : Fin 32) = h := Fin.ext (by show (h.val * 32 + w.val) / 32 = h.val; omega)
  have hw : (⟨(pos h w).val % 32, by omega⟩ : Fin 32) = w := Fin.ext (by show (h.val * 32 + w.val) % 32 = w.val; omega)
  rw [hh, hw]
  rfl

end Cert.KernelIdeal.Run
end
-- ==== Proof.RefPre.lean ====
module

public import proofs.«01_k».proof.Proof.Ref
public import proofs.«01_k».proof.Proof.Spec
public import Idealize.ShloMosaic.Lib.Pointwise
public import Idealize.ShloMosaic.Lib.StableHlo.ReadAt

/-! The reference's stretches before the scan, at an element. -/

@[expose] public section
set_option maxRecDepth 16384

noncomputable section

namespace Cert.ReferenceIdeal.Ref

open Cert.ReferenceIdeal.Gen Cert.ReferenceIdeal.Value
open Idealize.ShloMosaic Idealize.ShloMosaic.TcCoe Idealize.SL.Sem Idealize.ShloMosaic.StableHlo
open Cert.Spec (mean ln silu inp pad conv softplus fl el1 el2 el3 el4 el5)

variable (V : Valuation τ sig (Elt Ideal))

theorem p0x (b : Fin 8) (h w : Fin 32) (c : Fin 384) :
    el4 (after hostOps0 V (Proc.devRef .tc main_v0)) b h w c = el4 (V (Proc.devRef .tc main_arg0)) b c h w := by
  after_reads_at

theorem p0p (b : Fin 8) (h w : Fin 32) (e : Fin 1536) :
    el4 (after hostOps0 V (Proc.devRef .tc main_v25)) b h w e
      = inp (fun c => el1 (V (Proc.devRef .tc main_arg1)) c) (fun c => el1 (V (Proc.devRef .tc main_arg2)) c) (fun e c => el2 (V (Proc.devRef .tc main_arg3)) e c)
          (fun c => el4 (V (Proc.devRef .tc main_arg0)) b c h w) e := by
  dsimp only [el1, el2, el3, el4]
  after_reads_at
  unfold inp ln mean
  rfl

theorem p0z (b : Fin 8) (h w : Fin 32) (d : Fin 768) :
    el4 (after hostOps0 V (Proc.devRef .tc main_v27)) b h w d = inp (fun c => el1 (V (Proc.devRef .tc main_arg1)) c) (fun c => el1 (V (Proc.devRef .tc main_arg2)) c) (fun e c => el2 (V (Proc.devRef .tc main_arg3)) e c)
          (fun c => el4 (V (Proc.devRef .tc main_arg0)) b c h w) ⟨768 + d.val, by omega⟩ := by
  dsimp only [el1, el2, el3, el4]
  after_reads_at
  unfold inp ln mean
  rfl

theorem p0u (b : Fin 8) (h w : Fin 32) (d : Fin 768) :
    el4 (after hostOps0 V (Proc.devRef .tc main_v28)) b d h w = inp (fun c => el1 (V (Proc.devRef .tc main_arg1)) c) (fun c => el1 (V (Proc.devRef .tc main_arg2)) c) (fun e c => el2 (V (Proc.devRef .tc main_arg3)) e c)
          (fun c => el4 (V (Proc.devRef .tc main_arg0)) b c h w) ⟨d.val, by omega⟩ := by
  dsimp only [el1, el2, el3, el4]
  after_reads_at
  unfold inp ln mean
  rfl

theorem p2 (b : Fin 8) (h w : Fin 32) (d : Fin 768) :
    el4 (after hostOps0_2 V (Proc.devRef .tc main_v96)) b d h w
      = conv (fun i j => el4 (V (Proc.devRef .tc main_v29)) b d (Fin.ofNat 34 i) (Fin.ofNat 34 j)) (fun i j => el4 (V (Proc.devRef .tc main_arg4)) d 0 i j) (el1 (V (Proc.devRef .tc main_arg5)) d) h w := by
  after_reads_at
  unfold conv
  have e (i : Fin 32) (n : ℕ) (hn : n < 3) : Fin.ofNat 34 (i.val + n) = ⟨n + i.val, by omega⟩ := Fin.ext (by show (i.val + n) % 34 = n + i.val; omega)
  have e0 (i : Fin 32) : Fin.ofNat 34 i.val = ⟨i.val, by omega⟩ := Fin.ext (by show i.val % 34 = i.val; omega)
  simp only [e _ 1 (by omega), e _ 2 (by omega), e0]

theorem p3 (b : Fin 8) (h w : Fin 32) (d : Fin 768) :
    el4 (after hostOps0_3 V (Proc.devRef .tc main_v97)) b d h w = silu (el4 (V (Proc.devRef .tc main_v96)) b d h w) := by
  after_reads_at
  unfold silu Ideal.logistic
  rfl

theorem p4a (b : Fin 8) (d : Fin 768) (l : Fin 1024) :
    el3 (after hostOps0_4 V (Proc.devRef .tc main_v98)) b d l = el4 (V (Proc.devRef .tc main_v97)) b d ⟨l.val / 32, by omega⟩ ⟨l.val % 32, by omega⟩ := by
  after_reads_at
  rfl

theorem p4b (b : Fin 8) (d : Fin 768) (l : Fin 1024) :
    el3 (after hostOps0_4 V (Proc.devRef .tc main_v100)) b d l = el4 (V (Proc.devRef .tc main_v97)) b d ⟨l.val % 32, by omega⟩ ⟨l.val / 32, by omega⟩ := by
  after_reads_at
  rfl

theorem p5 (b : Fin 8) (d : Fin 768) (l : Fin 1024) :
    el3 (after hostOps0_5 V (Proc.devRef .tc main_v101)) b d l = el3 (V (Proc.devRef .tc main_v98)) b d (fl l) := by
  after_reads_at
  simp [fl]

theorem p6 (b : Fin 8) (d : Fin 768) (l : Fin 1024) :
    el3 (after hostOps0_6 V (Proc.devRef .tc main_v102)) b d l = el3 (V (Proc.devRef .tc main_v100)) b d (fl l) := by
  after_reads_at
  simp [fl]

theorem p7u (b : Fin 8) (k : Fin 4) (d : Fin 768) (t : Fin 1024) :
    el4 (after hostOps0_7 V (Proc.devRef .tc main_v107)) b k d t
      = ![el3 (V (Proc.devRef .tc main_v98)) b d t, el3 (V (Proc.devRef .tc main_v100)) b d t, el3 (V (Proc.devRef .tc main_v101)) b d t, el3 (V (Proc.devRef .tc main_v102)) b d t] k := by
  have h0 : el4 (after hostOps0_7 V (Proc.devRef .tc main_v107)) b 0 d t = el3 (V (Proc.devRef .tc main_v98)) b d t := by
    after_reads_at
    after_reads_at
  have h1 : el4 (after hostOps0_7 V (Proc.devRef .tc main_v107)) b 1 d t = el3 (V (Proc.devRef .tc main_v100)) b d t := by
    after_reads_at
    after_reads_at
  have h2 : el4 (after hostOps0_7 V (Proc.devRef .tc main_v107)) b 2 d t = el3 (V (Proc.devRef .tc main_v101)) b d t := by
    after_reads_at
    after_reads_at
  have h3 : el4 (after hostOps0_7 V (Proc.devRef .tc main_v107)) b 3 d t = el3 (V (Proc.devRef .tc main_v102)) b d t := by
    after_reads_at
    after_reads_at
  match k with
  | 0 => exact h0
  | 1 => exact h1
  | 2 => exact h2
  | 3 => exact h3

/-- The scan's parameters at a step. -/
theorem p7e (b : Fin 8) (k : Fin 4) (e : Fin 32) (t : Fin 1024) :
    el4 (after hostOps0_7 V (Proc.devRef .tc main_v109)) b k e t
      = ∑ d, el3 (V (Proc.devRef .tc main_arg6)) k e d * el4 (after hostOps0_7 V (Proc.devRef .tc main_v107)) b k d t := by
  after_reads_at
theorem p7b (b : Fin 8) (k : Fin 4) (n : Fin 4) (t : Fin 1024) :
    el4 (after hostOps0_7 V (Proc.devRef .tc main_v111)) b k n t = el4 (after hostOps0_7 V (Proc.devRef .tc main_v109)) b k ⟨24 + n.val, by omega⟩ t := by
  after_reads_at
theorem p7c (b : Fin 8) (k : Fin 4) (n : Fin 4) (t : Fin 1024) :
    el4 (after hostOps0_7 V (Proc.devRef .tc main_v112)) b k n t = el4 (after hostOps0_7 V (Proc.devRef .tc main_v109)) b k ⟨28 + n.val, by omega⟩ t := by
  after_reads_at
theorem p7d (b : Fin 8) (k : Fin 4) (d : Fin 768) (t : Fin 1024) :
    el4 (after hostOps0_7 V (Proc.devRef .tc main_v117)) b k d t
      = (∑ r : Fin 24, el3 (V (Proc.devRef .tc main_arg7)) k d r * el4 (after hostOps0_7 V (Proc.devRef .tc main_v109)) b k ⟨r.val, by omega⟩ t) + el2 (V (Proc.devRef .tc main_arg8)) k d := by
  after_reads_at

theorem p8 (b : Fin 8) (k : Fin 4) (d : Fin 768) (t : Fin 1024) :
    el4 (after hostOps0_8 V (Proc.devRef .tc main_v118)) b k d t = softplus (el4 (V (Proc.devRef .tc main_v117)) b k d t) := by
  after_reads_at
  unfold softplus
  rw [if_neg (fun h => h rfl)]
  rfl

theorem p1 (b : Fin 8) (i j : Fin 34) (d : Fin 768) (hc : V (Proc.devRef .tc main_c) = constantI S_ 32 0#32) :
    el4 (after hostOps0_1 V (Proc.devRef .tc main_v29)) b d i j = Spec.pad (fun h w => el4 (V (Proc.devRef .tc main_v28)) b d h w) i j := by
  after_reads_at
  rw [hc]
  unfold Spec.pad
  have z : FloatOps.sitofp (F := Ideal) FTy.f32 (constantI S_ 32 0#32 (Shape.Idx.first h_S_)) = 0 := by
    show ((((0#32 : BitVec 32).toInt : ℝ)) : EReal) = 0
    simp
  rw [z]
  by_cases h : (1 ≤ i.val ∧ i.val - 1 < 32) ∧ 1 ≤ j.val ∧ j.val - 1 < 32
  · rw [dif_pos h, dif_pos (by omega)]
  · rw [dif_neg h, dif_neg (by omega)]

theorem p0c : after hostOps0 V (Proc.devRef .tc main_c) = constantI S_ 32 0#32 := by
  after_reads_simp

theorem p9a (k : Fin 4) (d : Fin 768) (n : Fin 4) :
    el3 (after hostOps0_9 V (Proc.devRef .tc main_v127_4)) k d n = -Ideal.exp (el3 (V (Proc.devRef .tc main_arg9)) k d n) := by
  dsimp only [el1, el2, el3, el4]
  after_reads_simp
  simp only [id_eq]
  pointwise
theorem p9dt (t : Fin 1024) (b : Fin 8) (k : Fin 4) (d : Fin 768) :
    el4 (after hostOps0_9 V (Proc.devRef .tc main_v127_0)) t b k d = el4 (V (Proc.devRef .tc main_v118)) b k d t := by
  dsimp only [el1, el2, el3, el4]
  after_reads_simp
  simp only [id_eq]
  pointwise
theorem p9u (t : Fin 1024) (b : Fin 8) (k : Fin 4) (d : Fin 768) :
    el4 (after hostOps0_9 V (Proc.devRef .tc main_v127_1)) t b k d = el4 (V (Proc.devRef .tc main_v107)) b k d t := by
  dsimp only [el1, el2, el3, el4]
  after_reads_simp
  simp only [id_eq]
  pointwise
theorem p9b (t : Fin 1024) (b : Fin 8) (k : Fin 4) (n : Fin 4) :
    el4 (after hostOps0_9 V (Proc.devRef .tc main_v127_2)) t b k n = el4 (V (Proc.devRef .tc main_v111)) b k n t := by
  dsimp only [el1, el2, el3, el4]
  after_reads_simp
  simp only [id_eq]
  pointwise
theorem p9c (t : Fin 1024) (b : Fin 8) (k : Fin 4) (n : Fin 4) :
    el4 (after hostOps0_9 V (Proc.devRef .tc main_v127_3)) t b k n = el4 (V (Proc.devRef .tc main_v112)) b k n t := by
  dsimp only [el1, el2, el3, el4]
  after_reads_simp
  simp only [id_eq]
  pointwise
theorem p9h (b : Fin 8) (k : Fin 4) (d : Fin 768) (n : Fin 4) :
    el4 (after hostOps0_9 V (Proc.devRef .tc main_v127_6)) b k d n = 0 := by
  dsimp only [el1, el2, el3, el4]
  after_reads_simp
  simp only [id_eq]
  pointwise
theorem p9i : after hostOps0_9 V (Proc.devRef .tc main_v127_5) = constantI S_ 32 0#32 := by
  after_reads_simp
  rfl

end Cert.ReferenceIdeal.Ref
end
-- ==== Proof.RefPost.lean ====
module

public import proofs.«01_k».proof.Proof.Ref
public import proofs.«01_k».proof.Proof.Spec
public import Idealize.ShloMosaic.Lib.Pointwise
public import Idealize.ShloMosaic.Lib.StableHlo.ReadAt

/-! The reference's stretches after the scan, at an element. -/

@[expose] public section
set_option maxRecDepth 16384

noncomputable section

namespace Cert.ReferenceIdeal.Ref

open Cert.ReferenceIdeal.Gen Cert.ReferenceIdeal.Value
open Idealize.ShloMosaic Idealize.ShloMosaic.TcCoe Idealize.SL.Sem Idealize.ShloMosaic.StableHlo
open Cert.Spec (mean ln silu gelu resid hid mlp fl tr pos el1 el2 el3 el4 el5)

variable (V : Valuation τ sig (Elt Ideal))

/-- A reference's contents under a valuation. -/
theorem s10 (b : Fin 8) (k : Fin 4) (d : Fin 768) (t : Fin 1024) :
    el4 (after hostOps0_10 V (Proc.devRef .tc main_v132)) b k d t
      = el4 (V (Proc.devRef .tc main_v127_7)) t b k d + el4 (V (Proc.devRef .tc main_v107)) b k d t * el2 (V (Proc.devRef .tc main_arg10)) k d := by
  after_reads_at

theorem s10' (b : Fin 8) (k : Fin 2) (d : Fin 768) (t : Fin 1024) :
    el4 (after hostOps0_10 V (Proc.devRef .tc main_v133)) b k d t
      = el4 (after hostOps0_10 V (Proc.devRef .tc main_v132)) b ⟨2 + k.val, by omega⟩ d t := by
  after_reads_at

theorem s11 (b : Fin 8) (k : Fin 2) (d : Fin 768) (t : Fin 1024) :
    el4 (after hostOps0_11 V (Proc.devRef .tc main_v134)) b k d t = el4 (V (Proc.devRef .tc main_v133)) b k d (fl t) := by
  after_reads_at
  simp [fl]

theorem s12 (b : Fin 8) (h w : Fin 32) (d : Fin 768) :
    el4 (after hostOps0_12 V (Proc.devRef .tc main_v177)) b h w d
      = ln 0x44400000#32 (fun d => el4 (V (Proc.devRef .tc main_v132)) b 0 d (pos h w) + el4 (V (Proc.devRef .tc main_v134)) b 0 d (pos h w)
          + el4 (V (Proc.devRef .tc main_v132)) b 1 d (tr (pos h w)) + el4 (V (Proc.devRef .tc main_v134)) b 1 d (tr (pos h w)))
          (fun d => el1 (V (Proc.devRef .tc main_arg11)) d) (fun d => el1 (V (Proc.devRef .tc main_arg12)) d) d := by
  after_reads_at
  unfold ln mean pos tr
  rfl

theorem s13 (b : Fin 8) (h w : Fin 32) (d : Fin 768) :
    el4 (after hostOps0_13 V (Proc.devRef .tc main_v178)) b h w d = silu (el4 (V (Proc.devRef .tc main_v27)) b h w d) := by
  after_reads_at
  unfold silu Ideal.logistic
  rfl

theorem s14a (b : Fin 8) (h w : Fin 32) (c : Fin 384) :
    el4 (after hostOps0_14 V (Proc.devRef .tc main_v181)) b h w c
      = el4 (V (Proc.devRef .tc main_v0)) b h w c + ∑ d, el4 (V (Proc.devRef .tc main_v177)) b h w d * el4 (V (Proc.devRef .tc main_v178)) b h w d * el2 (V (Proc.devRef .tc main_arg13)) c d := by
  after_reads_at

theorem s14 (b : Fin 8) (h w : Fin 32) (c : Fin 384) :
    el4 (after hostOps0_14 V (Proc.devRef .tc main_v227)) b h w c
      = mlp (fun d => el1 (V (Proc.devRef .tc main_arg14)) d) (fun d => el1 (V (Proc.devRef .tc main_arg15)) d) (fun e d => el2 (V (Proc.devRef .tc main_arg16)) e d)
          (fun e => el1 (V (Proc.devRef .tc main_arg17)) e) (fun c e => el2 (V (Proc.devRef .tc main_arg18)) c e) (fun c => el1 (V (Proc.devRef .tc main_arg19)) c)
          (fun c => el4 (V (Proc.devRef .tc main_v0)) b h w c + ∑ d, el4 (V (Proc.devRef .tc main_v177)) b h w d * el4 (V (Proc.devRef .tc main_v178)) b h w d * el2 (V (Proc.devRef .tc main_arg13)) c d) c := by
  after_reads_at
  unfold mlp hid ln mean gelu
  simp only [mul_assoc]

end Cert.ReferenceIdeal.Ref
end
-- ==== Proof.RefScan.lean ====
module

public import proofs.«01_k».proof.Proof.RefPre
public import proofs.«01_k».proof.Proof.RefPost
public import Idealize.ShloMosaic.Lib.WordCmp

/-! The reference at an element: the stretches before the scan composed, the scan's trips, and the result. -/

@[expose] public section
set_option maxRecDepth 16384

noncomputable section

namespace Cert.ReferenceIdeal.Ref

open Cert.ReferenceIdeal.Gen Cert.ReferenceIdeal.Value
open Idealize.ShloMosaic Idealize.ShloMosaic.TcCoe Idealize.SL.Sem Idealize.ShloMosaic.StableHlo
open Cert.Spec (el1 el2 el3 el4 el5 mean ln silu inp conv px pic gate flat at' useq softplus dbl delta next state res merged out fl tr pos)

variable (m : (ℓ : Loc nD τ sig) → Buf (Elt Ideal) ℓ) (c : Dev nD)

/-- The arguments' elements. -/
def A : Cert.Spec.Args where
  x := fun b q i j => el4 (m (c, Proc.devRef .tc main_arg0)) b q i j
  g1 := fun i => el1 (m (c, Proc.devRef .tc main_arg1)) i
  b1 := fun i => el1 (m (c, Proc.devRef .tc main_arg2)) i
  wIn := fun e i => el2 (m (c, Proc.devRef .tc main_arg3)) e i
  cw := fun d i j => el4 (m (c, Proc.devRef .tc main_arg4)) d 0 i j
  cb := fun d => el1 (m (c, Proc.devRef .tc main_arg5)) d
  wX := fun k e d => el3 (m (c, Proc.devRef .tc main_arg6)) k e d
  wDt := fun k d r => el3 (m (c, Proc.devRef .tc main_arg7)) k d r
  bDt := fun k d => el2 (m (c, Proc.devRef .tc main_arg8)) k d
  aLog := fun k d n => el3 (m (c, Proc.devRef .tc main_arg9)) k d n
  ds := fun k d => el2 (m (c, Proc.devRef .tc main_arg10)) k d
  gO := fun d => el1 (m (c, Proc.devRef .tc main_arg11)) d
  bO := fun d => el1 (m (c, Proc.devRef .tc main_arg12)) d
  wO := fun i d => el2 (m (c, Proc.devRef .tc main_arg13)) i d
  g2 := fun i => el1 (m (c, Proc.devRef .tc main_arg14)) i
  b2 := fun i => el1 (m (c, Proc.devRef .tc main_arg15)) i
  w1 := fun e i => el2 (m (c, Proc.devRef .tc main_arg16)) e i
  c1 := fun e => el1 (m (c, Proc.devRef .tc main_arg17)) e
  w2 := fun i e => el2 (m (c, Proc.devRef .tc main_arg18)) i e
  c2 := fun i => el1 (m (c, Proc.devRef .tc main_arg19)) i

/-- The buffers before each stretch. -/
def E0 : Valuation τ sig (Elt Ideal) := fun r => m (c, r)
def E1 : Valuation τ sig (Elt Ideal) := after hostOps0 (E0 m c)
def E2 : Valuation τ sig (Elt Ideal) := after hostOps0_1 (E1 m c)
def E3 : Valuation τ sig (Elt Ideal) := after hostOps0_2 (E2 m c)
def E4 : Valuation τ sig (Elt Ideal) := after hostOps0_3 (E3 m c)
def E5 : Valuation τ sig (Elt Ideal) := after hostOps0_4 (E4 m c)
def E6 : Valuation τ sig (Elt Ideal) := after hostOps0_5 (E5 m c)
def E7 : Valuation τ sig (Elt Ideal) := after hostOps0_6 (E6 m c)
def E8 : Valuation τ sig (Elt Ideal) := after hostOps0_7 (E7 m c)
def E9 : Valuation τ sig (Elt Ideal) := after hostOps0_8 (E8 m c)
def E10 : Valuation τ sig (Elt Ideal) := after hostOps0_9 (E9 m c)

theorem entry_eq : entryContents preI m c = E10 m c := rfl

/-! A buffer a stretch does not write stays. -/
theorem k1 {r : Ref sig .tc} (h : r ∉ hostOps0_W) : E1 m c (Proc.devRef .tc r) = E0 m c (Proc.devRef .tc r) := after_of_writes_sub _ _ hostOps0_writes h
theorem k2 {r : Ref sig .tc} (h : r ∉ hostOps0_1_W) : E2 m c (Proc.devRef .tc r) = E1 m c (Proc.devRef .tc r) := after_of_writes_sub _ _ hostOps0_1_writes h
theorem k3 {r : Ref sig .tc} (h : r ∉ hostOps0_2_W) : E3 m c (Proc.devRef .tc r) = E2 m c (Proc.devRef .tc r) := after_of_writes_sub _ _ hostOps0_2_writes h
theorem k4 {r : Ref sig .tc} (h : r ∉ hostOps0_3_W) : E4 m c (Proc.devRef .tc r) = E3 m c (Proc.devRef .tc r) := after_of_writes_sub _ _ hostOps0_3_writes h
theorem k5 {r : Ref sig .tc} (h : r ∉ hostOps0_4_W) : E5 m c (Proc.devRef .tc r) = E4 m c (Proc.devRef .tc r) := after_of_writes_sub _ _ hostOps0_4_writes h
theorem k6 {r : Ref sig .tc} (h : r ∉ hostOps0_5_W) : E6 m c (Proc.devRef .tc r) = E5 m c (Proc.devRef .tc r) := after_of_writes_sub _ _ hostOps0_5_writes h
theorem k7 {r : Ref sig .tc} (h : r ∉ hostOps0_6_W) : E7 m c (Proc.devRef .tc r) = E6 m c (Proc.devRef .tc r) := after_of_writes_sub _ _ hostOps0_6_writes h
theorem k8 {r : Ref sig .tc} (h : r ∉ hostOps0_7_W) : E8 m c (Proc.devRef .tc r) = E7 m c (Proc.devRef .tc r) := after_of_writes_sub _ _ hostOps0_7_writes h
theorem k9 {r : Ref sig .tc} (h : r ∉ hostOps0_8_W) : E9 m c (Proc.devRef .tc r) = E8 m c (Proc.devRef .tc r) := after_of_writes_sub _ _ hostOps0_8_writes h
theorem k10 {r : Ref sig .tc} (h : r ∉ hostOps0_9_W) : E10 m c (Proc.devRef .tc r) = E9 m c (Proc.devRef .tc r) := after_of_writes_sub _ _ hostOps0_9_writes h

/-! The arguments stay. -/
theorem a0 {r : Ref sig .tc} (_ : r ∈ args) : E0 m c (Proc.devRef .tc r) = m (c, Proc.devRef .tc r) := rfl
theorem a1 {r : Ref sig .tc} (h : r ∈ args) : E1 m c (Proc.devRef .tc r) = m (c, Proc.devRef .tc r) :=
  (k1 m c (by revert r; decide)).trans (a0 m c h)
theorem a2 {r : Ref sig .tc} (h : r ∈ args) : E2 m c (Proc.devRef .tc r) = m (c, Proc.devRef .tc r) :=
  (k2 m c (by revert r; decide)).trans (a1 m c h)
theorem a3 {r : Ref sig .tc} (h : r ∈ args) : E3 m c (Proc.devRef .tc r) = m (c, Proc.devRef .tc r) :=
  (k3 m c (by revert r; decide)).trans (a2 m c h)
theorem a4 {r : Ref sig .tc} (h : r ∈ args) : E4 m c (Proc.devRef .tc r) = m (c, Proc.devRef .tc r) :=
  (k4 m c (by revert r; decide)).trans (a3 m c h)
theorem a5 {r : Ref sig .tc} (h : r ∈ args) : E5 m c (Proc.devRef .tc r) = m (c, Proc.devRef .tc r) :=
  (k5 m c (by revert r; decide)).trans (a4 m c h)
theorem a6 {r : Ref sig .tc} (h : r ∈ args) : E6 m c (Proc.devRef .tc r) = m (c, Proc.devRef .tc r) :=
  (k6 m c (by revert r; decide)).trans (a5 m c h)
theorem a7 {r : Ref sig .tc} (h : r ∈ args) : E7 m c (Proc.devRef .tc r) = m (c, Proc.devRef .tc r) :=
  (k7 m c (by revert r; decide)).trans (a6 m c h)
theorem a8 {r : Ref sig .tc} (h : r ∈ args) : E8 m c (Proc.devRef .tc r) = m (c, Proc.devRef .tc r) :=
  (k8 m c (by revert r; decide)).trans (a7 m c h)
theorem a9 {r : Ref sig .tc} (h : r ∈ args) : E9 m c (Proc.devRef .tc r) = m (c, Proc.devRef .tc r) :=
  (k9 m c (by revert r; decide)).trans (a8 m c h)
theorem a10 {r : Ref sig .tc} (h : r ∈ args) : E10 m c (Proc.devRef .tc r) = m (c, Proc.devRef .tc r) :=
  (k10 m c (by revert r; decide)).trans (a9 m c h)

/-! The stretches before the scan. -/

theorem e_x (b : Fin 8) (h w : Fin 32) (i : Fin 384) : el4 (E1 m c (Proc.devRef .tc main_v0)) b h w i = (A m c).x b i h w := p0x (E0 m c) b h w i

theorem e_px (b : Fin 8) (h w : Fin 32) (e : Fin 1536) :
    inp (fun i => el1 (E0 m c (Proc.devRef .tc main_arg1)) i) (fun i => el1 (E0 m c (Proc.devRef .tc main_arg2)) i) (fun e i => el2 (E0 m c (Proc.devRef .tc main_arg3)) e i)
      (fun i => el4 (E0 m c (Proc.devRef .tc main_arg0)) b i h w) e = px (A m c) b h w e := rfl

theorem e_gate (b : Fin 8) (h w : Fin 32) (d : Fin 768) : el4 (E1 m c (Proc.devRef .tc main_v27)) b h w d = gate (A m c) b h w d := p0z (E0 m c) b h w d

theorem e_pic (b : Fin 8) (d : Fin 768) (h w : Fin 32) : el4 (E4 m c (Proc.devRef .tc main_v97)) b d h w = pic (A m c) b d h w := by
  have hp : (fun (i j : ℕ) => el4 (E2 m c (Proc.devRef .tc main_v29)) b d (Fin.ofNat 34 i) (Fin.ofNat 34 j))
      = fun i j => Cert.Spec.pad (fun i j => px (A m c) b i j ⟨d.val, by omega⟩) (i % 34) (j % 34) := by
    funext i j
    rw [show E2 m c = after hostOps0_1 (E1 m c) from rfl, p1 (E1 m c) _ _ _ _ (p0c (E0 m c))]
    congr 1
    funext i j
    exact p0u (E0 m c) b i j d
  have e1 (i : Fin 32) (k : ℕ) (hk : k < 3) : (i.val + k) % 34 = i.val + k := by omega
  have e0 (i : Fin 32) : i.val % 34 = i.val := by omega
  rw [show E4 m c = after hostOps0_3 (E3 m c) from rfl, p3]
  unfold pic
  congr 1
  rw [show E3 m c = after hostOps0_2 (E2 m c) from rfl, p2, hp, a2 m c (r := main_arg4) (by decide), a2 m c (r := main_arg5) (by decide)]
  unfold conv
  simp only [e0, e1 _ 1 (by omega), e1 _ 2 (by omega)]
  rfl

theorem e_flat0 (b : Fin 8) (d : Fin 768) (l : Fin 1024) : el3 (E5 m c (Proc.devRef .tc main_v98)) b d l = flat (A m c) 0 b l d :=
  (p4a (E4 m c) b d l).trans (e_pic m c b d _ _)
theorem e_flat1 (b : Fin 8) (d : Fin 768) (l : Fin 1024) : el3 (E5 m c (Proc.devRef .tc main_v100)) b d l = flat (A m c) 1 b l d :=
  (p4b (E4 m c) b d l).trans (e_pic m c b d _ _)

/-- The four directions' rows. -/
theorem e_useq (b : Fin 8) (k : Fin 4) (d : Fin 768) (t : Fin 1024) : el4 (E8 m c (Proc.devRef .tc main_v107)) b k d t = useq (A m c) k b t d := by
  rw [show E8 m c = after hostOps0_7 (E7 m c) from rfl, p7u]
  match k with
  | 0 => show el3 (E7 m c (Proc.devRef .tc main_v98)) b d t = _; rw [k7 m c (by decide), k6 m c (by decide)]; exact e_flat0 m c b d t
  | 1 => show el3 (E7 m c (Proc.devRef .tc main_v100)) b d t = _; rw [k7 m c (by decide), k6 m c (by decide)]; exact e_flat1 m c b d t
  | 2 => show el3 (E7 m c (Proc.devRef .tc main_v101)) b d t = _; rw [k7 m c (by decide)]; exact (p5 (E5 m c) b d t).trans (e_flat0 m c b d (fl t))
  | 3 => show el3 (E7 m c (Proc.devRef .tc main_v102)) b d t = _
         exact (p6 (E6 m c) b d t).trans ((congrArg (fun f => el3 f b d (fl t)) (k6 m c (r := main_v100) (by decide))).trans (e_flat1 m c b d (fl t)))

/-- A step's projected parameters. -/
theorem e_dbl (b : Fin 8) (k : Fin 4) (e : Fin 32) (t : Fin 1024) : el4 (E8 m c (Proc.devRef .tc main_v109)) b k e t = dbl ((A m c).wX k) (useq (A m c) k b t) e := by
  refine (p7e (E7 m c) b k e t).trans ?_
  rw [a7 m c (r := main_arg6) (by decide)]
  exact Finset.sum_congr rfl fun d _ => (mul_comm _ _).trans (congrArg (· * _) (e_useq m c b k d t))

/-- A step's length. -/
theorem e_delta (b : Fin 8) (k : Fin 4) (d : Fin 768) (t : Fin 1024) :
    el4 (E9 m c (Proc.devRef .tc main_v118)) b k d t = delta ((A m c).wX k) ((A m c).wDt k) ((A m c).bDt k) (useq (A m c) k b t) d := by
  refine (p8 (E8 m c) b k d t).trans (congrArg softplus ?_)
  refine (p7d (E7 m c) b k d t).trans ?_
  rw [a7 m c (r := main_arg7) (by decide), a7 m c (r := main_arg8) (by decide)]
  refine congrArg (· + _) (Finset.sum_congr rfl fun r _ => (mul_comm _ _).trans (congrArg (· * _) (e_dbl m c b k _ t)))

/-! What the loop is entered with. -/

theorem l0 (t : Fin 1024) (b : Fin 8) (k : Fin 4) (d : Fin 768) :
    el4 (E10 m c (Proc.devRef .tc main_v127_0)) t b k d = delta ((A m c).wX k) ((A m c).wDt k) ((A m c).bDt k) (useq (A m c) k b t) d :=
  (p9dt (E9 m c) t b k d).trans (e_delta m c b k d t)
theorem l1 (t : Fin 1024) (b : Fin 8) (k : Fin 4) (d : Fin 768) : el4 (E10 m c (Proc.devRef .tc main_v127_1)) t b k d = useq (A m c) k b t d :=
  (p9u (E9 m c) t b k d).trans ((congrArg (fun f => el4 f b k d t) (k9 m c (r := main_v107) (by decide))).trans (e_useq m c b k d t))
theorem l2 (t : Fin 1024) (b : Fin 8) (k : Fin 4) (n : Fin 4) : el4 (E10 m c (Proc.devRef .tc main_v127_2)) t b k n = dbl ((A m c).wX k) (useq (A m c) k b t) ⟨24 + n.val, by omega⟩ :=
  (p9b (E9 m c) t b k n).trans ((congrArg (fun f => el4 f b k n t) (k9 m c (r := main_v111) (by decide))).trans ((p7b (E7 m c) b k n t).trans (e_dbl m c b k _ t)))
theorem l3 (t : Fin 1024) (b : Fin 8) (k : Fin 4) (n : Fin 4) : el4 (E10 m c (Proc.devRef .tc main_v127_3)) t b k n = dbl ((A m c).wX k) (useq (A m c) k b t) ⟨28 + n.val, by omega⟩ :=
  (p9c (E9 m c) t b k n).trans ((congrArg (fun f => el4 f b k n t) (k9 m c (r := main_v112) (by decide))).trans ((p7c (E7 m c) b k n t).trans (e_dbl m c b k _ t)))
theorem l4 (k : Fin 4) (d : Fin 768) (n : Fin 4) : el3 (E10 m c (Proc.devRef .tc main_v127_4)) k d n = -Ideal.exp ((A m c).aLog k d n) :=
  (p9a (E9 m c) k d n).trans (congrArg (fun f => -Ideal.exp (el3 f k d n)) (a9 m c (r := main_arg9) (by decide)))

end Cert.ReferenceIdeal.Ref
end
-- ==== Proof.RefLoop.lean ====
module

public import proofs.«01_k».proof.Proof.RefScan

/-! The reference's scan: its trips at an element. -/

@[expose] public section
set_option maxRecDepth 16384

noncomputable section

namespace Cert.ReferenceIdeal.Ref

open Cert.ReferenceIdeal.Gen Cert.ReferenceIdeal.Value
open Idealize.ShloMosaic Idealize.ShloMosaic.WordCmp Idealize.ShloMosaic.TcCoe Idealize.SL.Sem Idealize.ShloMosaic.StableHlo
open Cert.Spec (el1 el2 el3 el4 el5 useq dbl delta next state)

section Trip

variable (V : Valuation τ sig (Elt Ideal)) (t : Fin 1024) (hv : V (Proc.devRef .tc main_v127_5) = fun _ => BitVec.ofNat 32 t.val)

include hv in
/-- The trip's slice starts at its number. -/
theorem start_eq (a : Fin 4) : (((![V (Proc.devRef .tc main_v127_5), constantI S_ 32 0#32, constantI S_ 32 0#32, constantI S_ 32 0#32] : Fin 4 → (⟨S_, .i32⟩ : BufTy).Contents (Elt Ideal))) a (Shape.Idx.first h_S_)).toInt
    = ((![t.val, 0, 0, 0] a : ℕ) : ℤ) := by
  match a with
  | 0 =>
    show (V (Proc.devRef .tc main_v127_5) (Shape.Idx.first h_S_)).toInt = (t.val : ℤ)
    rw [hv]
    exact toInt_ofNat_of_lt (by have := t.isLt; omega)
  | 1 => rfl
  | 2 => rfl
  | 3 => rfl

theorem fits768 : S1024x8x4x768.Slices ![t.val, 0, 0, 0] S1x8x4x768 := by
  refine ⟨rfl, fun a => ?_⟩
  match a with
  | 0 => show t.val + 1 ≤ 1024; omega
  | 1 => exact le_refl _
  | 2 => exact le_refl _
  | 3 => exact le_refl _
theorem fits4 : S1024x8x4x4.Slices ![t.val, 0, 0, 0] S1x8x4x4 := by
  refine ⟨rfl, fun a => ?_⟩
  match a with
  | 0 => show t.val + 1 ≤ 1024; omega
  | 1 => exact le_refl _
  | 2 => exact le_refl _
  | 3 => exact le_refl _

/-- A trip's slices of the loop's inputs. -/
abbrev cut768 (x : FVec Ideal S1024x8x4x768 .f32) : FVec Ideal S8x4x768 .f32 :=
  shapeCast S8x4x768 (Host.dynamicSlice S1x8x4x768 x (fun k => (((![V (Proc.devRef .tc main_v127_5), constantI S_ 32 0#32, constantI S_ 32 0#32, constantI S_ 32 0#32] : Fin 4 → (⟨S_, .i32⟩ : BufTy).Contents (Elt Ideal))) k (Shape.Idx.first h_S_)).toInt) sliceFits_S1024x8x4x768_S1x8x4x768) shapeCasts_S1x8x4x768_S8x4x768
abbrev cut4 (x : FVec Ideal S1024x8x4x4 .f32) : FVec Ideal S8x4x4 .f32 :=
  shapeCast S8x4x4 (Host.dynamicSlice S1x8x4x4 x (fun k => (((![V (Proc.devRef .tc main_v127_5), constantI S_ 32 0#32, constantI S_ 32 0#32, constantI S_ 32 0#32] : Fin 4 → (⟨S_, .i32⟩ : BufTy).Contents (Elt Ideal))) k (Shape.Idx.first h_S_)).toInt) sliceFits_S1024x8x4x4_S1x8x4x4) shapeCasts_S1x8x4x4_S8x4x4

include hv in
theorem slice768 (x : FVec Ideal S1024x8x4x768 .f32) (b : Fin 8) (k : Fin 4) (d : Fin 768) : el3 (cut768 V x) b k d = el4 x t b k d := by
  unfold cut768
  rw [dynamicSlice_eq_extract _ _ _ _ ![t.val, 0, 0, 0] (fits768 t) (start_eq V t hv)]
  dsimp only [el3, el4]
  pointwise
include hv in
theorem slice4 (x : FVec Ideal S1024x8x4x4 .f32) (b : Fin 8) (k : Fin 4) (d : Fin 4) : el3 (cut4 V x) b k d = el4 x t b k d := by
  unfold cut4
  rw [dynamicSlice_eq_extract _ _ _ _ ![t.val, 0, 0, 0] (fits4 t) (start_eq V t hv)]
  dsimp only [el3, el4]
  pointwise

include hv in
theorem r228 (b : Fin 8) (k : Fin 4) (d : Fin 768) : el3 (res_main_while0b_v228 V) b k d = el4 (V (Proc.devRef .tc main_v127_0)) t b k d :=
  slice768 V t hv _ b k d

/-- A state's step over whole buffers, at an element. -/
theorem step_at (x0 x1 : FVec Ideal S8x4x768 .f32) (x2 : FVec Ideal S8x4x4 .f32) (a : FVec Ideal S4x768x4 .f32) (s : FVec Ideal S8x4x768x4 .f32) (b : Fin 8) (k : Fin 4) (d : Fin 768) (n : Fin 4) :
    el4 (addf (mulf (Host.exp (mulf (broadcastInDim S8x4x768x4 ![0, 1, 2, 3] bcast_S8x4x768x1_S8x4x768x4_0_1_2_3 (broadcastInDim S8x4x768x1 ![0, 1, 2] bcast_S8x4x768_S8x4x768x1_0_1_2 x0)) (broadcastInDim S8x4x768x4 ![0, 1, 2, 3] bcast_S1x4x768x4_S8x4x768x4_0_1_2_3 (broadcastInDim S1x4x768x4 ![1, 2, 3] bcast_S4x768x4_S1x4x768x4_1_2_3 a)))) s)
      (mulf (broadcastInDim S8x4x768x4 ![0, 1, 2, 3] bcast_S8x4x768x1_S8x4x768x4_0_1_2_3 (broadcastInDim S8x4x768x1 ![0, 1, 2] bcast_S8x4x768_S8x4x768x1_0_1_2 (mulf x0 x1))) (broadcastInDim S8x4x768x4 ![0, 1, 2, 3] bcast_S8x4x1x4_S8x4x768x4_0_1_2_3 (broadcastInDim S8x4x1x4 ![0, 1, 3] bcast_S8x4x4_S8x4x1x4_0_1_3 x2))) : FVec Ideal S8x4x768x4 .f32) b k d n
      = next (el3 x0 b k d) (el3 x1 b k d) (el3 x2 b k n) (el3 a k d n) (el4 s b k d n) := by
  unfold next
  dsimp only [el3, el4]
  pointwise

include hv in
/-- The state a trip leaves. -/
theorem r245 (b : Fin 8) (k : Fin 4) (d : Fin 768) (n : Fin 4) :
    el4 (res_main_while0b_v245 V) b k d n
      = next (el4 (V (Proc.devRef .tc main_v127_0)) t b k d) (el4 (V (Proc.devRef .tc main_v127_1)) t b k d) (el4 (V (Proc.devRef .tc main_v127_2)) t b k n)
          (el3 (V (Proc.devRef .tc main_v127_4)) k d n) (el4 (V (Proc.devRef .tc main_v127_6)) b k d n) := by
  refine (step_at (res_main_while0b_v228 V) (cut768 V (V (Proc.devRef .tc main_v127_1))) (cut4 V (V (Proc.devRef .tc main_v127_2))) (V (Proc.devRef .tc main_v127_4)) (V (Proc.devRef .tc main_v127_6)) b k d n).trans ?_
  rw [r228 V t hv, slice768 V t hv, slice4 V t hv]

/-- A state's product with a step's row. -/
theorem dot_at (x : FVec Ideal S8x4x768x4 .f32) (y : FVec Ideal S8x4x4 .f32) (b : Fin 8) (k : Fin 4) (d : Fin 768) :
    el3 (Host.dotGeneral dot_S8x4x768x4_S8x4x4_S8x4x768_3_2_2_n_01_01 none x y : FVec Ideal S8x4x768 .f32) b k d = ∑ n, el4 x b k d n * el3 y b k n := by
  dsimp only [el3, el4]
  pointwise

/-- A row put into the result, at an element. -/
theorem upd_at (x : FVec Ideal S1024x8x4x768 .f32) (y : FVec Ideal S8x4x768 .f32) (t' : Fin 1024) (b : Fin 8) (k : Fin 4) (d : Fin 768) :
    el4 (updateSlice x (broadcastInDim S1x8x4x768 ![1, 2, 3] bcast_S8x4x768_S1x8x4x768_1_2_3 y) ![t.val, 0, 0, 0] (fits768 t)) t' b k d
      = if t' = t then el3 y b k d else el4 x t' b k d := by
  have hb (q : Fin 1) : el4 (broadcastInDim S1x8x4x768 ![1, 2, 3] bcast_S8x4x768_S1x8x4x768_1_2_3 y) q b k d = el3 y b k d := by
    dsimp only [el3, el4]
    pointwise
  generalize broadcastInDim S1x8x4x768 ![1, 2, 3] bcast_S8x4x768_S1x8x4x768_1_2_3 y = u at hb
  dsimp only [el4] at hb ⊢
  rw [updateSlice]
  by_cases e : t' = t
  · subst e
    rw [if_pos rfl, dif_pos]
    · refine (congrArg u (funext fun a => ?_)).trans (hb 0)
      match a with
      | 0 => exact Fin.ext (Nat.sub_self _)
      | 1 => rfl
      | 2 => rfl
      | 3 => rfl
    · intro a
      match a with
      | 0 => exact ⟨le_refl _, Nat.lt_succ_self _⟩
      | 1 => exact ⟨Nat.zero_le _, by show b.val < 0 + 8; omega⟩
      | 2 => exact ⟨Nat.zero_le _, by show k.val < 0 + 4; omega⟩
      | 3 => exact ⟨Nat.zero_le _, by show d.val < 0 + 768; omega⟩
  · rw [if_neg e, dif_neg]
    intro ha
    have := ha 0
    exact e (Fin.ext (by have h1 : t.val ≤ t'.val := this.1; have h2 : t'.val < t.val + 1 := this.2; omega))

include hv in
/-- The result after a trip: the trip's row is new, the others stay. -/
theorem s7 (t' : Fin 1024) (b : Fin 8) (k : Fin 4) (d : Fin 768) :
    el4 (step_main_v127_7 V) t' b k d
      = if t' = t then ∑ n, el4 (res_main_while0b_v245 V) b k d n * el4 (V (Proc.devRef .tc main_v127_3)) t b k n else el4 (V (Proc.devRef .tc main_v127_7)) t' b k d := by
  have h := dot_at (res_main_while0b_v245 V) (cut4 V (V (Proc.devRef .tc main_v127_3))) b k d
  simp only [slice4 V t hv] at h
  unfold step_main_v127_7
  rw [id_eq, dynamicUpdateSlice_eq_update _ _ _ _ ![t.val, 0, 0, 0] (fits768 t) (start_eq V t hv), ← h]
  exact upd_at t _ _ t' b k d

end Trip

variable (m : (ℓ : Loc nD τ sig) → Buf (Elt Ideal) ℓ) (c : Dev nD)

/-- The carried buffers before trip `k`. -/
def S (k : ℕ) : Valuation τ sig (Elt Ideal) := STEP^[k] (E10 m c)

theorem S_succ (k : ℕ) : S m c (k + 1) = STEP (S m c k) := Function.iterate_succ_apply' _ _ _

theorem S0 (k : ℕ) : S m c k (Proc.devRef .tc main_v127_0) = E10 m c (Proc.devRef .tc main_v127_0) := by
  induction k with
  | zero => rfl
  | succ k ih => rw [S_succ, STEP_main_v127_0, ih]
theorem S1 (k : ℕ) : S m c k (Proc.devRef .tc main_v127_1) = E10 m c (Proc.devRef .tc main_v127_1) := by
  induction k with
  | zero => rfl
  | succ k ih => rw [S_succ, STEP_main_v127_1, ih]
theorem S2 (k : ℕ) : S m c k (Proc.devRef .tc main_v127_2) = E10 m c (Proc.devRef .tc main_v127_2) := by
  induction k with
  | zero => rfl
  | succ k ih => rw [S_succ, STEP_main_v127_2, ih]
theorem S3 (k : ℕ) : S m c k (Proc.devRef .tc main_v127_3) = E10 m c (Proc.devRef .tc main_v127_3) := by
  induction k with
  | zero => rfl
  | succ k ih => rw [S_succ, STEP_main_v127_3, ih]
theorem S4 (k : ℕ) : S m c k (Proc.devRef .tc main_v127_4) = E10 m c (Proc.devRef .tc main_v127_4) := by
  induction k with
  | zero => rfl
  | succ k ih => rw [S_succ, STEP_main_v127_4, ih]
theorem S5 (k : ℕ) : S m c k (Proc.devRef .tc main_v127_5) = fun _ => BitVec.ofNat 32 k := by
  induction k with
  | zero => exact p9i (E9 m c)
  | succ k ih =>
    rw [S_succ, STEP_main_v127_5]
    unfold step_main_v127_5
    rw [ih]
    funext i
    show BitVec.ofNat 32 k + 1#32 = BitVec.ofNat 32 (k + 1)
    rw [BitVec.ofNat_add]

/-- The state before trip `t`. -/
theorem S6 (t : ℕ) (ht : t ≤ 1024) (b : Fin 8) (k : Fin 4) (d : Fin 768) (n : Fin 4) : el4 (S m c t (Proc.devRef .tc main_v127_6)) b k d n = state (A m c) k b t d n := by
  induction t with
  | zero => exact p9h (E9 m c) b k d n
  | succ t ih =>
    have hf : Fin.ofNat 1024 t = ⟨t, ht⟩ := Fin.ext (Nat.mod_eq_of_lt ht)
    rw [S_succ, STEP_main_v127_6]
    refine (r245 (S m c t) ⟨t, ht⟩ (S5 m c t) b k d n).trans ?_
    rw [ih (by omega), S0, S1, S2, S4, l0, l1, l2, l4]
    show _ = next _ _ _ _ _
    rw [hf]

/-- The result's rows before trip `t`. -/
theorem S7 (t : ℕ) (ht : t ≤ 1024) (t' : Fin 1024) (h : t'.val < t) (b : Fin 8) (k : Fin 4) (d : Fin 768) :
    el4 (S m c t (Proc.devRef .tc main_v127_7)) t' b k d = ∑ n : Fin 4, state (A m c) k b (t'.val + 1) d n * dbl ((A m c).wX k) (useq (A m c) k b t') ⟨28 + n.val, by omega⟩ := by
  induction t with
  | zero => exact absurd h (Nat.not_lt_zero _)
  | succ t ih =>
    rw [S_succ, STEP_main_v127_7, s7 (S m c t) ⟨t, ht⟩ (S5 m c t)]
    by_cases e : t' = ⟨t, ht⟩
    · subst e
      rw [if_pos rfl]
      refine Finset.sum_congr rfl fun n _ => ?_
      have h6 := S6 m c (t + 1) ht b k d n
      rw [S_succ, STEP_main_v127_6] at h6
      rw [S3, l3]
      exact congrArg (· * _) h6
    · rw [if_neg e]
      exact ih (by omega) (by have : t'.val ≠ t := fun h => e (Fin.ext h); omega)

/-! After the scan. -/

/-- The buffers after the scan, and before each stretch that follows. -/
def X : Valuation τ sig (Elt Ideal) := after condOps (atK m 1024 c)
def X1 : Valuation τ sig (Elt Ideal) := after hostOps0_10 (X m c)
def X2 : Valuation τ sig (Elt Ideal) := after hostOps0_11 (X1 m c)
def X3 : Valuation τ sig (Elt Ideal) := after hostOps0_12 (X2 m c)
def X4 : Valuation τ sig (Elt Ideal) := after hostOps0_13 (X3 m c)
def X5 : Valuation τ sig (Elt Ideal) := after hostOps0_14 (X4 m c)

theorem fin_eq : fin m c = X5 m c := rfl

theorem x_kept {r : Ref sig .tc} (h : r ∉ condOps_W ∧ r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W) :
    X m c (Proc.devRef .tc r) = E10 m c (Proc.devRef .tc r) :=
  (after_of_writes_sub condOps _ condOps_writes h.1).trans
    (loop_kept _ c r h.1 h.2.1 h.2.2.1 h.2.2.2.1 h.2.2.2.2.1 h.2.2.2.2.2.1 h.2.2.2.2.2.2.1 h.2.2.2.2.2.2.2 1024)

theorem x1_kept {r : Ref sig .tc} (h : r ∉ hostOps0_10_W) : X1 m c (Proc.devRef .tc r) = X m c (Proc.devRef .tc r) := after_of_writes_sub _ _ hostOps0_10_writes h
theorem x2_kept {r : Ref sig .tc} (h : r ∉ hostOps0_11_W) : X2 m c (Proc.devRef .tc r) = X1 m c (Proc.devRef .tc r) := after_of_writes_sub _ _ hostOps0_11_writes h
theorem x3_kept {r : Ref sig .tc} (h : r ∉ hostOps0_12_W) : X3 m c (Proc.devRef .tc r) = X2 m c (Proc.devRef .tc r) := after_of_writes_sub _ _ hostOps0_12_writes h
theorem x4_kept {r : Ref sig .tc} (h : r ∉ hostOps0_13_W) : X4 m c (Proc.devRef .tc r) = X3 m c (Proc.devRef .tc r) := after_of_writes_sub _ _ hostOps0_13_writes h

theorem xa {r : Ref sig .tc} (h : r ∈ args) : X m c (Proc.devRef .tc r) = m (c, Proc.devRef .tc r) :=
  (x_kept m c (by revert r; decide)).trans (a10 m c h)
theorem x2a {r : Ref sig .tc} (h : r ∈ args) : X2 m c (Proc.devRef .tc r) = m (c, Proc.devRef .tc r) :=
  (x2_kept m c (by revert r; decide)).trans ((x1_kept m c (by revert r; decide)).trans (xa m c h))
theorem x4a {r : Ref sig .tc} (h : r ∈ args) : X4 m c (Proc.devRef .tc r) = m (c, Proc.devRef .tc r) :=
  (x4_kept m c (by revert r; decide)).trans ((x3_kept m c (by revert r; decide)).trans (x2a m c h))

/-- The directions' results. -/
theorem x_res (b : Fin 8) (k : Fin 4) (d : Fin 768) (t : Fin 1024) : el4 (X1 m c (Proc.devRef .tc main_v132)) b k d t = Cert.Spec.res (A m c) k b t d := by
  refine (s10 (X m c) b k d t).trans ?_
  have h7 : X m c (Proc.devRef .tc main_v127_7) = S m c 1024 (Proc.devRef .tc main_v127_7) :=
    (cond_keeps (atK m 1024 c) main_v127_7 (by decide)).trans (atK_agree m c 1024 main_v127_7 (by decide))
  have hu : X m c (Proc.devRef .tc main_v107) = E8 m c (Proc.devRef .tc main_v107) :=
    (x_kept m c (by decide)).trans ((k10 m c (by decide)).trans (k9 m c (by decide)))
  rw [h7, hu, S7 m c 1024 (le_refl _) t t.isLt, e_useq, xa m c (r := main_arg10) (by decide)]
  rfl

theorem x_v132 (b : Fin 8) (k : Fin 4) (d : Fin 768) (t : Fin 1024) : el4 (X2 m c (Proc.devRef .tc main_v132)) b k d t = Cert.Spec.res (A m c) k b t d :=
  (congrArg (fun f => el4 f b k d t) (x2_kept m c (r := main_v132) (by decide))).trans (x_res m c b k d t)
theorem x_v134 (b : Fin 8) (k : Fin 2) (d : Fin 768) (t : Fin 1024) : el4 (X2 m c (Proc.devRef .tc main_v134)) b k d t = Cert.Spec.res (A m c) ⟨2 + k.val, by omega⟩ b (Cert.Spec.fl t) d :=
  (s11 (X1 m c) b k d t).trans ((s10' (X m c) b k d (Cert.Spec.fl t)).trans (x_res m c b _ d _))

/-- The reference's result. -/
theorem fin_at (b : Fin 8) (h w : Fin 32) (i : Fin 384) : el4 (fin m c (Proc.devRef .tc main_v227)) b h w i = Cert.Spec.out (A m c) b h w i := by
  rw [fin_eq]
  refine (s14 (X4 m c) b h w i).trans ?_
  rw [x4a m c (r := main_arg14) (by decide), x4a m c (r := main_arg15) (by decide), x4a m c (r := main_arg16) (by decide), x4a m c (r := main_arg17) (by decide), x4a m c (r := main_arg18) (by decide), x4a m c (r := main_arg19) (by decide), x4a m c (r := main_arg13) (by decide)]
  unfold Cert.Spec.out Cert.Spec.post
  have hx : X4 m c (Proc.devRef .tc main_v0) = E1 m c (Proc.devRef .tc main_v0) := by
    rw [x4_kept m c (by decide), x3_kept m c (by decide), x2_kept m c (by decide), x1_kept m c (by decide), x_kept m c (by decide), k10 m c (by decide), k9 m c (by decide), k8 m c (by decide), k7 m c (by decide), k6 m c (by decide), k5 m c (by decide), k4 m c (by decide), k3 m c (by decide), k2 m c (by decide)]
  have hz : X3 m c (Proc.devRef .tc main_v27) = E1 m c (Proc.devRef .tc main_v27) := by
    rw [x3_kept m c (by decide), x2_kept m c (by decide), x1_kept m c (by decide), x_kept m c (by decide), k10 m c (by decide), k9 m c (by decide), k8 m c (by decide), k7 m c (by decide), k6 m c (by decide), k5 m c (by decide), k4 m c (by decide), k3 m c (by decide), k2 m c (by decide)]
  have hg (d : Fin 768) : el4 (X4 m c (Proc.devRef .tc main_v178)) b h w d = Cert.Spec.silu (Cert.Spec.gate (A m c) b h w d) := by
    refine (s13 (X3 m c) b h w d).trans (congrArg _ ?_)
    rw [hz]
    exact e_gate m c b h w d
  have hm : (fun d => el4 (X2 m c (Proc.devRef .tc main_v132)) b 0 d (Cert.Spec.pos h w) + el4 (X2 m c (Proc.devRef .tc main_v134)) b 0 d (Cert.Spec.pos h w)
      + el4 (X2 m c (Proc.devRef .tc main_v132)) b 1 d (Cert.Spec.tr (Cert.Spec.pos h w)) + el4 (X2 m c (Proc.devRef .tc main_v134)) b 1 d (Cert.Spec.tr (Cert.Spec.pos h w)))
      = Cert.Spec.merged (A m c) b (Cert.Spec.pos h w) := by
    funext d
    rw [x_v132, x_v132, x_v134, x_v134]
    exact add_assoc _ _ _
  have hy (d : Fin 768) : el4 (X4 m c (Proc.devRef .tc main_v177)) b h w d
      = Cert.Spec.ln 0x44400000#32 (Cert.Spec.merged (A m c) b (Cert.Spec.pos h w)) (A m c).gO (A m c).bO d := by
    rw [x4_kept m c (by decide)]
    refine (s12 (X2 m c) b h w d).trans ?_
    rw [hm, x2a m c (r := main_arg11) (by decide), x2a m c (r := main_arg12) (by decide)]
    rfl
  have hx' (i : Fin 384) : el4 (X4 m c (Proc.devRef .tc main_v0)) b h w i = (A m c).x b i h w := by
    rw [hx]
    exact e_x m c b h w i
  simp only [hy, hg, hx']
  rfl

end Cert.ReferenceIdeal.Ref
end
-- ==== Proof.Equal.lean ====
module

public import proofs.«01_k».proof.Proof.Value
public import proofs.«01_k».proof.Proof.RefLoop

/-! The two programs' results are the same array, of the same arguments. -/

@[expose] public section
set_option maxRecDepth 16384

noncomputable section

namespace Cert.Equal

open Idealize.ShloMosaic Idealize.ShloMosaic.TcCoe Idealize.SL.Sem
open Cert.Spec (el1 el2 el3 el4)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The arguments agree on a device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

/-- Agreeing arguments have the same elements. -/
theorem args_eq (h : Agree m m' c) : Cert.ReferenceIdeal.Ref.A m' c = Cert.KernelIdeal.Run.A m c := by
  obtain ⟨h0, h1, h2, h3, h4, h5, h6, h7, h8, h9, h10, h11, h12, h13, h14, h15, h16, h17, h18, h19⟩ := h
  unfold Cert.ReferenceIdeal.Ref.A Cert.KernelIdeal.Run.A
  rw [Cert.Spec.Args.mk.injEq]
  exact ⟨funext fun _ => funext fun _ => funext fun _ => funext fun _ => congrFun h0 _,
    funext fun _ => congrFun h1 _,
    funext fun _ => congrFun h2 _,
    funext fun _ => funext fun _ => congrFun h3 _,
    funext fun _ => funext fun _ => funext fun _ => congrFun h4 _,
    funext fun _ => congrFun h5 _,
    funext fun _ => funext fun _ => funext fun _ => congrFun h6 _,
    funext fun _ => funext fun _ => funext fun _ => congrFun h7 _,
    funext fun _ => funext fun _ => congrFun h8 _,
    funext fun _ => funext fun _ => funext fun _ => congrFun h9 _,
    funext fun _ => funext fun _ => congrFun h10 _,
    funext fun _ => congrFun h11 _,
    funext fun _ => congrFun h12 _,
    funext fun _ => funext fun _ => congrFun h13 _,
    funext fun _ => congrFun h14 _,
    funext fun _ => congrFun h15 _,
    funext fun _ => funext fun _ => congrFun h16 _,
    funext fun _ => congrFun h17 _,
    funext fun _ => funext fun _ => congrFun h18 _,
    funext fun _ => congrFun h19 _⟩

/-- The results agree. -/
theorem results_eq (h : Agree m m' c) :
    Cert.ReferenceIdeal.Ref.fin m' c (Proc.devRef .tc Cert.ReferenceIdeal.main_v227) = Cert.KernelIdeal.Run.W7 m c (Proc.devRef .tc Cert.KernelIdeal.main_v61) := by
  funext i
  have e : i = (ix4 (i 0) (i 1) (i 2) (i 3) : Cert.KernelIdeal.S8x32x32x384.Idx) := eq_ix4 (n0 := 8) (n1 := 32) (n2 := 32) (n3 := 384) i
  rw [e]
  exact (Cert.ReferenceIdeal.Ref.fin_at m' c (i 0) (i 1) (i 2) (i 3)).trans
    ((congrArg (fun A => Cert.Spec.out A (i 0) (i 1) (i 2) (i 3)) (args_eq m m' c h)).trans (Cert.KernelIdeal.Run.value m c (i 0) (i 1) (i 2) (i 3)).symm)

end Cert.Equal
end
-- ==== Proof.lean ====
/- The proof of the certificate's claims: the kernel's run at both readings, the reference's run, and the equality of
    their results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Tr2
public import proofs.«01_k».proof.Proof.Ref
public import proofs.«01_k».proof.Proof.Equal

@[expose] public section

set_option maxRecDepth 100000
set_option maxHeartbeats 2000000

noncomputable section

namespace Cert.Proof

open Idealize.ShloMosaic Idealize.SL.Sem

/-- The idealized kernel runs, keeps its arguments and is quiescent. -/
theorem quiescent_ki : Cert.quiescent_KernelIdeal (hKernelIdeal := Cert.KernelIdeal.Gen.facts) := fun m g _ =>
  (θ_run _ _ _).mono (fun r h => ⟨fun c => by
    have h := (h.1 c).1
    exact ⟨h Cert.KernelIdeal.main_arg0 (by decide), h Cert.KernelIdeal.main_arg1 (by decide), h Cert.KernelIdeal.main_arg2 (by decide), h Cert.KernelIdeal.main_arg3 (by decide), h Cert.KernelIdeal.main_arg4 (by decide), h Cert.KernelIdeal.main_arg5 (by decide), h Cert.KernelIdeal.main_arg6 (by decide), h Cert.KernelIdeal.main_arg7 (by decide), h Cert.KernelIdeal.main_arg8 (by decide), h Cert.KernelIdeal.main_arg9 (by decide), h Cert.KernelIdeal.main_arg10 (by decide), h Cert.KernelIdeal.main_arg11 (by decide), h Cert.KernelIdeal.main_arg12 (by decide), h Cert.KernelIdeal.main_arg13 (by decide), h Cert.KernelIdeal.main_arg14 (by decide), h Cert.KernelIdeal.main_arg15 (by decide), h Cert.KernelIdeal.main_arg16 (by decide), h Cert.KernelIdeal.main_arg17 (by decide), h Cert.KernelIdeal.main_arg18 (by decide), h Cert.KernelIdeal.main_arg19 (by decide)⟩, h.2⟩) (Cert.KernelIdeal.Run.run_args m g)

/-- The same run at every reading of the floats. -/
theorem run_kernel {F : FTy → Type} [FloatOps F] (m : (ℓ : Loc Cert.Kernel.nD Cert.Kernel.τ Cert.Kernel.sig) → Buf (Elt F) ℓ) (ρ : Dev Cert.Kernel.nD → PrngReg) :
    θ_run (@Cert.Kernel.defs F _ Cert.Kernel.Gen.facts) (onTc (τ := Cert.Kernel.τ) (@Cert.Kernel.main F _ Cert.Kernel.Gen.facts)) ⟨m, fun _ => 0, ρ⟩ (fun r =>
      (∀ c : Dev Cert.Kernel.nD, ∀ b ∈ Cert.KernelIdeal.Run.args, r.2.mem ((c.tc : Thread Cert.Kernel.nD Cert.Kernel.τ).loc b) = m ((c.tc : Thread Cert.Kernel.nD Cert.Kernel.τ).loc b)) ∧ r.2.sem = fun _ => 0) := by
  have e : ∀ D M, D = @Cert.KernelIdeal.defs F _ Cert.KernelIdeal.Gen.facts → M = @Cert.KernelIdeal.main F _ Cert.KernelIdeal.Gen.facts →
      θ_run D (onTc (τ := Cert.KernelIdeal.τ) M) ⟨m, fun _ => 0, ρ⟩ (fun r =>
        (∀ c : Dev Cert.KernelIdeal.nD, ∀ b ∈ Cert.KernelIdeal.Run.args, r.2.mem ((c.tc : Thread Cert.KernelIdeal.nD Cert.KernelIdeal.τ).loc b) = m ((c.tc : Thread Cert.KernelIdeal.nD Cert.KernelIdeal.τ).loc b)) ∧ r.2.sem = fun _ => 0) := by
    rintro _ _ rfl rfl
    exact (θ_run _ _ _).mono (fun r h => ⟨fun c => (h.1 c).1, h.2⟩) (Cert.KernelIdeal.Run.run_args (F := F) m ρ)
  exact e _ _ (@Cert.Transport.defs_eq F _ Cert.Kernel.Gen.facts Cert.KernelIdeal.Gen.facts) (@Cert.Transport.main_eq F _ Cert.Kernel.Gen.facts Cert.KernelIdeal.Gen.facts)

/-- The kernel runs, keeps its arguments and is quiescent. -/
theorem quiescent_k : Cert.quiescent_Kernel (hKernel := Cert.Kernel.Gen.facts) := fun m g _ =>
  (θ_run _ _ _).mono (fun r h => ⟨fun c => by
    have h := h.1 c
    exact ⟨h Cert.Kernel.main_arg0 (by decide), h Cert.Kernel.main_arg1 (by decide), h Cert.Kernel.main_arg2 (by decide), h Cert.Kernel.main_arg3 (by decide), h Cert.Kernel.main_arg4 (by decide), h Cert.Kernel.main_arg5 (by decide), h Cert.Kernel.main_arg6 (by decide), h Cert.Kernel.main_arg7 (by decide), h Cert.Kernel.main_arg8 (by decide), h Cert.Kernel.main_arg9 (by decide), h Cert.Kernel.main_arg10 (by decide), h Cert.Kernel.main_arg11 (by decide), h Cert.Kernel.main_arg12 (by decide), h Cert.Kernel.main_arg13 (by decide), h Cert.Kernel.main_arg14 (by decide), h Cert.Kernel.main_arg15 (by decide), h Cert.Kernel.main_arg16 (by decide), h Cert.Kernel.main_arg17 (by decide), h Cert.Kernel.main_arg18 (by decide), h Cert.Kernel.main_arg19 (by decide)⟩, h.2⟩) (run_kernel m g)

/-- The reference runs, keeps its arguments and is quiescent. -/
theorem quiescent_ri : Cert.quiescent_ReferenceIdeal (hReferenceIdeal := Cert.ReferenceIdeal.Gen.facts) := fun m g _ =>
  (θ_run _ _ _).mono (fun r h => ⟨fun c => by
    have h := (h.1 c).1
    exact ⟨h Cert.ReferenceIdeal.main_arg0 (by decide), h Cert.ReferenceIdeal.main_arg1 (by decide), h Cert.ReferenceIdeal.main_arg2 (by decide), h Cert.ReferenceIdeal.main_arg3 (by decide), h Cert.ReferenceIdeal.main_arg4 (by decide), h Cert.ReferenceIdeal.main_arg5 (by decide), h Cert.ReferenceIdeal.main_arg6 (by decide), h Cert.ReferenceIdeal.main_arg7 (by decide), h Cert.ReferenceIdeal.main_arg8 (by decide), h Cert.ReferenceIdeal.main_arg9 (by decide), h Cert.ReferenceIdeal.main_arg10 (by decide), h Cert.ReferenceIdeal.main_arg11 (by decide), h Cert.ReferenceIdeal.main_arg12 (by decide), h Cert.ReferenceIdeal.main_arg13 (by decide), h Cert.ReferenceIdeal.main_arg14 (by decide), h Cert.ReferenceIdeal.main_arg15 (by decide), h Cert.ReferenceIdeal.main_arg16 (by decide), h Cert.ReferenceIdeal.main_arg17 (by decide), h Cert.ReferenceIdeal.main_arg18 (by decide), h Cert.ReferenceIdeal.main_arg19 (by decide)⟩, h.2⟩) (Cert.ReferenceIdeal.Ref.run_args m g)

/-- The two idealized programs compute the same result. -/
theorem same : Cert.algebraic_KernelIdeal_ReferenceIdeal (hKernelIdeal := Cert.KernelIdeal.Gen.facts) (hReferenceIdeal := Cert.ReferenceIdeal.Gen.facts) := fun m g m' g' _ hargs =>
  ⟨fun c => Cert.KernelIdeal.Run.W7 m c (Proc.devRef .tc Cert.KernelIdeal.main_v61),
    (θ_run _ _ _).mono (fun r h c => ⟨(h.1 c).2, by
      have h := (h.1 c).1
      exact ⟨h Cert.KernelIdeal.main_arg0 (by decide), h Cert.KernelIdeal.main_arg1 (by decide), h Cert.KernelIdeal.main_arg2 (by decide), h Cert.KernelIdeal.main_arg3 (by decide), h Cert.KernelIdeal.main_arg4 (by decide), h Cert.KernelIdeal.main_arg5 (by decide), h Cert.KernelIdeal.main_arg6 (by decide), h Cert.KernelIdeal.main_arg7 (by decide), h Cert.KernelIdeal.main_arg8 (by decide), h Cert.KernelIdeal.main_arg9 (by decide), h Cert.KernelIdeal.main_arg10 (by decide), h Cert.KernelIdeal.main_arg11 (by decide), h Cert.KernelIdeal.main_arg12 (by decide), h Cert.KernelIdeal.main_arg13 (by decide), h Cert.KernelIdeal.main_arg14 (by decide), h Cert.KernelIdeal.main_arg15 (by decide), h Cert.KernelIdeal.main_arg16 (by decide), h Cert.KernelIdeal.main_arg17 (by decide), h Cert.KernelIdeal.main_arg18 (by decide), h Cert.KernelIdeal.main_arg19 (by decide)⟩⟩) (Cert.KernelIdeal.Run.run_args m g),
    (θ_run _ _ _).mono (fun r h c => ⟨(h.1 c).2.trans (Cert.Equal.results_eq m m' c (hargs c)), by
      have h := (h.1 c).1
      exact ⟨h Cert.ReferenceIdeal.main_arg0 (by decide), h Cert.ReferenceIdeal.main_arg1 (by decide), h Cert.ReferenceIdeal.main_arg2 (by decide), h Cert.ReferenceIdeal.main_arg3 (by decide), h Cert.ReferenceIdeal.main_arg4 (by decide), h Cert.ReferenceIdeal.main_arg5 (by decide), h Cert.ReferenceIdeal.main_arg6 (by decide), h Cert.ReferenceIdeal.main_arg7 (by decide), h Cert.ReferenceIdeal.main_arg8 (by decide), h Cert.ReferenceIdeal.main_arg9 (by decide), h Cert.ReferenceIdeal.main_arg10 (by decide), h Cert.ReferenceIdeal.main_arg11 (by decide), h Cert.ReferenceIdeal.main_arg12 (by decide), h Cert.ReferenceIdeal.main_arg13 (by decide), h Cert.ReferenceIdeal.main_arg14 (by decide), h Cert.ReferenceIdeal.main_arg15 (by decide), h Cert.ReferenceIdeal.main_arg16 (by decide), h Cert.ReferenceIdeal.main_arg17 (by decide), h Cert.ReferenceIdeal.main_arg18 (by decide), h Cert.ReferenceIdeal.main_arg19 (by decide)⟩⟩) (Cert.ReferenceIdeal.Ref.run_args m' g')⟩

theorem claim : Cert.Claim := ⟨Cert.Kernel.Gen.facts, Cert.KernelIdeal.Gen.facts, Cert.ReferenceIdeal.Gen.facts,
  quiescent_k, quiescent_ki, quiescent_ri, trivial, same⟩

end Cert.Proof

end
